-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13)
      ∧ r.2.mem ((c.tc : Thread Cert.Kernel4.nD Cert.Kernel4.τ).loc Cert.Kernel4.main_arg14) = m ((c.tc : Thread Cert.Kernel4.nD Cert.Kernel4.τ).loc Cert.Kernel4.main_arg14)
      ∧ r.2.mem ((c.tc : Thread Cert.Kernel4.nD Cert.Kernel4.τ).loc Cert.Kernel4.main_arg15) = m ((c.tc : Thread Cert.Kernel4.nD Cert.Kernel4.τ).loc Cert.Kernel4.main_arg15))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
      ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14)
      ∧ r.2.mem ((c.tc : Thread Cert.Reference4Ideal.nD Cert.Reference4Ideal.τ).loc Cert.Reference4Ideal.main_arg15) = m ((c.tc : Thread Cert.Reference4Ideal.nD Cert.Reference4Ideal.τ).loc Cert.Reference4Ideal.main_arg15))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v12)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v39) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v29) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)
      ∧ m' ((c.tc : Thread Cert.Reference4Ideal.nD Cert.Reference4Ideal.τ).loc Cert.Reference4Ideal.main_arg14) = m ((c.tc : Thread Cert.Kernel4Ideal.nD Cert.Kernel4Ideal.τ).loc Cert.Kernel4Ideal.main_arg14)
      ∧ m' ((c.tc : Thread Cert.Reference4Ideal.nD Cert.Reference4Ideal.τ).loc Cert.Reference4Ideal.main_arg15) = m ((c.tc : Thread Cert.Kernel4Ideal.nD Cert.Kernel4Ideal.τ).loc Cert.Kernel4Ideal.main_arg15)) →
    ∃ (v0 : (c : Dev Cert.Kernel4Ideal.nD) → Buf (Elt Ideal) ((c.tc : Thread Cert.Kernel4Ideal.nD Cert.Kernel4Ideal.τ).loc Cert.Kernel4Ideal.main_v30_0)) (v1 : (c : Dev Cert.Kernel4Ideal.nD) → Buf (Elt Ideal) ((c.tc : Thread Cert.Kernel4Ideal.nD Cert.Kernel4Ideal.τ).loc Cert.Kernel4Ideal.main_v30_1)) (v2 : (c : Dev Cert.Kernel4Ideal.nD) → Buf (Elt Ideal) ((c.tc : Thread Cert.Kernel4Ideal.nD Cert.Kernel4Ideal.τ).loc Cert.Kernel4Ideal.main_v30_2)) (v3 : (c : Dev Cert.Kernel4Ideal.nD) → Buf (Elt Ideal) ((c.tc : Thread Cert.Kernel4Ideal.nD Cert.Kernel4Ideal.τ).loc Cert.Kernel4Ideal.main_v30_3)) (v4 : (c : Dev Cert.Kernel4Ideal.nD) → Buf (Elt Ideal) ((c.tc : Thread Cert.Kernel4Ideal.nD Cert.Kernel4Ideal.τ).loc Cert.Kernel4Ideal.main_v30_4)) (v5 : (c : Dev Cert.Kernel4Ideal.nD) → Buf (Elt Ideal) ((c.tc : Thread Cert.Kernel4Ideal.nD Cert.Kernel4Ideal.τ).loc Cert.Kernel4Ideal.main_v30_5)) (v6 : (c : Dev Cert.Kernel4Ideal.nD) → Buf (Elt Ideal) ((c.tc : Thread Cert.Kernel4Ideal.nD Cert.Kernel4Ideal.τ).loc Cert.Kernel4Ideal.main_v30_6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v30_0) = v0 c
          ∧ r.2.mem ((c.tc : Thread Cert.Kernel4Ideal.nD Cert.Kernel4Ideal.τ).loc Cert.Kernel4Ideal.main_v30_1) = v1 c
          ∧ r.2.mem ((c.tc : Thread Cert.Kernel4Ideal.nD Cert.Kernel4Ideal.τ).loc Cert.Kernel4Ideal.main_v30_2) = v2 c
          ∧ r.2.mem ((c.tc : Thread Cert.Kernel4Ideal.nD Cert.Kernel4Ideal.τ).loc Cert.Kernel4Ideal.main_v30_3) = v3 c
          ∧ r.2.mem ((c.tc : Thread Cert.Kernel4Ideal.nD Cert.Kernel4Ideal.τ).loc Cert.Kernel4Ideal.main_v30_4) = v4 c
          ∧ r.2.mem ((c.tc : Thread Cert.Kernel4Ideal.nD Cert.Kernel4Ideal.τ).loc Cert.Kernel4Ideal.main_v30_5) = v5 c
          ∧ r.2.mem ((c.tc : Thread Cert.Kernel4Ideal.nD Cert.Kernel4Ideal.τ).loc Cert.Kernel4Ideal.main_v30_6) = v6 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
          ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
          ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v52) = v0 c
          ∧ r.2.mem ((c.tc : Thread Cert.Reference4Ideal.nD Cert.Reference4Ideal.τ).loc Cert.Reference4Ideal.main_v107) = v1 c
          ∧ r.2.mem ((c.tc : Thread Cert.Reference4Ideal.nD Cert.Reference4Ideal.τ).loc Cert.Reference4Ideal.main_v105) = v2 c
          ∧ r.2.mem ((c.tc : Thread Cert.Reference4Ideal.nD Cert.Reference4Ideal.τ).loc Cert.Reference4Ideal.main_v54) = v3 c
          ∧ r.2.mem ((c.tc : Thread Cert.Reference4Ideal.nD Cert.Reference4Ideal.τ).loc Cert.Reference4Ideal.main_v108) = v4 c
          ∧ r.2.mem ((c.tc : Thread Cert.Reference4Ideal.nD Cert.Reference4Ideal.τ).loc Cert.Reference4Ideal.main_v109) = v5 c
          ∧ r.2.mem ((c.tc : Thread Cert.Reference4Ideal.nD Cert.Reference4Ideal.τ).loc Cert.Reference4Ideal.main_v84) = v6 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13)
          ∧ r.2.mem ((c.tc : Thread Cert.Reference4Ideal.nD Cert.Reference4Ideal.τ).loc Cert.Reference4Ideal.main_arg14) = m' ((c.tc : Thread Cert.Reference4Ideal.nD Cert.Reference4Ideal.τ).loc Cert.Reference4Ideal.main_arg14)
          ∧ r.2.mem ((c.tc : Thread Cert.Reference4Ideal.nD Cert.Reference4Ideal.τ).loc Cert.Reference4Ideal.main_arg15) = m' ((c.tc : Thread Cert.Reference4Ideal.nD Cert.Reference4Ideal.τ).loc Cert.Reference4Ideal.main_arg15))

def preserves_Kernel5_Kernel5Ideal : Prop :=
  IdealRules.named_const.Statement Cert.Kernel5Ideal.κ "scale" .f32 0x3E16C740#32 (((Real.log 2)⁻¹ * (Real.sqrt 96)⁻¹ : ℝ) : EReal)

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v50_0)) (v1 : (c : Dev Cert.Kernel5Ideal.nD) → Buf (Elt Ideal) ((c.tc : Thread Cert.Kernel5Ideal.nD Cert.Kernel5Ideal.τ).loc Cert.Kernel5Ideal.main_v50_1)) (v2 : (c : Dev Cert.Kernel5Ideal.nD) → Buf (Elt Ideal) ((c.tc : Thread Cert.Kernel5Ideal.nD Cert.Kernel5Ideal.τ).loc Cert.Kernel5Ideal.main_v50_2)) (v3 : (c : Dev Cert.Kernel5Ideal.nD) → Buf (Elt Ideal) ((c.tc : Thread Cert.Kernel5Ideal.nD Cert.Kernel5Ideal.τ).loc Cert.Kernel5Ideal.main_v50_3)) (v4 : (c : Dev Cert.Kernel5Ideal.nD) → Buf (Elt Ideal) ((c.tc : Thread Cert.Kernel5Ideal.nD Cert.Kernel5Ideal.τ).loc Cert.Kernel5Ideal.main_v50_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v50_0) = v0 c
          ∧ r.2.mem ((c.tc : Thread Cert.Kernel5Ideal.nD Cert.Kernel5Ideal.τ).loc Cert.Kernel5Ideal.main_v50_1) = v1 c
          ∧ r.2.mem ((c.tc : Thread Cert.Kernel5Ideal.nD Cert.Kernel5Ideal.τ).loc Cert.Kernel5Ideal.main_v50_2) = v2 c
          ∧ r.2.mem ((c.tc : Thread Cert.Kernel5Ideal.nD Cert.Kernel5Ideal.τ).loc Cert.Kernel5Ideal.main_v50_3) = v3 c
          ∧ r.2.mem ((c.tc : Thread Cert.Kernel5Ideal.nD Cert.Kernel5Ideal.τ).loc Cert.Kernel5Ideal.main_v50_4) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v88) = v0 c
          ∧ r.2.mem ((c.tc : Thread Cert.Reference5Ideal.nD Cert.Reference5Ideal.τ).loc Cert.Reference5Ideal.main_v90) = v1 c
          ∧ r.2.mem ((c.tc : Thread Cert.Reference5Ideal.nD Cert.Reference5Ideal.τ).loc Cert.Reference5Ideal.main_v92) = v2 c
          ∧ r.2.mem ((c.tc : Thread Cert.Reference5Ideal.nD Cert.Reference5Ideal.τ).loc Cert.Reference5Ideal.main_v94) = v3 c
          ∧ r.2.mem ((c.tc : Thread Cert.Reference5Ideal.nD Cert.Reference5Ideal.τ).loc Cert.Reference5Ideal.main_v96) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S8x2048x16x64 : Shape := ⟨4, ![8, 2048, 16, 64]⟩
abbrev S8x2048x16x32 : Shape := ⟨4, ![8, 2048, 16, 32]⟩
abbrev S8x2048x32 : Shape := ⟨3, ![8, 2048, 32]⟩
abbrev S_ : Shape := ⟨0, ![]⟩

class Facts : Prop where
  bcast_S_S8x2048x16x64 : S_.BroadcastsInDim S8x2048x16x64 (![] : Fin 0 → Fin S8x2048x16x64.rank)
  reducesTo_S8x2048x16x64_S_d0_1_2_3 : S8x2048x16x64.ReducesTo [0, 1, 2, 3] S_
  h_S_ : 0 < S_.numel
  bcast_S_S8x2048x16x32 : S_.BroadcastsInDim S8x2048x16x32 (![] : Fin 0 → Fin S8x2048x16x32.rank)
  reducesTo_S8x2048x16x32_S_d0_1_2_3 : S8x2048x16x32.ReducesTo [0, 1, 2, 3] S_
  bcast_S_S8x2048x32 : S_.BroadcastsInDim S8x2048x32 (![] : Fin 0 → Fin S8x2048x32.rank)
  reducesTo_S8x2048x32_S_d0_1_2 : S8x2048x32.ReducesTo [0, 1, 2] S_

variable [Facts]

def fn_part1 {F : FTy → Type} [FloatOps F] (main_v13 : IVec S_ 1) (main_v16 : IVec S8x2048x32 1) : IVec S_ 1 :=
  let main_c_5 : IVec S_ 1 := constantI S_ 1 1#1
  let main_v17 : IVec S_ 1 := (fun x v => Host.reduce IntOp.andi x v reducesTo_S8x2048x32_S_d0_1_2 h_S_) main_v16 main_c_5
  let main_v18 : IVec S_ 1 := andi main_v13 main_v17
  main_v18

def fn {F : FTy → Type} [FloatOps F] (main_arg0 : FVec F S8x2048x16x64 .f32) (main_arg1 : FVec F S8x2048x16x32 .f32) (main_arg2 : FVec F S8x2048x16x64 .f32) (main_arg3 : FVec F S8x2048x32 .f32) (main_arg4 : FVec F S8x2048x16x64 .f32) : IVec S_ 1 :=
  let main_v0 : FVec F S8x2048x16x64 .f32 := Host.absf main_arg0
  let main_cst : FVec F S_ .f32 := constant S_ .f32 0x7F800000#32
  let main_v1 : FVec F S8x2048x16x64 .f32 := broadcastInDim S8x2048x16x64 ![] bcast_S_S8x2048x16x64 main_cst
  let main_v2 : IVec S8x2048x16x64 1 := cmpf .olt main_v0 main_v1
  let main_c : IVec S_ 1 := constantI S_ 1 1#1
  let main_v3 : IVec S_ 1 := (fun x v => Host.reduce IntOp.andi x v reducesTo_S8x2048x16x64_S_d0_1_2_3 h_S_) main_v2 main_c
  let main_v4 : FVec F S8x2048x16x32 .f32 := Host.absf main_arg1
  let main_cst_0 : FVec F S_ .f32 := constant S_ .f32 0x7F800000#32
  let main_v5 : FVec F S8x2048x16x32 .f32 := broadcastInDim S8x2048x16x32 ![] bcast_S_S8x2048x16x32 main_cst_0
  let main_v6 : IVec S8x2048x16x32 1 := cmpf .olt main_v4 main_v5
  let main_c_1 : IVec S_ 1 := constantI S_ 1 1#1
  let main_v7 : IVec S_ 1 := (fun x v => Host.reduce IntOp.andi x v reducesTo_S8x2048x16x32_S_d0_1_2_3 h_S_) main_v6 main_c_1
  let main_v8 : IVec S_ 1 := andi main_v3 main_v7
  let main_v9 : FVec F S8x2048x16x64 .f32 := Host.absf main_arg2
  let main_cst_2 : FVec F S_ .f32 := constant S_ .f32 0x7F800000#32
  let main_v10 : FVec F S8x2048x16x64 .f32 := broadcastInDim S8x2048x16x64 ![] bcast_S_S8x2048x16x64 main_cst_2
  let main_v11 : IVec S8x2048x16x64 1 := cmpf .olt main_v9 main_v10
  let main_c_3 : IVec S_ 1 := constantI S_ 1 1#1
  let main_v12 : IVec S_ 1 := (fun x v => Host.reduce IntOp.andi x v reducesTo_S8x2048x16x64_S_d0_1_2_3 h_S_) main_v11 main_c_3
  let main_v13 : IVec S_ 1 := andi main_v8 main_v12
  let main_v14 : FVec F S8x2048x32 .f32 := Host.absf main_arg3
  let main_cst_4 : FVec F S_ .f32 := constant S_ .f32 0x7F800000#32
  let main_v15 : FVec F S8x2048x32 .f32 := broadcastInDim S8x2048x32 ![] bcast_S_S8x2048x32 main_cst_4
  let main_v16 : IVec S8x2048x32 1 := cmpf .olt main_v14 main_v15
  fn_part1 (F := F) main_v13 main_v16
-- ==== Kernel.lean ====
abbrev S8x2048x16x64 : Shape := ⟨4, ![8, 2048, 16, 64]⟩
abbrev S8x2048x16x32 : Shape := ⟨4, ![8, 2048, 16, 32]⟩
abbrev S8x2048x32 : Shape := ⟨3, ![8, 2048, 32]⟩
abbrev S_ : Shape := ⟨0, ![]⟩
abbrev S8x2048x1024 : Shape := ⟨3, ![8, 2048, 1024]⟩
abbrev S8x2048x8x64 : Shape := ⟨4, ![8, 2048, 8, 64]⟩
abbrev S8x2048x8x128 : Shape := ⟨4, ![8, 2048, 8, 128]⟩
abbrev S8x2048x64 : Shape := ⟨3, ![8, 2048, 64]⟩
abbrev S8x2048x128 : Shape := ⟨3, ![8, 2048, 128]⟩
abbrev S1x2048x128 : Shape := ⟨3, ![1, 2048, 128]⟩
abbrev S1x256 : Shape := ⟨2, ![1, 256]⟩
abbrev S256x128 : Shape := ⟨2, ![256, 128]⟩
abbrev S1x128 : Shape := ⟨2, ![1, 128]⟩
abbrev S1x128x128 : Shape := ⟨3, ![1, 128, 128]⟩
abbrev S128x128 : Shape := ⟨2, ![128, 128]⟩
abbrev S128x256 : Shape := ⟨2, ![128, 256]⟩
abbrev S256x256 : Shape := ⟨2, ![256, 256]⟩
abbrev S1x256x128 : Shape := ⟨3, ![1, 256, 128]⟩
abbrev S256 : Shape := ⟨1, ![256]⟩
abbrev S256x1 : Shape := ⟨2, ![256, 1]⟩
abbrev S1x384x128 : Shape := ⟨3, ![1, 384, 128]⟩
abbrev S384x128 : Shape := ⟨2, ![384, 128]⟩
abbrev S384x256 : Shape := ⟨2, ![384, 256]⟩
abbrev S256x384 : Shape := ⟨2, ![256, 384]⟩
abbrev S1x512x128 : Shape := ⟨3, ![1, 512, 128]⟩
abbrev S512x128 : Shape := ⟨2, ![512, 128]⟩
abbrev S512x256 : Shape := ⟨2, ![512, 256]⟩
abbrev S256x512 : Shape := ⟨2, ![256, 512]⟩
abbrev S1x640x128 : Shape := ⟨3, ![1, 640, 128]⟩
abbrev S640x128 : Shape := ⟨2, ![640, 128]⟩
abbrev S640x256 : Shape := ⟨2, ![640, 256]⟩
abbrev S256x640 : Shape := ⟨2, ![256, 640]⟩
abbrev S1x768x128 : Shape := ⟨3, ![1, 768, 128]⟩
abbrev S768x128 : Shape := ⟨2, ![768, 128]⟩
abbrev S768x256 : Shape := ⟨2, ![768, 256]⟩
abbrev S256x768 : Shape := ⟨2, ![256, 768]⟩
abbrev S1x896x128 : Shape := ⟨3, ![1, 896, 128]⟩
abbrev S896x128 : Shape := ⟨2, ![896, 128]⟩
abbrev S896x256 : Shape := ⟨2, ![896, 256]⟩
abbrev S256x896 : Shape := ⟨2, ![256, 896]⟩
abbrev S1x1024x128 : Shape := ⟨3, ![1, 1024, 128]⟩
abbrev S1024x128 : Shape := ⟨2, ![1024, 128]⟩
abbrev S1024x256 : Shape := ⟨2, ![1024, 256]⟩
abbrev S256x1024 : Shape := ⟨2, ![256, 1024]⟩
abbrev S1x1152x128 : Shape := ⟨3, ![1, 1152, 128]⟩
abbrev S1152x128 : Shape := ⟨2, ![1152, 128]⟩
abbrev S1152x256 : Shape := ⟨2, ![1152, 256]⟩
abbrev S256x1152 : Shape := ⟨2, ![256, 1152]⟩
abbrev S1x1280x128 : Shape := ⟨3, ![1, 1280, 128]⟩
abbrev S1280x128 : Shape := ⟨2, ![1280, 128]⟩
abbrev S1280x256 : Shape := ⟨2, ![1280, 256]⟩
abbrev S256x1280 : Shape := ⟨2, ![256, 1280]⟩
abbrev S1x1408x128 : Shape := ⟨3, ![1, 1408, 128]⟩
abbrev S1408x128 : Shape := ⟨2, ![1408, 128]⟩
abbrev S1408x256 : Shape := ⟨2, ![1408, 256]⟩
abbrev S256x1408 : Shape := ⟨2, ![256, 1408]⟩
abbrev S1x1536x128 : Shape := ⟨3, ![1, 1536, 128]⟩
abbrev S1536x128 : Shape := ⟨2, ![1536, 128]⟩
abbrev S1536x256 : Shape := ⟨2, ![1536, 256]⟩
abbrev S256x1536 : Shape := ⟨2, ![256, 1536]⟩
abbrev S1x1664x128 : Shape := ⟨3, ![1, 1664, 128]⟩
abbrev S1664x128 : Shape := ⟨2, ![1664, 128]⟩
abbrev S1664x256 : Shape := ⟨2, ![1664, 256]⟩
abbrev S256x1664 : Shape := ⟨2, ![256, 1664]⟩
abbrev S1x1792x128 : Shape := ⟨3, ![1, 1792, 128]⟩
abbrev S1792x128 : Shape := ⟨2, ![1792, 128]⟩
abbrev S1792x256 : Shape := ⟨2, ![1792, 256]⟩
abbrev S256x1792 : Shape := ⟨2, ![256, 1792]⟩
abbrev S1x1920x128 : Shape := ⟨3, ![1, 1920, 128]⟩
abbrev S1920x128 : Shape := ⟨2, ![1920, 128]⟩
abbrev S1920x256 : Shape := ⟨2, ![1920, 256]⟩
abbrev S256x1920 : Shape := ⟨2, ![256, 1920]⟩
abbrev S2048x128 : Shape := ⟨2, ![2048, 128]⟩
abbrev S2048x256 : Shape := ⟨2, ![2048, 256]⟩
abbrev S256x2048 : Shape := ⟨2, ![256, 2048]⟩

abbrev nBuf : Space → Nat
  | .hbm => 33
  | .vmem => 12
  | .smem => 0
  | _ => 0

abbrev bufTy : (tb : Table) → Fin (tcTables nBuf tb) → BufTy
  | .hbm, ⟨0, _⟩ => ⟨S8x2048x16x64, .f32⟩
  | .hbm, ⟨1, _⟩ => ⟨S8x2048x16x32, .f32⟩
  | .hbm, ⟨2, _⟩ => ⟨S8x2048x16x64, .f32⟩
  | .hbm, ⟨3, _⟩ => ⟨S8x2048x32, .f32⟩
  | .hbm, ⟨4, _⟩ => ⟨S8x2048x16x64, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S8x2048x16x64, .f32⟩
  | .hbm, ⟨13, _⟩ => ⟨S8x2048x16x64, .f32⟩
  | .hbm, ⟨14, _⟩ => ⟨S8x2048x16x64, .bf16⟩
  | .hbm, ⟨15, _⟩ => ⟨S8x2048x1024, .bf16⟩
  | .hbm, ⟨16, _⟩ => ⟨S8x2048x16x32, .f32⟩
  | .hbm, ⟨17, _⟩ => ⟨S8x2048x16x32, .f32⟩
  | .hbm, ⟨18, _⟩ => ⟨S8x2048x16x32, .bf16⟩
  | .hbm, ⟨19, _⟩ => ⟨S8x2048x8x64, .bf16⟩
  | .hbm, ⟨20, _⟩ => ⟨S_, .bf16⟩
  | .hbm, ⟨21, _⟩ => ⟨S8x2048x8x64, .bf16⟩
  | .hbm, ⟨22, _⟩ => ⟨S8x2048x8x128, .bf16⟩
  | .hbm, ⟨23, _⟩ => ⟨S8x2048x1024, .bf16⟩
  | .hbm, ⟨24, _⟩ => ⟨S8x2048x16x64, .bf16⟩
  | .hbm, ⟨25, _⟩ => ⟨S8x2048x1024, .bf16⟩
  | .hbm, ⟨26, _⟩ => ⟨S8x2048x32, .bf16⟩
  | .hbm, ⟨27, _⟩ => ⟨S_, .bf16⟩
  | .hbm, ⟨28, _⟩ => ⟨S8x2048x64, .bf16⟩
  | .hbm, ⟨29, _⟩ => ⟨S8x2048x128, .bf16⟩
  | .hbm, ⟨30, _⟩ => ⟨S8x2048x16x64, .bf16⟩
  | .hbm, ⟨31, _⟩ => ⟨S8x2048x1024, .bf16⟩
  | .hbm, ⟨32, _⟩ => ⟨S8x2048x1024, .bf16⟩
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .bf16⟩
  | .local _ .vmem, ⟨7, _⟩ => ⟨S1x2048x128, .bf16⟩
  | .local _ .vmem, ⟨8, _⟩ => ⟨S1x2048x128, .bf16⟩
  | .local _ .vmem, ⟨9, _⟩ => ⟨S1x2048x128, .bf16⟩
  | .local _ .vmem, ⟨10, _⟩ => ⟨S1x2048x128, .bf16⟩
  | .local _ .vmem, ⟨11, _⟩ => ⟨S1x2048x128, .bf16⟩
  | _, _ => ⟨S8x2048x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8x2048x16x64 : Shape := ⟨4, ![8, 2048, 16, 64]⟩
abbrev S8x2048x16x32 : Shape := ⟨4, ![8, 2048, 16, 32]⟩
abbrev S8x2048x32 : Shape := ⟨3, ![8, 2048, 32]⟩
abbrev S8x16x2048x2048 : Shape := ⟨4, ![8, 16, 2048, 2048]⟩
abbrev S8x2048x2048x16 : Shape := ⟨4, ![8, 2048, 2048, 16]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x16x2048 : Shape := ⟨3, ![8, 16, 2048]⟩
abbrev S8x16x2048x1 : Shape := ⟨4, ![8, 16, 2048, 1]⟩
abbrev S8x16x64x2048 : Shape := ⟨4, ![8, 16, 64, 2048]⟩
abbrev S8x2048x1024 : Shape := ⟨3, ![8, 2048, 1024]⟩

abbrev nBuf : Space → Nat
  | .hbm => 42
  | .vmem => 0
  | .smem => 0
  | _ => 0

abbrev bufTy : (tb : Table) → Fin (tcTables nBuf tb) → BufTy
  | .hbm, ⟨0, _⟩ => ⟨S8x2048x16x64, .f32⟩
  | .hbm, ⟨1, _⟩ => ⟨S8x2048x16x32, .f32⟩
  | .hbm, ⟨2, _⟩ => ⟨S8x2048x16x64, .f32⟩
  | .hbm, ⟨3, _⟩ => ⟨S8x2048x32, .f32⟩
  | .hbm, ⟨4, _⟩ => ⟨S8x2048x16x64, .f32⟩
  | .hbm, ⟨5, _⟩ => ⟨S8x16x2048x2048, .f32⟩
  | .hbm, ⟨6, _⟩ => ⟨S8x2048x2048x16, .f32⟩
  | .hbm, ⟨7, _⟩ => ⟨S8x16x2048x2048, .f32⟩
  | .hbm, ⟨8, _⟩ => ⟨S8x16x2048x2048, .f32⟩
  | .hbm, ⟨9, _⟩ => ⟨S_, .f32⟩
  | .hbm, ⟨10, _⟩ => ⟨S_, .f32⟩
  | .hbm, ⟨11, _⟩ => ⟨S8x16x2048x2048, .f32⟩
  | .hbm, ⟨12, _⟩ => ⟨S8x16x2048x2048, .f32⟩
  | .hbm, ⟨13, _⟩ => ⟨S2048, .i32⟩
  | .hbm, ⟨14, _⟩ => ⟨S1x2048, .i32⟩
  | .hbm, ⟨15, _⟩ => ⟨S2048x1, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S_, .f32⟩
  | .hbm, ⟨20, _⟩ => ⟨S_, .f32⟩
  | .hbm, ⟨21, _⟩ => ⟨S8x16x2048x2048, .i1⟩
  | .hbm, ⟨22, _⟩ => ⟨S8x16x2048x2048, .f32⟩
  | .hbm, ⟨23, _⟩ => ⟨S8x16x2048x2048, .f32⟩
  | .hbm, ⟨24, _⟩ => ⟨S_, .f32⟩
  | .hbm, ⟨25, _⟩ => ⟨S8x16x2048, .f32⟩
  | .hbm, ⟨26, _⟩ => ⟨S_, .f32⟩
  | .hbm, ⟨27, _⟩ => ⟨S8x16x2048, .f32⟩
  | .hbm, ⟨28, _⟩ => ⟨S8x16x2048, .f32⟩
  | .hbm, ⟨29, _⟩ => ⟨S8x16x2048x1, .f32⟩
  | .hbm, ⟨30, _⟩ => ⟨S8x16x2048x2048, .f32⟩
  | .hbm, ⟨31, _⟩ => ⟨S8x16x2048x2048, .f32⟩
  | .hbm, ⟨32, _⟩ => ⟨S8x16x2048x2048, .f32⟩
  | .hbm, ⟨33, _⟩ => ⟨S_, .f32⟩
  | .hbm, ⟨34, _⟩ => ⟨S8x16x2048, .f32⟩
  | .hbm, ⟨35, _⟩ => ⟨S8x16x2048x1, .f32⟩
  | .hbm, ⟨36, _⟩ => ⟨S8x16x2048x2048, .f32⟩
  | .hbm, ⟨37, _⟩ => ⟨S8x16x2048x2048, .f32⟩
  | .hbm, ⟨38, _⟩ => ⟨S8x16x64x2048, .f32⟩
  | .hbm, ⟨39, _⟩ => ⟨S8x2048x16x64, .f32⟩
  | .hbm, ⟨40, _⟩ => ⟨S8x2048x1024, .f32⟩
  | .hbm, ⟨41, _⟩ => ⟨S8x2048x1024, .bf16⟩
  | _, _ => ⟨S8x2048x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]
-- ==== Kernel2.lean ====
abbrev S8x2048x1024 : Shape := ⟨3, ![8, 2048, 1024]⟩
abbrev S1024x1024 : Shape := ⟨2, ![1024, 1024]⟩
abbrev S4x1024 : Shape := ⟨2, ![4, 1024]⟩
abbrev S4x1024x4096 : Shape := ⟨3, ![4, 1024, 4096]⟩
abbrev S4x4096x1024 : Shape := ⟨3, ![4, 4096, 1024]⟩
abbrev S1024 : Shape := ⟨1, ![1024]⟩
abbrev S16384x1024 : Shape := ⟨2, ![16384, 1024]⟩
abbrev S_ : Shape := ⟨0, ![]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024x4096 : Shape := ⟨2, ![1024, 4096]⟩
abbrev S1024x1 : Shape := ⟨2, ![1024, 1]⟩
abbrev S1x1024x1024 : Shape := ⟨3, ![1, 1024, 1024]⟩
abbrev S4096x1024 : Shape := ⟨2, ![4096, 1024]⟩

abbrev nBuf : Space → Nat
  | .hbm => 21
  | .vmem => 13
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S1024x1024, .f32⟩
  | .hbm, ⟨3, _⟩ => ⟨S4x1024, .f32⟩
  | .hbm, ⟨4, _⟩ => ⟨S4x1024x4096, .f32⟩
  | .hbm, ⟨5, _⟩ => ⟨S4x4096x1024, .f32⟩
  | .hbm, ⟨6, _⟩ => ⟨S1024, .f32⟩
  | .hbm, ⟨7, _⟩ => ⟨S16384x1024, .f32⟩
  | .hbm, ⟨8, _⟩ => ⟨S8x2048x1024, .bf16⟩
  | .hbm, ⟨9, _⟩ => ⟨S16384x1024, .bf16⟩
  | .hbm, ⟨10, _⟩ => ⟨S1024x1024, .bf16⟩
  | .hbm, ⟨11, _⟩ => ⟨S_, .f32⟩
  | .hbm, ⟨12, _⟩ => ⟨S1024, .f32⟩
  | .hbm, ⟨13, _⟩ => ⟨S1x1024, .f32⟩
  | .hbm, ⟨14, _⟩ => ⟨S1024, .f32⟩
  | .hbm, ⟨15, _⟩ => ⟨S4x1024x4096, .bf16⟩
  | .hbm, ⟨16, _⟩ => ⟨S4x4096x1024, .bf16⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1x1024x4096, .bf16⟩
  | .local _ .vmem, ⟨8, _⟩ => ⟨S1x4096x1024, .bf16⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x4096, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S8x2048x1024 : Shape := ⟨3, ![8, 2048, 1024]⟩
abbrev S1024x1024 : Shape := ⟨2, ![1024, 1024]⟩
abbrev S4x1024 : Shape := ⟨2, ![4, 1024]⟩
abbrev S4x1024x4096 : Shape := ⟨3, ![4, 1024, 4096]⟩
abbrev S4x4096x1024 : Shape := ⟨3, ![4, 4096, 1024]⟩
abbrev S1024 : Shape := ⟨1, ![1024]⟩
abbrev S1x1024 : Shape := ⟨2, ![1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S8x2048x4096 : Shape := ⟨3, ![8, 2048, 4096]⟩
abbrev S1x4096x1024 : Shape := ⟨3, ![1, 4096, 1024]⟩
abbrev S4096x1024 : Shape := ⟨2, ![4096, 1024]⟩
abbrev S16384x1024 : Shape := ⟨2, ![16384, 1024]⟩

abbrev nBuf : Space → Nat
  | .hbm => 55
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S1024x1024, .f32⟩
  | .hbm, ⟨3, _⟩ => ⟨S4x1024, .f32⟩
  | .hbm, ⟨4, _⟩ => ⟨S4x1024x4096, .f32⟩
  | .hbm, ⟨5, _⟩ => ⟨S4x4096x1024, .f32⟩
  | .hbm, ⟨6, _⟩ => ⟨S1024, .f32⟩
  | .hbm, ⟨7, _⟩ => ⟨S8x2048x1024, .f32⟩
  | .hbm, ⟨8, _⟩ => ⟨S8x2048x1024, .f32⟩
  | .hbm, ⟨9, _⟩ => ⟨S1x1024, .f32⟩
  | .hbm, ⟨10, _⟩ => ⟨S1024, .f32⟩
  | .hbm, ⟨11, _⟩ => ⟨S8x2048x1024, .f32⟩
  | .hbm, ⟨12, _⟩ => ⟨S_, .f32⟩
  | .hbm, ⟨13, _⟩ => ⟨S8x2048, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S_, .f32⟩
  | .hbm, ⟨19, _⟩ => ⟨S8x2048x1, .f32⟩
  | .hbm, ⟨20, _⟩ => ⟨S8x2048x1, .f32⟩
  | .hbm, ⟨21, _⟩ => ⟨S8x2048x1, .f32⟩
  | .hbm, ⟨22, _⟩ => ⟨S8x2048x1024, .f32⟩
  | .hbm, ⟨23, _⟩ => ⟨S8x2048x1024, .f32⟩
  | .hbm, ⟨24, _⟩ => ⟨S1x1x1024, .f32⟩
  | .hbm, ⟨25, _⟩ => ⟨S8x2048x1024, .f32⟩
  | .hbm, ⟨26, _⟩ => ⟨S8x2048x1024, .f32⟩
  | .hbm, ⟨27, _⟩ => ⟨S1x1024x4096, .f32⟩
  | .hbm, ⟨28, _⟩ => ⟨S1024x4096, .f32⟩
  | .hbm, ⟨29, _⟩ => ⟨S8x2048x4096, .f32⟩
  | .hbm, ⟨30, _⟩ => ⟨S_, .f32⟩
  | .hbm, ⟨31, _⟩ => ⟨S8x2048x4096, .f32⟩
  | .hbm, ⟨32, _⟩ => ⟨S8x2048x4096, .f32⟩
  | .hbm, ⟨33, _⟩ => ⟨S8x2048x4096, .f32⟩
  | .hbm, ⟨34, _⟩ => ⟨S1x4096x1024, .f32⟩
  | .hbm, ⟨35, _⟩ => ⟨S4096x1024, .f32⟩
  | .hbm, ⟨36, _⟩ => ⟨S8x2048x1024, .f32⟩
  | .hbm, ⟨37, _⟩ => ⟨S8x2048x1024, .f32⟩
  | .hbm, ⟨38, _⟩ => ⟨S8x2048x1024, .f32⟩
  | .hbm, ⟨39, _⟩ => ⟨S_, .f32⟩
  | .hbm, ⟨40, _⟩ => ⟨S8x2048, .f32⟩
  | .hbm, ⟨41, _⟩ => ⟨S8x2048x1, .f32⟩
  | .hbm, ⟨42, _⟩ => ⟨S_, .f32⟩
  | .hbm, ⟨43, _⟩ => ⟨S8x2048x1, .f32⟩
  | .hbm, ⟨44, _⟩ => ⟨S8x2048x1, .f32⟩
  | .hbm, ⟨45, _⟩ => ⟨S_, .f32⟩
  | .hbm, ⟨46, _⟩ => ⟨S8x2048x1, .f32⟩
  | .hbm, ⟨47, _⟩ => ⟨S8x2048x1, .f32⟩
  | .hbm, ⟨48, _⟩ => ⟨S8x2048x1, .f32⟩
  | .hbm, ⟨49, _⟩ => ⟨S8x2048x1024, .f32⟩
  | .hbm, ⟨50, _⟩ => ⟨S8x2048x1024, .f32⟩
  | .hbm, ⟨51, _⟩ => ⟨S1x1x1024, .f32⟩
  | .hbm, ⟨52, _⟩ => ⟨S8x2048x1024, .f32⟩
  | .hbm, ⟨53, _⟩ => ⟨S8x2048x1024, .f32⟩
  | .hbm, ⟨54, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_call0_cst : Ref sig .tc := ⟨.hbm, 30, rfl⟩
abbrev main_call0_v0 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_2 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩

abbrev nD : Nat := 1
abbrev τ : Topo := Topo.v7x

variable {F : FTy → Type} [FloatOps F]
-- ==== Kernel3.lean ====
abbrev S8x2048x1024 : Shape := ⟨3, ![8, 2048, 1024]⟩
abbrev S1024x1024 : Shape := ⟨2, ![1024, 1024]⟩
abbrev S1024 : Shape := ⟨1, ![1024]⟩
abbrev S4x1024 : Shape := ⟨2, ![4, 1024]⟩
abbrev S4x1024x4096 : Shape := ⟨3, ![4, 1024, 4096]⟩
abbrev S4x4096x1024 : Shape := ⟨3, ![4, 4096, 1024]⟩
abbrev S16384x1024 : Shape := ⟨2, ![16384, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024x4096 : Shape := ⟨2, ![1024, 4096]⟩
abbrev S1024x1 : Shape := ⟨2, ![1024, 1]⟩
abbrev S1x1024x1024 : Shape := ⟨3, ![1, 1024, 1024]⟩
abbrev S4096x1024 : Shape := ⟨2, ![4096, 1024]⟩

abbrev nBuf : Space → Nat
  | .hbm => 20
  | .vmem => 13
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S1024x1024, .f32⟩
  | .hbm, ⟨3, _⟩ => ⟨S1024, .f32⟩
  | .hbm, ⟨4, _⟩ => ⟨S4x1024, .f32⟩
  | .hbm, ⟨5, _⟩ => ⟨S4x1024x4096, .f32⟩
  | .hbm, ⟨6, _⟩ => ⟨S4x4096x1024, .f32⟩
  | .hbm, ⟨7, _⟩ => ⟨S1024, .f32⟩
  | .hbm, ⟨8, _⟩ => ⟨S16384x1024, .f32⟩
  | .hbm, ⟨9, _⟩ => ⟨S8x2048x1024, .bf16⟩
  | .hbm, ⟨10, _⟩ => ⟨S16384x1024, .bf16⟩
  | .hbm, ⟨11, _⟩ => ⟨S1024x1024, .bf16⟩
  | .hbm, ⟨12, _⟩ => ⟨S1x1024, .f32⟩
  | .hbm, ⟨13, _⟩ => ⟨S1024, .f32⟩
  | .hbm, ⟨14, _⟩ => ⟨S4x1024x4096, .bf16⟩
  | .hbm, ⟨15, _⟩ => ⟨S4x4096x1024, .bf16⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1x1024x4096, .bf16⟩
  | .local _ .vmem, ⟨8, _⟩ => ⟨S1x4096x1024, .bf16⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x4096, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S8x2048x1024 : Shape := ⟨3, ![8, 2048, 1024]⟩
abbrev S1024x1024 : Shape := ⟨2, ![1024, 1024]⟩
abbrev S1024 : Shape := ⟨1, ![1024]⟩
abbrev S4x1024 : Shape := ⟨2, ![4, 1024]⟩
abbrev S4x1024x4096 : Shape := ⟨3, ![4, 1024, 4096]⟩
abbrev S4x4096x1024 : Shape := ⟨3, ![4, 4096, 1024]⟩
abbrev S1x1x1024 : Shape := ⟨3, ![1, 1, 1024]⟩
abbrev S1x1024 : Shape := ⟨2, ![1, 1024]⟩
abbrev S_ : Shape := ⟨0, ![]⟩
abbrev S8x2048 : Shape := ⟨2, ![8, 2048]⟩
abbrev S8x2048x1 : Shape := ⟨3, ![8, 2048, 1]⟩
abbrev S1x1024x4096 : Shape := ⟨3, ![1, 1024, 4096]⟩
abbrev S1024x4096 : Shape := ⟨2, ![1024, 4096]⟩
abbrev S8x2048x4096 : Shape := ⟨3, ![8, 2048, 4096]⟩
abbrev S1x4096x1024 : Shape := ⟨3, ![1, 4096, 1024]⟩
abbrev S4096x1024 : Shape := ⟨2, ![4096, 1024]⟩
abbrev S16384x1024 : Shape := ⟨2, ![16384, 1024]⟩

abbrev nBuf : Space → Nat
  | .hbm => 43
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S1024x1024, .f32⟩
  | .hbm, ⟨3, _⟩ => ⟨S1024, .f32⟩
  | .hbm, ⟨4, _⟩ => ⟨S4x1024, .f32⟩
  | .hbm, ⟨5, _⟩ => ⟨S4x1024x4096, .f32⟩
  | .hbm, ⟨6, _⟩ => ⟨S4x4096x1024, .f32⟩
  | .hbm, ⟨7, _⟩ => ⟨S1024, .f32⟩
  | .hbm, ⟨8, _⟩ => ⟨S8x2048x1024, .f32⟩
  | .hbm, ⟨9, _⟩ => ⟨S1x1x1024, .f32⟩
  | .hbm, ⟨10, _⟩ => ⟨S8x2048x1024, .f32⟩
  | .hbm, ⟨11, _⟩ => ⟨S8x2048x1024, .f32⟩
  | .hbm, ⟨12, _⟩ => ⟨S8x2048x1024, .f32⟩
  | .hbm, ⟨13, _⟩ => ⟨S1x1024, .f32⟩
  | .hbm, ⟨14, _⟩ => ⟨S1024, .f32⟩
  | .hbm, ⟨15, _⟩ => ⟨S8x2048x1024, .f32⟩
  | .hbm, ⟨16, _⟩ => ⟨S_, .f32⟩
  | .hbm, ⟨17, _⟩ => ⟨S8x2048, .f32⟩
  | .hbm, ⟨18, _⟩ => ⟨S8x2048x1, .f32⟩
  | .hbm, ⟨19, _⟩ => ⟨S_, .f32⟩
  | .hbm, ⟨20, _⟩ => ⟨S8x2048x1, .f32⟩
  | .hbm, ⟨21, _⟩ => ⟨S8x2048x1, .f32⟩
  | .hbm, ⟨22, _⟩ => ⟨S_, .f32⟩
  | .hbm, ⟨23, _⟩ => ⟨S8x2048x1, .f32⟩
  | .hbm, ⟨24, _⟩ => ⟨S8x2048x1, .f32⟩
  | .hbm, ⟨25, _⟩ => ⟨S8x2048x1, .f32⟩
  | .hbm, ⟨26, _⟩ => ⟨S8x2048x1024, .f32⟩
  | .hbm, ⟨27, _⟩ => ⟨S8x2048x1024, .f32⟩
  | .hbm, ⟨28, _⟩ => ⟨S1x1x1024, .f32⟩
  | .hbm, ⟨29, _⟩ => ⟨S8x2048x1024, .f32⟩
  | .hbm, ⟨30, _⟩ => ⟨S8x2048x1024, .f32⟩
  | .hbm, ⟨31, _⟩ => ⟨S1x1024x4096, .f32⟩
  | .hbm, ⟨32, _⟩ => ⟨S1024x4096, .f32⟩
  | .hbm, ⟨33, _⟩ => ⟨S8x2048x4096, .f32⟩
  | .hbm, ⟨34, _⟩ => ⟨S_, .f32⟩
  | .hbm, ⟨35, _⟩ => ⟨S8x2048x4096, .f32⟩
  | .hbm, ⟨36, _⟩ => ⟨S8x2048x4096, .f32⟩
  | .hbm, ⟨37, _⟩ => ⟨S8x2048x4096, .f32⟩
  | .hbm, ⟨38, _⟩ => ⟨S1x4096x1024, .f32⟩
  | .hbm, ⟨39, _⟩ => ⟨S4096x1024, .f32⟩
  | .hbm, ⟨40, _⟩ => ⟨S8x2048x1024, .f32⟩
  | .hbm, ⟨41, _⟩ => ⟨S8x2048x1024, .f32⟩
  | .hbm, ⟨42, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_call0_cst : Ref sig .tc := ⟨.hbm, 34, rfl⟩
abbrev main_call0_v0 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]
-- ==== Kernel4.lean ====
abbrev S8x2048x1024 : Shape := ⟨3, ![8, 2048, 1024]⟩
abbrev S1024 : Shape := ⟨1, ![1024]⟩
abbrev S6x1024 : Shape := ⟨2, ![6, 1024]⟩
abbrev S1024x1024 : Shape := ⟨2, ![1024, 1024]⟩
abbrev S1024x64 : Shape := ⟨2, ![1024, 64]⟩
abbrev S64x1024 : Shape := ⟨2, ![64, 1024]⟩
abbrev S1024x128 : Shape := ⟨2, ![1024, 128]⟩
abbrev S128x1024 : Shape := ⟨2, ![128, 1024]⟩
abbrev S_ : Shape := ⟨0, ![]⟩
abbrev S1x1024 : Shape := ⟨2, ![1, 1024]⟩
abbrev S8x1024 : Shape := ⟨2, ![8, 1024]⟩
abbrev S2x1024 : Shape := ⟨2, ![2, 1024]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x512x1024 : Shape := ⟨3, ![1, 512, 1024]⟩
abbrev S1x8x1024 : Shape := ⟨3, ![1, 8, 1024]⟩
abbrev S8 : Shape := ⟨1, ![8]⟩
abbrev S8x1 : Shape := ⟨2, ![8, 1]⟩
abbrev S512x1024 : Shape := ⟨2, ![512, 1024]⟩
abbrev S512 : Shape := ⟨1, ![512]⟩
abbrev S512x1 : Shape := ⟨2, ![512, 1]⟩
abbrev S512x64 : Shape := ⟨2, ![512, 64]⟩
abbrev S512x128 : Shape := ⟨2, ![512, 128]⟩
abbrev S512x256 : Shape := ⟨2, ![512, 256]⟩

abbrev nBuf : Space → Nat
  | .hbm => 72
  | .vmem => 31
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S6x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024, .f32⟩
  | .hbm, ⟨7, _⟩ => ⟨S1024x64, .f32⟩
  | .hbm, ⟨8, _⟩ => ⟨S64x1024, .f32⟩
  | .hbm, ⟨9, _⟩ => ⟨S1024, .f32⟩
  | .hbm, ⟨10, _⟩ => ⟨S1024x64, .f32⟩
  | .hbm, ⟨11, _⟩ => ⟨S64x1024, .f32⟩
  | .hbm, ⟨12, _⟩ => ⟨S1024x128, .f32⟩
  | .hbm, ⟨13, _⟩ => ⟨S128x1024, .f32⟩
  | .hbm, ⟨14, _⟩ => ⟨S1024, .f32⟩
  | .hbm, ⟨15, _⟩ => ⟨S1024, .f32⟩
  | .hbm, ⟨16, _⟩ => ⟨S_, .f32⟩
  | .hbm, ⟨17, _⟩ => ⟨S1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S8x1024, .f32⟩
  | .hbm, ⟨27, _⟩ => ⟨S_, .f32⟩
  | .hbm, ⟨28, _⟩ => ⟨S2x1024, .f32⟩
  | .hbm, ⟨29, _⟩ => ⟨S8x1024, .f32⟩
  | .hbm, ⟨30, _⟩ => ⟨S1024x1024, .bf16⟩
  | .hbm, ⟨31, _⟩ => ⟨S1024x1024, .bf16⟩
  | .hbm, ⟨32, _⟩ => ⟨S1024x1024, .bf16⟩
  | .hbm, ⟨33, _⟩ => ⟨S1024x64, .bf16⟩
  | .hbm, ⟨34, _⟩ => ⟨S64x1024, .bf16⟩
  | .hbm, ⟨35, _⟩ => ⟨S1024x64, .bf16⟩
  | .hbm, ⟨36, _⟩ => ⟨S64x1024, .bf16⟩
  | .hbm, ⟨37, _⟩ => ⟨S1024x128, .bf16⟩
  | .hbm, ⟨38, _⟩ => ⟨S128x1024, .bf16⟩
  | .hbm, ⟨39, _⟩ => ⟨S1x1024, .f32⟩
  | .hbm, ⟨40, _⟩ => ⟨S256, .i32⟩
  | .hbm, ⟨41, _⟩ => ⟨S_, .i32⟩
  | .hbm, ⟨42, _⟩ => ⟨S_, .i32⟩
  | .hbm, ⟨43, _⟩ => ⟨S256, .i32⟩
  | .hbm, ⟨44, _⟩ => ⟨S256, .i32⟩
  | .hbm, ⟨45, _⟩ => ⟨S256, .i32⟩
  | .hbm, ⟨46, _⟩ => ⟨S_, .i32⟩
  | .hbm, ⟨47, _⟩ => ⟨S256, .i32⟩
  | .hbm, ⟨48, _⟩ => ⟨S256, .i1⟩
  | .hbm, ⟨49, _⟩ => ⟨S256, .i32⟩
  | .hbm, ⟨50, _⟩ => ⟨S256, .i32⟩
  | .hbm, ⟨51, _⟩ => ⟨S_, .i32⟩
  | .hbm, ⟨52, _⟩ => ⟨S256, .i32⟩
  | .hbm, ⟨53, _⟩ => ⟨S256, .i1⟩
  | .hbm, ⟨54, _⟩ => ⟨S256, .i1⟩
  | .hbm, ⟨55, _⟩ => ⟨S_, .i32⟩
  | .hbm, ⟨56, _⟩ => ⟨S256, .i32⟩
  | .hbm, ⟨57, _⟩ => ⟨S256, .i32⟩
  | .hbm, ⟨58, _⟩ => ⟨S256, .i32⟩
  | .hbm, ⟨59, _⟩ => ⟨S256x1, .i32⟩
  | .hbm, ⟨60, _⟩ => ⟨S1x256, .i32⟩
  | .hbm, ⟨61, _⟩ => ⟨S256x256, .i32⟩
  | .hbm, ⟨62, _⟩ => ⟨S256x256, .i32⟩
  | .hbm, ⟨63, _⟩ => ⟨S256x256, .i1⟩
  | .hbm, ⟨64, _⟩ => ⟨S256x256, .bf16⟩
  | .hbm, ⟨65, _⟩ => ⟨S8x2048x1024, .f32⟩
  | .hbm, ⟨66, _⟩ => ⟨S8x2048x1024, .f32⟩
  | .hbm, ⟨67, _⟩ => ⟨S8x2048x1024, .f32⟩
  | .hbm, ⟨68, _⟩ => ⟨S8x2048x1024, .f32⟩
  | .hbm, ⟨69, _⟩ => ⟨S8x2048x1024, .f32⟩
  | .hbm, ⟨70, _⟩ => ⟨S8x2048x1024, .f32⟩
  | .hbm, ⟨71, _⟩ => ⟨S8x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x64, .bf16⟩
  | .local _ .vmem, ⟨11, _⟩ => ⟨S64x1024, .bf16⟩
  | .local _ .vmem, ⟨12, _⟩ => ⟨S1024x64, .bf16⟩
  | .local _ .vmem, ⟨13, _⟩ => ⟨S64x1024, .bf16⟩
  | .local _ .vmem, ⟨14, _⟩ => ⟨S1024x128, .bf16⟩
  | .local _ .vmem, ⟨15, _⟩ => ⟨S128x1024, .bf16⟩
  | .local _ .vmem, ⟨16, _⟩ => ⟨S256x256, .bf16⟩
  | .local _ .vmem, ⟨17, _⟩ => ⟨S1x512x1024, .f32⟩
  | .local _ .vmem, ⟨18, _⟩ => ⟨S1x512x1024, .f32⟩
  | .local _ .vmem, ⟨19, _⟩ => ⟨S1x512x1024, .f32⟩
  | .local _ .vmem, ⟨20, _⟩ => ⟨S1x512x1024, .f32⟩
  | .local _ .vmem, ⟨21, _⟩ => ⟨S1x512x1024, .f32⟩
  | .local _ .vmem, ⟨22, _⟩ => ⟨S1x512x1024, .f32⟩
  | .local _ .vmem, ⟨23, _⟩ => ⟨S1x512x1024, .f32⟩
  | .local _ .vmem, ⟨24, _⟩ => ⟨S1x512x1024, .f32⟩
  | .local _ .vmem, ⟨25, _⟩ => ⟨S1x512x1024, .f32⟩
  | .local _ .vmem, ⟨26, _⟩ => ⟨S1x512x1024, .f32⟩
  | .local _ .vmem, ⟨27, _⟩ => ⟨S1x512x1024, .f32⟩
  | .local _ .vmem, ⟨28, _⟩ => ⟨S1x512x1024, .f32⟩
  | .local _ .vmem, ⟨29, _⟩ => ⟨S1x512x1024, .f32⟩
  | .local _ .vmem, ⟨30, _⟩ => ⟨S1x512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst_0 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_call0_v5 : Ref sig .tc := ⟨.hbm, 47, rfl⟩
abbrev main_call0_v6 : Ref sig .tc := ⟨.hbm, 48, rfl⟩
abbrev main_call0_v7 : Ref sig .tc := ⟨.hbm, 49, rfl⟩
abbrev main_call0_v8 : Ref sig .tc := ⟨.hbm, 50, rfl⟩
abbrev main_call0_c : Ref sig .tc := ⟨.hbm, 51, rfl⟩
abbrev main_call0_v9 : Ref sig .tc := ⟨.hbm, 52, rfl⟩
abbrev main_call0_v10 : Ref sig .tc := ⟨.hbm, 53, rfl⟩
abbrev main_call0_v11 : Ref sig .tc := ⟨.hbm, 54, rfl⟩
abbrev main_call0_c_0 : Ref sig .tc := ⟨.hbm, 55, rfl⟩
abbrev main_call0_v12 : Ref sig .tc := ⟨.hbm, 56, rfl⟩
abbrev main_call0_v13 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30_0 : Ref sig .tc := ⟨.hbm, 65, rfl⟩
abbrev main_v30_1 : Ref sig .tc := ⟨.hbm, 66, rfl⟩
abbrev main_v30_2 : Ref sig .tc := ⟨.hbm, 67, rfl⟩
abbrev main_v30_3 : Ref sig .tc := ⟨.hbm, 68, rfl⟩
abbrev main_v30_4 : Ref sig .tc := ⟨.hbm, 69, rfl⟩
abbrev main_v30_5 : Ref sig .tc := ⟨.hbm, 70, rfl⟩
abbrev main_v30_6 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg15_1 : Ref sig .tc := ⟨.vmem, 18, rfl⟩
abbrev cc0_stg16_0 : Ref sig .tc := ⟨.vmem, 19, rfl⟩
abbrev cc0_stg16_1 : Ref sig .tc := ⟨.vmem, 20, rfl⟩
abbrev cc0_stg17_0 : Ref sig .tc := ⟨.vmem, 21, rfl⟩
abbrev cc0_stg17_1 : Ref sig .tc := ⟨.vmem, 22, rfl⟩
abbrev cc0_stg18_0 : Ref sig .tc := ⟨.vmem, 23, rfl⟩
abbrev cc0_stg18_1 : Ref sig .tc := ⟨.vmem, 24, rfl⟩
abbrev cc0_stg19_0 : Ref sig .tc := ⟨.vmem, 25, rfl⟩
abbrev cc0_stg19_1 : Ref sig .tc := ⟨.vmem, 26, rfl⟩
abbrev cc0_stg20_0 : Ref sig .tc := ⟨.vmem, 27, rfl⟩
abbrev cc0_stg20_1 : Ref sig .tc := ⟨.vmem, 28, rfl⟩
abbrev cc0_stg21_0 : Ref sig .tc := ⟨.vmem, 29, rfl⟩
abbrev cc0_stg21_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem15_1 : DmaSem sig := 18
abbrev cc0_sem16_0 : DmaSem sig := 19
abbrev cc0_sem16_1 : DmaSem sig := 20
abbrev cc0_sem17_0 : DmaSem sig := 21
abbrev cc0_sem17_1 : DmaSem sig := 22
abbrev cc0_sem18_0 : DmaSem sig := 23
abbrev cc0_sem18_1 : DmaSem sig := 24
abbrev cc0_sem19_0 : DmaSem sig := 25
abbrev cc0_sem19_1 : DmaSem sig := 26
abbrev cc0_sem20_0 : DmaSem sig := 27
abbrev cc0_sem20_1 : DmaSem sig := 28
abbrev cc0_sem21_0 : DmaSem sig := 29
abbrev cc0_sem21_1 : DmaSem sig := 30

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x64 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S64x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x64 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S64x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S128x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S256x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x512x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x512x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x512x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]
-- ==== Reference4Ideal.lean ====
abbrev S8x2048x1024 : Shape := ⟨3, ![8, 2048, 1024]⟩
abbrev S1024 : Shape := ⟨1, ![1024]⟩
abbrev S6x1024 : Shape := ⟨2, ![6, 1024]⟩
abbrev S1024x1024 : Shape := ⟨2, ![1024, 1024]⟩
abbrev S1024x64 : Shape := ⟨2, ![1024, 64]⟩
abbrev S64x1024 : Shape := ⟨2, ![64, 1024]⟩
abbrev S1024x128 : Shape := ⟨2, ![1024, 128]⟩
abbrev S128x1024 : Shape := ⟨2, ![128, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2049x1024 : Shape := ⟨3, ![8, 2049, 1024]⟩
abbrev S1x1024 : Shape := ⟨2, ![1, 1024]⟩
abbrev S8x2048x64 : Shape := ⟨3, ![8, 2048, 64]⟩
abbrev S8x2048x128 : Shape := ⟨3, ![8, 2048, 128]⟩
abbrev S8x2048x16x64 : Shape := ⟨4, ![8, 2048, 16, 64]⟩
abbrev S8x2048x16 : Shape := ⟨3, ![8, 2048, 16]⟩
abbrev S8x2048x16x1 : Shape := ⟨4, ![8, 2048, 16, 1]⟩

abbrev nBuf : Space → Nat
  | .hbm => 153
  | .vmem => 0
  | .smem => 0
  | _ => 0

abbrev hbmTy0_0 (i : Nat) : BufTy := match i % 128 with
  | 0 => ⟨S8x2048x1024, .f32⟩
  | 1 => ⟨S1024, .f32⟩
  | 2 => ⟨S6x1024, .f32⟩
  | 3 => ⟨S1024x1024, .f32⟩
  | 4 => ⟨S1024x1024, .f32⟩
  | 5 => ⟨S1024x1024, .f32⟩
  | 6 => ⟨S1024, .f32⟩
  | 7 => ⟨S1024x64, .f32⟩
  | 8 => ⟨S64x1024, .f32⟩
  | 9 => ⟨S1024, .f32⟩
  | 10 => ⟨S1024x64, .f32⟩
  | 11 => ⟨S64x1024, .f32⟩
  | 12 => ⟨S1024x128, .f32⟩
  | 13 => ⟨S128x1024, .f32⟩
  | 14 => ⟨S1024, .f32⟩
  | 15 => ⟨S1024, .f32⟩
  | 16 => ⟨S8x2048x1024, .f32⟩
  | 17 => ⟨S_, .f32⟩
  | 18 => ⟨S8x2048, .f32⟩
  | 19 => ⟨S8x2048x1, .f32⟩
  | 20 => ⟨S_, .f32⟩
  | 21 => ⟨S8x2048x1, .f32⟩
  | 22 => ⟨S8x2048x1, .f32⟩
  | 23 => ⟨S_, .f32⟩
  | 24 => ⟨S8x2048x1, .f32⟩
  | 25 => ⟨S8x2048x1, .f32⟩
  | 26 => ⟨S8x2048x1, .f32⟩
  | 27 => ⟨S8x2048x1024, .f32⟩
  | 28 => ⟨S8x2048x1024, .f32⟩
  | 29 => ⟨S1x1x1024, .f32⟩
  | 30 => ⟨S8x2048x1024, .f32⟩
  | 31 => ⟨S8x2048x1024, .f32⟩
  | 32 => ⟨S_, .i32⟩
  | 33 => ⟨S_, .f32⟩
  | 34 => ⟨S8x2049x1024, .f32⟩
  | 35 => ⟨S8x2048x1024, .f32⟩
  | 36 => ⟨S8x2048x1024, .f32⟩
  | 37 => ⟨S1x1024, .f32⟩
  | 38 => ⟨S1024, .f32⟩
  | 39 => ⟨S1x1x1024, .f32⟩
  | 40 => ⟨S8x2048x1024, .f32⟩
  | 41 => ⟨S8x2048x1024, .f32⟩
  | 42 => ⟨S8x2048x1024, .f32⟩
  | 43 => ⟨S1x1024, .f32⟩
  | 44 => ⟨S1024, .f32⟩
  | 45 => ⟨S1x1x1024, .f32⟩
  | 46 => ⟨S8x2048x1024, .f32⟩
  | 47 => ⟨S8x2048x1024, .f32⟩
  | 48 => ⟨S8x2048x1024, .f32⟩
  | 49 => ⟨S1x1024, .f32⟩
  | 50 => ⟨S1024, .f32⟩
  | 51 => ⟨S1x1x1024, .f32⟩
  | 52 => ⟨S8x2048x1024, .f32⟩
  | 53 => ⟨S8x2048x1024, .f32⟩
  | 54 => ⟨S8x2048x1024, .f32⟩
  | 55 => ⟨S1x1024, .f32⟩
  | 56 => ⟨S1024, .f32⟩
  | 57 => ⟨S1x1x1024, .f32⟩
  | 58 => ⟨S8x2048x1024, .f32⟩
  | 59 => ⟨S8x2048x1024, .f32⟩
  | 60 => ⟨S8x2048x1024, .f32⟩
  | 61 => ⟨S1x1024, .f32⟩
  | 62 => ⟨S1024, .f32⟩
  | 63 => ⟨S1x1x1024, .f32⟩
  | 64 => ⟨S8x2048x1024, .f32⟩
  | 65 => ⟨S8x2048x1024, .f32⟩
  | 66 => ⟨S8x2048x1024, .f32⟩
  | 67 => ⟨S1x1024, .f32⟩
  | 68 => ⟨S1024, .f32⟩
  | 69 => ⟨S1x1x1024, .f32⟩
  | 70 => ⟨S8x2048x1024, .f32⟩
  | 71 => ⟨S8x2048x1024, .f32⟩
  | 72 => ⟨S8x2048x1024, .f32⟩
  | 73 => ⟨S8x2048x1024, .f32⟩
  | 74 => ⟨S8x2048x1024, .f32⟩
  | 75 => ⟨S8x2048x1024, .f32⟩
  | 76 => ⟨S8x2048x64, .f32⟩
  | 77 => ⟨S8x2048x64, .f32⟩
  | 78 => ⟨S8x2048x1024, .f32⟩
  | 79 => ⟨S1x1x1024, .f32⟩
  | 80 => ⟨S8x2048x1024, .f32⟩
  | 81 => ⟨S8x2048x1024, .f32⟩
  | 82 => ⟨S8x2048x1024, .f32⟩
  | 83 => ⟨S_, .f32⟩
  | 84 => ⟨S8x2048x1024, .f32⟩
  | 85 => ⟨S8x2048x1024, .f32⟩
  | 86 => ⟨S8x2048x1024, .f32⟩
  | 87 => ⟨S8x2048x1024, .f32⟩
  | 88 => ⟨S8x2048x1024, .i1⟩
  | 89 => ⟨S8x2048x1024, .f32⟩
  | 90 => ⟨S8x2048x1024, .f32⟩
  | 91 => ⟨S8x2048x1024, .f32⟩
  | 92 => ⟨S8x2048x1024, .f32⟩
  | 93 => ⟨S8x2048x1024, .f32⟩
  | 94 => ⟨S8x2048x1024, .f32⟩
  | 95 => ⟨S8x2048x1024, .f32⟩
  | 96 => ⟨S8x2048x1024, .f32⟩
  | 97 => ⟨S8x2048x1024, .f32⟩
  | 98 => ⟨S_, .f32⟩
  | 99 => ⟨S8x2048x1024, .f32⟩
  | 100 => ⟨S8x2048x1024, .f32⟩
  | 101 => ⟨S8x2048x64, .f32⟩
  | 102 => ⟨S8x2048x1024, .f32⟩
  | 103 => ⟨S1x1x1024, .f32⟩
  | 104 => ⟨S8x2048x1024, .f32⟩
  | 105 => ⟨S8x2048x1024, .f32⟩
  | 106 => ⟨S8x2048x1024, .f32⟩
  | 107 => ⟨S8x2048x1024, .f32⟩
  | 108 => ⟨S_, .f32⟩
  | 109 => ⟨S8x2048x1024, .f32⟩
  | 110 => ⟨S8x2048x1024, .f32⟩
  | 111 => ⟨S_, .f32⟩
  | 112 => ⟨S8x2048x1024, .f32⟩
  | 113 => ⟨S8x2048x1024, .f32⟩
  | 114 => ⟨S8x2048x128, .f32⟩
  | 115 => ⟨S8x2048x128, .f32⟩
  | 116 => ⟨S8x2048x128, .f32⟩
  | 117 => ⟨S_, .f32⟩
  | 118 => ⟨S8x2048x128, .f32⟩
  | 119 => ⟨S8x2048x128, .f32⟩
  | 120 => ⟨S_, .f32⟩
  | 121 => ⟨S8x2048x128, .f32⟩
  | 122 => ⟨S8x2048x128, .f32⟩
  | 123 => ⟨S8x2048x1024, .f32⟩
  | 124 => ⟨S1x1x1024, .f32⟩
  | 125 => ⟨S8x2048x1024, .f32⟩
  | 126 => ⟨S8x2048x1024, .f32⟩
  | 127 => ⟨S8x2048x16x64, .f32⟩
  | _ => ⟨S8x2048x1024, .f32⟩

abbrev hbmTy0_1 (i : Nat) : BufTy := match i % 128 with
  | 0 => ⟨S8x2048x16x64, .f32⟩
  | 1 => ⟨S_, .f32⟩
  | 2 => ⟨S8x2048x16, .f32⟩
  | 3 => ⟨S8x2048x16x1, .f32⟩
  | 4 => ⟨S_, .f32⟩
  | 5 => ⟨S8x2048x16x1, .f32⟩
  | 6 => ⟨S8x2048x16x1, .f32⟩
  | 7 => ⟨S8x2048x16x1, .f32⟩
  | 8 => ⟨S8x2048x16x64, .f32⟩
  | 9 => ⟨S8x2048x16x64, .f32⟩
  | 10 => ⟨S8x2048x1024, .f32⟩
  | 11 => ⟨S_, .f32⟩
  | 12 => ⟨S8x2048x1024, .f32⟩
  | 13 => ⟨S8x2048x1024, .f32⟩
  | 14 => ⟨S1x1x1024, .f32⟩
  | 15 => ⟨S8x2048x1024, .f32⟩
  | 16 => ⟨S8x2048x1024, .f32⟩
  | 17 => ⟨S_, .f32⟩
  | 18 => ⟨S8x2048x1024, .f32⟩
  | 19 => ⟨S8x2048x1024, .f32⟩
  | 20 => ⟨S8x2048x1024, .f32⟩
  | 21 => ⟨S8x2048x1024, .f32⟩
  | 22 => ⟨S8x2048x1024, .f32⟩
  | 23 => ⟨S8x2048x1024, .f32⟩
  | 24 => ⟨S8x2048x1024, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_cst : Ref sig .tc := ⟨.hbm, 17, rfl⟩
abbrev main_v1 : Ref sig .tc := ⟨.hbm, 18, rfl⟩
abbrev main_v2 : Ref sig .tc := ⟨.hbm, 19, rfl⟩
abbrev main_cst_0 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_c : Ref sig .tc := ⟨.hbm, 32, rfl⟩
abbrev main_call0_v0 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_call1_cst : Ref sig .tc := ⟨.hbm, 83, rfl⟩
abbrev main_call1_v0 : Ref sig .tc := ⟨.hbm, 84, rfl⟩
abbrev main_call1_v1 : Ref sig .tc := ⟨.hbm, 85, rfl⟩
abbrev main_call1_v2 : Ref sig .tc := ⟨.hbm, 86, rfl⟩
abbrev main_call1_v3 : Ref sig .tc := ⟨.hbm, 87, rfl⟩
abbrev main_call1_v4 : Ref sig .tc := ⟨.hbm, 88, rfl⟩
abbrev main_call1_v5 : Ref sig .tc := ⟨.hbm, 89, rfl⟩
abbrev main_call1_v6 : Ref sig .tc := ⟨.hbm, 90, rfl⟩
abbrev main_call1_v7 : Ref sig .tc := ⟨.hbm, 91, rfl⟩
abbrev main_call1_v8 : Ref sig .tc := ⟨.hbm, 92, rfl⟩
abbrev main_call1_v9 : Ref sig .tc := ⟨.hbm, 93, rfl⟩
abbrev main_call1_v10 : Ref sig .tc := ⟨.hbm, 94, rfl⟩
abbrev main_call1_v11 : Ref sig .tc := ⟨.hbm, 95, rfl⟩
abbrev main_v62 : Ref sig .tc := ⟨.hbm, 96, rfl⟩
abbrev main_v63 : Ref sig .tc := ⟨.hbm, 97, rfl⟩
abbrev main_cst_2 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_cst_3 : Ref sig .tc := ⟨.hbm, 108, rfl⟩
abbrev main_v73 : Ref sig .tc := ⟨.hbm, 109, rfl⟩
abbrev main_v74 : Ref sig .tc := ⟨.hbm, 110, rfl⟩
abbrev main_cst_4 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_cst_5 : Ref sig .tc := ⟨.hbm, 117, rfl⟩
abbrev main_v80 : Ref sig .tc := ⟨.hbm, 118, rfl⟩
abbrev main_v81 : Ref sig .tc := ⟨.hbm, 119, rfl⟩
abbrev main_cst_6 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_cst_7 : Ref sig .tc := ⟨.hbm, 129, rfl⟩
abbrev main_v90 : Ref sig .tc := ⟨.hbm, 130, rfl⟩
abbrev main_v91 : Ref sig .tc := ⟨.hbm, 131, rfl⟩
abbrev main_cst_8 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_cst_9 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_cst_10 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩

abbrev nD : Nat := 1
abbrev τ : Topo := Topo.v7x

variable {F : FTy → Type} [FloatOps F]
-- ==== Kernel5.lean ====
abbrev S8x2048x1024 : Shape := ⟨3, ![8, 2048, 1024]⟩
abbrev S1024 : Shape := ⟨1, ![1024]⟩
abbrev S1024x672 : Shape := ⟨2, ![1024, 672]⟩
abbrev S384 : Shape := ⟨1, ![384]⟩
abbrev S384x1536 : Shape := ⟨2, ![384, 1536]⟩
abbrev S256 : Shape := ⟨1, ![256]⟩
abbrev S256x2048 : Shape := ⟨2, ![256, 2048]⟩
abbrev S8x2048x16 : Shape := ⟨3, ![8, 2048, 16]⟩
abbrev S16384x16 : Shape := ⟨2, ![16384, 16]⟩
abbrev S1x16384x1x16 : Shape := ⟨4, ![1, 16384, 1, 16]⟩
abbrev S1x16384x8x16 : Shape := ⟨4, ![1, 16384, 8, 16]⟩
abbrev S16384x128 : Shape := ⟨2, ![16384, 128]⟩
abbrev S16384x32 : Shape := ⟨2, ![16384, 32]⟩
abbrev S1x16384x1x32 : Shape := ⟨4, ![1, 16384, 1, 32]⟩
abbrev S1x16384x4x32 : Shape := ⟨4, ![1, 16384, 4, 32]⟩
abbrev S16384x1024 : Shape := ⟨2, ![16384, 1024]⟩
abbrev S1024x32 : Shape := ⟨2, ![1024, 32]⟩
abbrev S_ : Shape := ⟨0, ![]⟩
abbrev S1024x64 : Shape := ⟨2, ![1024, 64]⟩
abbrev S1024x640 : Shape := ⟨2, ![1024, 640]⟩
abbrev S1024x16 : Shape := ⟨2, ![1024, 16]⟩
abbrev S1024x896 : Shape := ⟨2, ![1024, 896]⟩
abbrev S384x16x96 : Shape := ⟨3, ![384, 16, 96]⟩
abbrev S384x16x64 : Shape := ⟨3, ![384, 16, 64]⟩
abbrev S384x1024 : Shape := ⟨2, ![384, 1024]⟩
abbrev S384x16x32 : Shape := ⟨3, ![384, 16, 32]⟩
abbrev S384x8x64 : Shape := ⟨3, ![384, 8, 64]⟩
abbrev S384x8x128 : Shape := ⟨3, ![384, 8, 128]⟩
abbrev S384x16x16 : Shape := ⟨3, ![384, 16, 16]⟩
abbrev S256x16x128 : Shape := ⟨3, ![256, 16, 128]⟩
abbrev S256x16x64 : Shape := ⟨3, ![256, 16, 64]⟩
abbrev S256x1024 : Shape := ⟨2, ![256, 1024]⟩
abbrev S1x384 : Shape := ⟨2, ![1, 384]⟩
abbrev S1x256 : Shape := ⟨2, ![1, 256]⟩
abbrev S1x1024 : Shape := ⟨2, ![1, 1024]⟩
abbrev S1024x1024 : Shape := ⟨2, ![1024, 1024]⟩
abbrev S1024x128 : Shape := ⟨2, ![1024, 128]⟩
abbrev S512x1024 : Shape := ⟨2, ![512, 1024]⟩
abbrev S512 : Shape := ⟨1, ![512]⟩
abbrev S512x1 : Shape := ⟨2, ![512, 1]⟩
abbrev S512x896 : Shape := ⟨2, ![512, 896]⟩
abbrev S512x384 : Shape := ⟨2, ![512, 384]⟩
abbrev S512x256 : Shape := ⟨2, ![512, 256]⟩
abbrev S512x128 : Shape := ⟨2, ![512, 128]⟩

abbrev nBuf : Space → Nat
  | .hbm => 67
  | .vmem => 25
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x672, .f32⟩
  | .hbm, ⟨3, _⟩ => ⟨S384, .f32⟩
  | .hbm, ⟨4, _⟩ => ⟨S384x1536, .f32⟩
  | .hbm, ⟨5, _⟩ => ⟨S256, .f32⟩
  | .hbm, ⟨6, _⟩ => ⟨S256x2048, .f32⟩
  | .hbm, ⟨7, _⟩ => ⟨S8x2048x16, .f32⟩
  | .hbm, ⟨8, _⟩ => ⟨S8x2048x16, .f32⟩
  | .hbm, ⟨9, _⟩ => ⟨S16384x16, .f32⟩
  | .hbm, ⟨10, _⟩ => ⟨S16384x16, .f32⟩
  | .hbm, ⟨11, _⟩ => ⟨S1x16384x1x16, .f32⟩
  | .hbm, ⟨12, _⟩ => ⟨S1x16384x8x16, .f32⟩
  | .hbm, ⟨13, _⟩ => ⟨S16384x128, .f32⟩
  | .hbm, ⟨14, _⟩ => ⟨S16384x16, .f32⟩
  | .hbm, ⟨15, _⟩ => ⟨S16384x32, .f32⟩
  | .hbm, ⟨16, _⟩ => ⟨S1x16384x1x32, .f32⟩
  | .hbm, ⟨17, _⟩ => ⟨S1x16384x4x32, .f32⟩
  | .hbm, ⟨18, _⟩ => ⟨S16384x128, .f32⟩
  | .hbm, ⟨19, _⟩ => ⟨S16384x1024, .f32⟩
  | .hbm, ⟨20, _⟩ => ⟨S1024x32, .f32⟩
  | .hbm, ⟨21, _⟩ => ⟨S_, .f32⟩
  | .hbm, ⟨22, _⟩ => ⟨S1024x64, .f32⟩
  | .hbm, ⟨23, _⟩ => ⟨S1024x640, .f32⟩
  | .hbm, ⟨24, _⟩ => ⟨S1024x16, .f32⟩
  | .hbm, ⟨25, _⟩ => ⟨S1024x16, .f32⟩
  | .hbm, ⟨26, _⟩ => ⟨S1024x32, .f32⟩
  | .hbm, ⟨27, _⟩ => ⟨S1024x16, .f32⟩
  | .hbm, ⟨28, _⟩ => ⟨S1024x16, .f32⟩
  | .hbm, ⟨29, _⟩ => ⟨S1024x32, .f32⟩
  | .hbm, ⟨30, _⟩ => ⟨S1024x896, .f32⟩
  | .hbm, ⟨31, _⟩ => ⟨S1024x896, .bf16⟩
  | .hbm, ⟨32, _⟩ => ⟨S384x16x96, .f32⟩
  | .hbm, ⟨33, _⟩ => ⟨S384x16x64, .f32⟩
  | .hbm, ⟨34, _⟩ => ⟨S384x1024, .f32⟩
  | .hbm, ⟨35, _⟩ => ⟨S384x1024, .bf16⟩
  | .hbm, ⟨36, _⟩ => ⟨S384x16x32, .f32⟩
  | .hbm, ⟨37, _⟩ => ⟨S384x8x64, .f32⟩
  | .hbm, ⟨38, _⟩ => ⟨S_, .f32⟩
  | .hbm, ⟨39, _⟩ => ⟨S384x8x64, .f32⟩
  | .hbm, ⟨40, _⟩ => ⟨S384x8x128, .f32⟩
  | .hbm, ⟨41, _⟩ => ⟨S384x1024, .f32⟩
  | .hbm, ⟨42, _⟩ => ⟨S384x1024, .bf16⟩
  | .hbm, ⟨43, _⟩ => ⟨S384x16x16, .f32⟩
  | .hbm, ⟨44, _⟩ => ⟨S384x16x16, .f32⟩
  | .hbm, ⟨45, _⟩ => ⟨S384x16x32, .f32⟩
  | .hbm, ⟨46, _⟩ => ⟨S384x8x64, .f32⟩
  | .hbm, ⟨47, _⟩ => ⟨S_, .f32⟩
  | .hbm, ⟨48, _⟩ => ⟨S384x8x64, .f32⟩
  | .hbm, ⟨49, _⟩ => ⟨S384x8x128, .f32⟩
  | .hbm, ⟨50, _⟩ => ⟨S384x1024, .f32⟩
  | .hbm, ⟨51, _⟩ => ⟨S384x1024, .bf16⟩
  | .hbm, ⟨52, _⟩ => ⟨S256x16x128, .f32⟩
  | .hbm, ⟨53, _⟩ => ⟨S256x16x64, .f32⟩
  | .hbm, ⟨54, _⟩ => ⟨S256x1024, .f32⟩
  | .hbm, ⟨55, _⟩ => ⟨S256x1024, .bf16⟩
  | .hbm, ⟨56, _⟩ => ⟨S256x16x64, .f32⟩
  | .hbm, ⟨57, _⟩ => ⟨S256x1024, .f32⟩
  | .hbm, ⟨58, _⟩ => ⟨S256x1024, .bf16⟩
  | .hbm, ⟨59, _⟩ => ⟨S1x384, .f32⟩
  | .hbm, ⟨60, _⟩ => ⟨S1x256, .f32⟩
  | .hbm, ⟨61, _⟩ => ⟨S1x1024, .f32⟩
  | .hbm, ⟨62, _⟩ => ⟨S16384x1024, .bf16⟩
  | .hbm, ⟨63, _⟩ => ⟨S16384x1024, .bf16⟩
  | .hbm, ⟨64, _⟩ => ⟨S16384x1024, .bf16⟩
  | .hbm, ⟨65, _⟩ => ⟨S16384x128, .bf16⟩
  | .hbm, ⟨66, _⟩ => ⟨S16384x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x896, .bf16⟩
  | .local _ .vmem, ⟨4, _⟩ => ⟨S1x384, .f32⟩
  | .local _ .vmem, ⟨5, _⟩ => ⟨S1x256, .f32⟩
  | .local _ .vmem, ⟨6, _⟩ => ⟨S384x1024, .bf16⟩
  | .local _ .vmem, ⟨7, _⟩ => ⟨S384x1024, .bf16⟩
  | .local _ .vmem, ⟨8, _⟩ => ⟨S384x1024, .bf16⟩
  | .local _ .vmem, ⟨9, _⟩ => ⟨S256x1024, .bf16⟩
  | .local _ .vmem, ⟨10, _⟩ => ⟨S256x1024, .bf16⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1024x1024, .bf16⟩
  | .local _ .vmem, ⟨21, _⟩ => ⟨S1024x128, .bf16⟩
  | .local _ .vmem, ⟨22, _⟩ => ⟨S1024x128, .bf16⟩
  | .local _ .vmem, ⟨23, _⟩ => ⟨S1024x1024, .bf16⟩
  | .local _ .vmem, ⟨24, _⟩ => ⟨S1024x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_0 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_1 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50_0 : Ref sig .tc := ⟨.hbm, 62, rfl⟩
abbrev main_v50_1 : Ref sig .tc := ⟨.hbm, 63, rfl⟩
abbrev main_v50_2 : Ref sig .tc := ⟨.hbm, 64, rfl⟩
abbrev main_v50_3 : Ref sig .tc := ⟨.hbm, 65, rfl⟩
abbrev main_v50_4 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x896 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S384x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S384x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1024x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Kernel5Ideal.lean ====
variable {F : FTy → Type} [FloatOps F] [Named F]
def κ : String → Option EReal := fun
  | "scale" => some (((Real.log 2)⁻¹ * (Real.sqrt 96)⁻¹ : ℝ) : EReal)
  | _ => none
-- ==== Reference5Ideal.lean ====
abbrev S8x2048x1024 : Shape := ⟨3, ![8, 2048, 1024]⟩
abbrev S1024 : Shape := ⟨1, ![1024]⟩
abbrev S1024x672 : Shape := ⟨2, ![1024, 672]⟩
abbrev S384 : Shape := ⟨1, ![384]⟩
abbrev S384x1536 : Shape := ⟨2, ![384, 1536]⟩
abbrev S256 : Shape := ⟨1, ![256]⟩
abbrev S256x2048 : Shape := ⟨2, ![256, 2048]⟩
abbrev S8x2048x16 : Shape := ⟨3, ![8, 2048, 16]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x672 : Shape := ⟨3, ![8, 2048, 672]⟩
abbrev S8x2048x384 : Shape := ⟨3, ![8, 2048, 384]⟩
abbrev S8x2048x256 : Shape := ⟨3, ![8, 2048, 256]⟩
abbrev S8x2048x32 : Shape := ⟨3, ![8, 2048, 32]⟩
abbrev S1x1x384 : Shape := ⟨3, ![1, 1, 384]⟩
abbrev S8x2048x1536 : Shape := ⟨3, ![8, 2048, 1536]⟩
abbrev S8x2048x16x96 : Shape := ⟨4, ![8, 2048, 16, 96]⟩
abbrev S8x2048x16x64 : Shape := ⟨4, ![8, 2048, 16, 64]⟩
abbrev S8x2048x16x32 : Shape := ⟨4, ![8, 2048, 16, 32]⟩
abbrev S1x1x256 : Shape := ⟨3, ![1, 1, 256]⟩
abbrev S8x2048x2048 : Shape := ⟨3, ![8, 2048, 2048]⟩
abbrev S8x2048x16x128 : Shape := ⟨4, ![8, 2048, 16, 128]⟩
abbrev S8x2048x1x16 : Shape := ⟨4, ![8, 2048, 1, 16]⟩
abbrev S8x2048x16x16 : Shape := ⟨4, ![8, 2048, 16, 16]⟩
abbrev S8x2048x8x64 : Shape := ⟨4, ![8, 2048, 8, 64]⟩
abbrev S8x2048x8x128 : Shape := ⟨4, ![8, 2048, 8, 128]⟩
abbrev S8x2048x64 : Shape := ⟨3, ![8, 2048, 64]⟩
abbrev S8x2048x128 : Shape := ⟨3, ![8, 2048, 128]⟩
abbrev S16384x1024 : Shape := ⟨2, ![16384, 1024]⟩
abbrev S16384x128 : Shape := ⟨2, ![16384, 128]⟩

abbrev nBuf : Space → Nat
  | .hbm => 122
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x672, .f32⟩
  | .hbm, ⟨3, _⟩ => ⟨S384, .f32⟩
  | .hbm, ⟨4, _⟩ => ⟨S384x1536, .f32⟩
  | .hbm, ⟨5, _⟩ => ⟨S256, .f32⟩
  | .hbm, ⟨6, _⟩ => ⟨S256x2048, .f32⟩
  | .hbm, ⟨7, _⟩ => ⟨S8x2048x16, .f32⟩
  | .hbm, ⟨8, _⟩ => ⟨S8x2048x16, .f32⟩
  | .hbm, ⟨9, _⟩ => ⟨S8x2048x1024, .f32⟩
  | .hbm, ⟨10, _⟩ => ⟨S_, .f32⟩
  | .hbm, ⟨11, _⟩ => ⟨S8x2048, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S8x2048x1, .f32⟩
  | .hbm, ⟨20, _⟩ => ⟨S8x2048x1024, .f32⟩
  | .hbm, ⟨21, _⟩ => ⟨S8x2048x1024, .f32⟩
  | .hbm, ⟨22, _⟩ => ⟨S1x1x1024, .f32⟩
  | .hbm, ⟨23, _⟩ => ⟨S8x2048x1024, .f32⟩
  | .hbm, ⟨24, _⟩ => ⟨S8x2048x1024, .f32⟩
  | .hbm, ⟨25, _⟩ => ⟨S8x2048x672, .f32⟩
  | .hbm, ⟨26, _⟩ => ⟨S8x2048x384, .f32⟩
  | .hbm, ⟨27, _⟩ => ⟨S8x2048x256, .f32⟩
  | .hbm, ⟨28, _⟩ => ⟨S8x2048x32, .f32⟩
  | .hbm, ⟨29, _⟩ => ⟨S8x2048x384, .f32⟩
  | .hbm, ⟨30, _⟩ => ⟨S_, .f32⟩
  | .hbm, ⟨31, _⟩ => ⟨S8x2048, .f32⟩
  | .hbm, ⟨32, _⟩ => ⟨S8x2048x1, .f32⟩
  | .hbm, ⟨33, _⟩ => ⟨S_, .f32⟩
  | .hbm, ⟨34, _⟩ => ⟨S8x2048x1, .f32⟩
  | .hbm, ⟨35, _⟩ => ⟨S8x2048x1, .f32⟩
  | .hbm, ⟨36, _⟩ => ⟨S_, .f32⟩
  | .hbm, ⟨37, _⟩ => ⟨S8x2048x1, .f32⟩
  | .hbm, ⟨38, _⟩ => ⟨S8x2048x1, .f32⟩
  | .hbm, ⟨39, _⟩ => ⟨S8x2048x1, .f32⟩
  | .hbm, ⟨40, _⟩ => ⟨S8x2048x384, .f32⟩
  | .hbm, ⟨41, _⟩ => ⟨S8x2048x384, .f32⟩
  | .hbm, ⟨42, _⟩ => ⟨S1x1x384, .f32⟩
  | .hbm, ⟨43, _⟩ => ⟨S8x2048x384, .f32⟩
  | .hbm, ⟨44, _⟩ => ⟨S8x2048x384, .f32⟩
  | .hbm, ⟨45, _⟩ => ⟨S8x2048x1536, .f32⟩
  | .hbm, ⟨46, _⟩ => ⟨S8x2048x16x96, .f32⟩
  | .hbm, ⟨47, _⟩ => ⟨S8x2048x16x64, .f32⟩
  | .hbm, ⟨48, _⟩ => ⟨S8x2048x16x32, .f32⟩
  | .hbm, ⟨49, _⟩ => ⟨S8x2048x256, .f32⟩
  | .hbm, ⟨50, _⟩ => ⟨S_, .f32⟩
  | .hbm, ⟨51, _⟩ => ⟨S8x2048, .f32⟩
  | .hbm, ⟨52, _⟩ => ⟨S8x2048x1, .f32⟩
  | .hbm, ⟨53, _⟩ => ⟨S_, .f32⟩
  | .hbm, ⟨54, _⟩ => ⟨S8x2048x1, .f32⟩
  | .hbm, ⟨55, _⟩ => ⟨S8x2048x1, .f32⟩
  | .hbm, ⟨56, _⟩ => ⟨S_, .f32⟩
  | .hbm, ⟨57, _⟩ => ⟨S8x2048x1, .f32⟩
  | .hbm, ⟨58, _⟩ => ⟨S8x2048x1, .f32⟩
  | .hbm, ⟨59, _⟩ => ⟨S8x2048x1, .f32⟩
  | .hbm, ⟨60, _⟩ => ⟨S8x2048x256, .f32⟩
  | .hbm, ⟨61, _⟩ => ⟨S8x2048x256, .f32⟩
  | .hbm, ⟨62, _⟩ => ⟨S1x1x256, .f32⟩
  | .hbm, ⟨63, _⟩ => ⟨S8x2048x256, .f32⟩
  | .hbm, ⟨64, _⟩ => ⟨S8x2048x256, .f32⟩
  | .hbm, ⟨65, _⟩ => ⟨S8x2048x2048, .f32⟩
  | .hbm, ⟨66, _⟩ => ⟨S8x2048x16x128, .f32⟩
  | .hbm, ⟨67, _⟩ => ⟨S8x2048x16x64, .f32⟩
  | .hbm, ⟨68, _⟩ => ⟨S8x2048x16x64, .f32⟩
  | .hbm, ⟨69, _⟩ => ⟨S8x2048x1x16, .f32⟩
  | .hbm, ⟨70, _⟩ => ⟨S8x2048x1x16, .f32⟩
  | .hbm, ⟨71, _⟩ => ⟨S8x2048x16x16, .f32⟩
  | .hbm, ⟨72, _⟩ => ⟨S8x2048x16x16, .f32⟩
  | .hbm, ⟨73, _⟩ => ⟨S8x2048x16x16, .f32⟩
  | .hbm, ⟨74, _⟩ => ⟨S8x2048x16x16, .f32⟩
  | .hbm, ⟨75, _⟩ => ⟨S8x2048x16x16, .f32⟩
  | .hbm, ⟨76, _⟩ => ⟨S8x2048x16x16, .f32⟩
  | .hbm, ⟨77, _⟩ => ⟨S8x2048x16x16, .f32⟩
  | .hbm, ⟨78, _⟩ => ⟨S8x2048x16x16, .f32⟩
  | .hbm, ⟨79, _⟩ => ⟨S8x2048x16x16, .f32⟩
  | .hbm, ⟨80, _⟩ => ⟨S8x2048x16x16, .f32⟩
  | .hbm, ⟨81, _⟩ => ⟨S8x2048x16x16, .f32⟩
  | .hbm, ⟨82, _⟩ => ⟨S8x2048x16x16, .f32⟩
  | .hbm, ⟨83, _⟩ => ⟨S8x2048x16x32, .f32⟩
  | .hbm, ⟨84, _⟩ => ⟨S8x2048x16, .f32⟩
  | .hbm, ⟨85, _⟩ => ⟨S8x2048x16, .f32⟩
  | .hbm, ⟨86, _⟩ => ⟨S8x2048x16, .f32⟩
  | .hbm, ⟨87, _⟩ => ⟨S8x2048x16, .f32⟩
  | .hbm, ⟨88, _⟩ => ⟨S8x2048x16, .f32⟩
  | .hbm, ⟨89, _⟩ => ⟨S8x2048x16, .f32⟩
  | .hbm, ⟨90, _⟩ => ⟨S8x2048x16, .f32⟩
  | .hbm, ⟨91, _⟩ => ⟨S8x2048x16, .f32⟩
  | .hbm, ⟨92, _⟩ => ⟨S8x2048x32, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S8x2048x16x32, .f32⟩
  | .hbm, ⟨101, _⟩ => ⟨S8x2048x16x32, .f32⟩
  | .hbm, ⟨102, _⟩ => ⟨S8x2048x8x64, .f32⟩
  | .hbm, ⟨103, _⟩ => ⟨S_, .i32⟩
  | .hbm, ⟨104, _⟩ => ⟨S_, .f32⟩
  | .hbm, ⟨105, _⟩ => ⟨S8x2048x8x128, .f32⟩
  | .hbm, ⟨106, _⟩ => ⟨S8x2048x64, .f32⟩
  | .hbm, ⟨107, _⟩ => ⟨S_, .i32⟩
  | .hbm, ⟨108, _⟩ => ⟨S_, .f32⟩
  | .hbm, ⟨109, _⟩ => ⟨S8x2048x128, .f32⟩
  | .hbm, ⟨110, _⟩ => ⟨S8x2048x16x64, .f32⟩
  | .hbm, ⟨111, _⟩ => ⟨S8x2048x16x64, .f32⟩
  | .hbm, ⟨112, _⟩ => ⟨S16384x1024, .f32⟩
  | .hbm, ⟨113, _⟩ => ⟨S16384x1024, .bf16⟩
  | .hbm, ⟨114, _⟩ => ⟨S16384x1024, .f32⟩
  | .hbm, ⟨115, _⟩ => ⟨S16384x1024, .bf16⟩
  | .hbm, ⟨116, _⟩ => ⟨S16384x1024, .f32⟩
  | .hbm, ⟨117, _⟩ => ⟨S16384x1024, .bf16⟩
  | .hbm, ⟨118, _⟩ => ⟨S16384x128, .f32⟩
  | .hbm, ⟨119, _⟩ => ⟨S16384x128, .bf16⟩
  | .hbm, ⟨120, _⟩ => ⟨S16384x1024, .f32⟩
  | .hbm, ⟨121, _⟩ => ⟨S16384x1024, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_cst_8 : Ref sig .tc := ⟨.hbm, 93, rfl⟩
abbrev main_v75 : Ref sig .tc := ⟨.hbm, 94, rfl⟩
abbrev main_cst_9 : Ref sig .tc := ⟨.hbm, 95, rfl⟩
abbrev main_v76 : Ref sig .tc := ⟨.hbm, 96, rfl⟩
abbrev main_v77 : Ref sig .tc := ⟨.hbm, 97, rfl⟩
abbrev main_cst_10 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_c : Ref sig .tc := ⟨.hbm, 103, rfl⟩
abbrev main_call0_v0 : Ref sig .tc := ⟨.hbm, 104, rfl⟩
abbrev main_v82 : Ref sig .tc := ⟨.hbm, 105, rfl⟩
abbrev main_v83 : Ref sig .tc := ⟨.hbm, 106, rfl⟩
abbrev main_c_11 : Ref sig .tc := ⟨.hbm, 107, rfl⟩
abbrev main_call1_v0 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩

abbrev nD : Nat := 1
abbrev τ : Topo := Topo.v7x

variable {F : FTy → Type} [FloatOps F]
-- ==== Proof.AttnMath.lean ====
/-
  One row of causal attention over the extended reals, from real scores: the kernel's form (scores in base two, over a
  prefix of the keys, divided at the end) and the reference's form (softmax of all masked scores, then the weighted sum).
-/
module

public import Idealize.ShloMosaic.PureOps.Ideal
public import Idealize.ShloMosaic.Lib.Pipeline.ValueKit

@[expose] public section

noncomputable section

open Idealize.ShloMosaic

namespace Cert.Attn

/-- A finite sum of reals is the real sum. -/
theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A nonnegative real factor moves into a finite sum. -/
theorem sum_mul_coe {ι : Type} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hr) (EReal.coe_ne_top r) _ _

/-- The pattern of minus infinity. -/
theorem ninf : Ideal.ofBits .f32 0xFF800000#32 = ⊥ := by simp [Ideal.ofBits, Ideal.ieee]

/-- The largest of masked real scores is the largest of the scores kept. -/
theorem fold_max_eq {N : Nat} (f : Fin N → EReal) (t : Nat → ℝ) (i : Nat) (T : ℝ)
    (hf : ∀ c, f c = if (c : Nat) ≤ i then (t c : EReal) else ⊥) (hle : ∀ c, c ≤ i → t c ≤ T)
    (c0 : Fin N) (h0 : (c0 : Nat) ≤ i) (hT : t c0 = T) :
    Finset.univ.fold max (Ideal.ofBits .f32 0xFF800000#32) f = (T : EReal) := by
  rw [ninf]
  show Finset.univ.sup f = (T : EReal)
  refine le_antisymm (Finset.sup_le fun c _ => ?_) ?_
  · rw [hf]
    split
    · next h => exact EReal.coe_le_coe_iff.mpr (hle c h)
    · exact bot_le
  · refine le_trans (le_of_eq ?_) (Finset.le_sup (f := f) (Finset.mem_univ c0))
    rw [hf, if_pos h0, hT]

/-- The weight of key `c` in row `i`, before normalization. -/
def wt (t : Nat → ℝ) (i : Nat) (T : ℝ) (c : Nat) : ℝ := if c ≤ i then Real.exp (t c - T) else 0

/-- A sum over a prefix that contains every key of the row is the sum over all keys. -/
theorem sum_prefix (t : Nat → ℝ) (i : Nat) (T : ℝ) (n N : Nat) (hi : i < n) (hn : n ≤ N) (g : Nat → EReal) :
    ∑ c : Fin n, (wt t i T c : EReal) * g c = ∑ c : Fin N, (wt t i T c : EReal) * g c := by
  rw [Fin.sum_univ_eq_sum_range (fun c => (wt t i T c : EReal) * g c) n,
    Fin.sum_univ_eq_sum_range (fun c => (wt t i T c : EReal) * g c) N]
  refine Finset.sum_subset (fun c hc => ?_) fun c _ hc => ?_
  · rw [Finset.mem_range] at *; omega
  · rw [Finset.mem_range] at hc
    simp [wt, show ¬ c ≤ i by omega]

/-- A kept or masked score in base two, against the row's largest. -/
theorem exp2_wt (t : Nat → ℝ) (i : Nat) (T L : ℝ) (hL : L = (Real.log 2)⁻¹) (c : Nat) (x : EReal)
    (hx : x = if c ≤ i then ((t c * L : ℝ) : EReal) else ⊥) : Ideal.exp2 (x - ((T * L : ℝ) : EReal)) = (wt t i T c : EReal) := by
  subst hx
  unfold wt
  split
  · rw [← EReal.coe_sub, Ideal.exp2_coe]
    congr 1
    show (2 : ℝ) ^ (t c * L - T * L) = _
    rw [Real.rpow_def_of_pos (by norm_num), hL]
    congr 1
    have : Real.log 2 ≠ 0 := (Real.log_pos (by norm_num)).ne'
    field_simp
  · rw [EReal.bot_sub, Ideal.exp2_bot]; rfl

/-- A kept or masked score, against the row's largest. -/
theorem exp_wt (t : Nat → ℝ) (i : Nat) (T : ℝ) (c : Nat) (x : EReal)
    (hx : x = if c ≤ i then (t c : EReal) else ⊥) : Ideal.exp (x - (T : EReal)) = (wt t i T c : EReal) := by
  subst hx
  unfold wt
  split
  · rw [← EReal.coe_sub, Ideal.exp_coe]
  · rw [EReal.bot_sub, Ideal.exp_bot]; rfl

/-- The kernel's row: base-two weights of a prefix of the keys, the quotient taken last. -/
def kRow {n : Nat} (mk v : Fin n → EReal) : EReal :=
  Ideal.div (∑ c, Ideal.exp2 (mk c - Finset.univ.fold max (Ideal.ofBits .f32 0xFF800000#32) mk) * v c)
    (∑ c, Ideal.exp2 (mk c - Finset.univ.fold max (Ideal.ofBits .f32 0xFF800000#32) mk))

/-- The reference's row: the softmax of the masked scores, then the weighted sum of the values. -/
def rRow {n : Nat} (ms v : Fin n → EReal) : EReal :=
  ∑ c, v c * Ideal.div (Ideal.exp (ms c - max (Ideal.ofBits .f32 0xFF800000#32) (Finset.univ.fold max (Ideal.ofBits .f32 0xFF800000#32) ms)))
    (∑ c, Ideal.exp (ms c - max (Ideal.ofBits .f32 0xFF800000#32) (Finset.univ.fold max (Ideal.ofBits .f32 0xFF800000#32) ms)))

/-- The two rows agree when the scores kept are real and the kernel's are the reference's in base two. -/
theorem row_eq (n N i : Nat) (hi : i < n) (hn : n ≤ N) (L : ℝ) (hL : L = (Real.log 2)⁻¹) (t : Nat → ℝ)
    (mk vk : Fin n → EReal) (ms v : Fin N → EReal) (hmk : ∀ c, mk c = if (c : Nat) ≤ i then ((t c * L : ℝ) : EReal) else ⊥)
    (hms : ∀ c, ms c = if (c : Nat) ≤ i then (t c : EReal) else ⊥) (hv : ∀ c : Fin n, vk c = v ⟨c, lt_of_lt_of_le c.isLt hn⟩) :
    kRow mk vk = rRow ms v := by
  have hL0 : 0 ≤ L := by rw [hL]; exact inv_nonneg.mpr (Real.log_pos (by norm_num)).le
  obtain ⟨c0, hc0, hT⟩ := Finset.exists_mem_eq_sup' (s := Finset.range (i + 1)) ⟨0, by simp⟩ t
  rw [Finset.mem_range] at hc0
  have hle : ∀ c, c ≤ i → t c ≤ t c0 := fun c hc => hT ▸ Finset.le_sup' t (Finset.mem_range.mpr (by omega))
  set T := t c0 with hTd
  have hk : Finset.univ.fold max (Ideal.ofBits .f32 0xFF800000#32) mk = ((T * L : ℝ) : EReal) :=
    fold_max_eq mk (fun c => t c * L) i (T * L) hmk (fun c hc => mul_le_mul_of_nonneg_right (hle c hc) hL0)
      ⟨c0, by omega⟩ (by show c0 ≤ i; omega) rfl
  have hr : Finset.univ.fold max (Ideal.ofBits .f32 0xFF800000#32) ms = (T : EReal) :=
    fold_max_eq ms t i T hms hle ⟨c0, by omega⟩ (by show c0 ≤ i; omega) rfl
  have hmx : max (⊥ : EReal) (T : EReal) = T := max_eq_right bot_le
  unfold kRow rRow
  rw [hk, hr, ninf, hmx]
  simp only [fun c : Fin n => exp2_wt t i T L hL c (mk c) (hmk c), fun c : Fin N => exp_wt t i T c (ms c) (hms c)]
  -- the row's normalizer
  have hs : ∑ c : Fin n, (wt t i T c : EReal) = ∑ c : Fin N, (wt t i T c : EReal) := by
    have h := sum_prefix t i T n N hi hn (fun _ => 1)
    simpa only [mul_one] using h
  have hpos : 0 < ∑ c : Fin N, wt t i T c := by
    refine Finset.sum_pos' (fun c _ => ?_) ⟨⟨i, by omega⟩, Finset.mem_univ _, ?_⟩
    · unfold wt; split
      · exact (Real.exp_pos _).le
      · exact le_rfl
    · unfold wt; rw [if_pos (le_refl i)]; exact Real.exp_pos _
  rw [hs, sum_coe Finset.univ (fun c : Fin N => wt t i T c)]
  set l : ℝ := ∑ c : Fin N, wt t i T c
  have hg : ∑ c : Fin n, (wt t i T c : EReal) * vk c = ∑ c : Fin N, (wt t i T c : EReal) * v c := by
    have h := sum_prefix t i T n N hi hn (fun c => if h : c < N then v ⟨c, h⟩ else 0)
    refine Eq.trans ?_ (h.trans ?_)
    · refine Finset.sum_congr rfl fun c _ => ?_
      rw [hv, dif_pos (lt_of_lt_of_le c.isLt hn)]
    · refine Finset.sum_congr rfl fun c _ => ?_
      rw [dif_pos c.isLt]
  rw [hg, Ideal.div_coe hpos.ne', sum_mul_coe _ _ _ (by positivity)]
  refine Finset.sum_congr rfl fun c _ => ?_
  rw [Ideal.div_coe hpos.ne', mul_comm (v c)]
  exact mul_right_comm _ _ _

end Cert.Attn
-- ==== Proof.AttnBlocks.lean ====
/-
  The attention call's payloads at an index: each of the sixteen query blocks computes the function `outAt` below from its scores `scAt`.
-/
module

public import proofs.«01_k».proof.Defs
public import proofs.«01_k».proof.Proof.Gen.KernelIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.KernelIdeal.Attn

open Cert.KernelIdeal Cert.KernelIdeal.Gen

/-- The score of stacked row `R` (two heads, one over the other) and key `c`: lanes outside the row's head read zero. -/
def scAt {n : Nat} (m0 m1 : IVec S1x256 1) (q q' : Vec Ideal S1x128x128 .bf16) (k k' : Vec Ideal ⟨3, ![1, n, 128]⟩ .bf16)
    (R : Fin 256) (c : Fin n) : EReal :=
  (∑ x : Fin 128, (if h : (R : Nat) < 128 then Scalar.select (m0 (ix2 0 ⟨x, by omega⟩)) (q (ix3 0 ⟨R, h⟩ x)) (0 : EReal)
      else Scalar.select (m1 (ix2 0 ⟨x, by omega⟩)) (q (ix3 0 ⟨R - 128, by omega⟩ x)) (0 : EReal)) * k (ix3 0 c x))
    + ∑ x : Fin 128, (if h : (R : Nat) < 128 then Scalar.select (m0 (ix2 0 ⟨128 + x, by omega⟩)) (q' (ix3 0 ⟨R, h⟩ x)) (0 : EReal)
      else Scalar.select (m1 (ix2 0 ⟨128 + x, by omega⟩)) (q' (ix3 0 ⟨R - 128, by omega⟩ x)) (0 : EReal)) * k' (ix3 0 c x)

/-- The value a masked score takes. -/
def masked : EReal := (Named.named κ "mask" (0xF149F2CA#32 : BitVec (FTy.bits .f32)) : Ideal .f32)

/-- The scores of one row with the last 128 keys masked by `b`. -/
def mrow {n : Nat} (q0 : Nat) (hn : q0 + 128 = n) (s : Fin n → EReal) (b : Fin 128 → BitVec 1) (x : Fin n) : EReal :=
  if h : (x : Nat) < q0 then s x
  else Scalar.select (b ⟨x - q0, by omega⟩) (s ⟨q0 + (x - q0), by omega⟩) masked

/-- The largest masked score of a row. -/
def mmax {n : Nat} (q0 : Nat) (hn : q0 + 128 = n) (s : Fin n → EReal) (b : Fin 128 → BitVec 1) : EReal :=
  Finset.univ.fold max (Ideal.ofBits .f32 0xFF800000#32) (mrow q0 hn s b)

/-- One row of the quotient, its sums taken over the unmasked keys and the last 128 apart. -/
def srow {n : Nat} (q0 : Nat) (hn : q0 + 128 = n) (s : Fin n → EReal) (b : Fin 128 → BitVec 1) (v : Fin n → EReal) : EReal :=
  Ideal.div
    ((∑ x : Fin q0, Ideal.exp2 (s ⟨x, by omega⟩ - mmax q0 hn s b) * v ⟨x, by omega⟩)
      + ∑ x : Fin 128, Ideal.exp2 (Scalar.select (b x) (s ⟨q0 + x, by omega⟩) masked - mmax q0 hn s b) * v ⟨q0 + x, by omega⟩)
    ((∑ x : Fin q0, Ideal.exp2 (s ⟨x, by omega⟩ - mmax q0 hn s b))
      + ∑ x : Fin 128, Ideal.exp2 (Scalar.select (b x) (s ⟨q0 + x, by omega⟩) masked - mmax q0 hn s b))

/-- An output block: lanes below 64 are the first head's rows, the others the second's. -/
def outAt {n : Nat} (q0 : Nat) (hn : q0 + 128 = n) (mk : IVec S256x128 1) (ln : IVec S1x128 32) (s : FVec Ideal ⟨2, ![256, n]⟩ .f32)
    (v : Vec Ideal ⟨3, ![1, n, 128]⟩ .bf16) (r d : Fin 128) : EReal :=
  Scalar.select (IntOp.cmpi .slt (ln (ix2 0 d)) 64#32)
    (srow q0 hn (fun c => s (ix2 ⟨r, by omega⟩ c)) (fun c => mk (ix2 ⟨r, by omega⟩ c)) (fun c => v (ix3 0 c d)))
    (srow q0 hn (fun c => s (ix2 ⟨128 + r, by omega⟩ c)) (fun c => mk (ix2 ⟨128 + r, by omega⟩ c)) (fun c => v (ix3 0 c d)))

variable (m0 m1 : IVec S1x256 1) (mk : IVec S256x128 1) (ln : IVec S1x128 32) (q q' : Vec Ideal S1x128x128 .bf16)

/-- The scores of the block whose queries see at most 128 keys. -/
theorem sc128 (k k' : Vec Ideal S1x128x128 .bf16) (R : Fin 256) (c : Fin 128) :
    k0_pay6 m0 m1 (k0_pay5 q) q' k k' (ix2 R c) = scAt m0 m1 q q' k k' R c := by
  pointwise [k0_pay5, k0_pay6, scAt]
  done

/-- The output block whose queries see at most 128 keys, from its scores. -/
theorem out128 (S : FVec Ideal S256x128 .f32) (v : Vec Ideal S1x128x128 .bf16) (r d : Fin 128) :
    k0_pay10 mk ln S v (ix3 0 r d) = outAt 0 rfl mk ln S v r d := by
  pointwise [k0_pay10, outAt, srow, mmax, mrow, masked]
  simp only [Nat.not_lt_zero, dite_false, Finset.univ_eq_empty, Finset.sum_empty, zero_add]
  rfl

/-- The scores of the block whose queries see at most 256 keys. -/
theorem sc256 (k k' : Vec Ideal S1x256x128 .bf16) (R : Fin 256) (c : Fin 256) :
    k0_pay9 (k0_pay7 m0 m1 q q') (k0_pay8 k k') (constant S256x256 .f32 0x00000000#32) (ix2 R c) = scAt m0 m1 q q' k k' R c := by
  pointwise [k0_pay7, k0_pay8, k0_pay9, scAt]
  done

/-- The output block whose queries see at most 256 keys, from its scores. -/
theorem out256 (S : FVec Ideal S256x256 .f32) (v : Vec Ideal S1x256x128 .bf16) (r d : Fin 128) :
    k0_pay13 mk ln S v (ix3 0 r d) = outAt 128 rfl mk ln S v r d := by
  pointwise [k0_pay13, outAt, srow, mmax, mrow, masked]
  rfl

/-- The scores of the block whose queries see at most 384 keys. -/
theorem sc384 (k k' : Vec Ideal S1x384x128 .bf16) (R : Fin 256) (c : Fin 384) :
    k0_pay12 (k0_pay11 m0 m1 q q') k k' (ix2 R c) = scAt m0 m1 q q' k k' R c := by
  pointwise [k0_pay11, k0_pay12, scAt]
  done

/-- The output block whose queries see at most 384 keys, from its scores. -/
theorem out384 (S : FVec Ideal S256x384 .f32) (v : Vec Ideal S1x384x128 .bf16) (r d : Fin 128) :
    k0_pay17 (k0_pay16 mk ln S v) (ix3 0 r d) = outAt 256 rfl mk ln S v r d := by
  pointwise [k0_pay16, k0_pay17, outAt, srow, mmax, mrow, masked]
  rfl

/-- The scores of the block whose queries see at most 512 keys. -/
theorem sc512 (k k' : Vec Ideal S1x512x128 .bf16) (R : Fin 256) (c : Fin 512) :
    k0_pay15 m0 m1 (k0_pay14 q) q' k k' (ix2 R c) = scAt m0 m1 q q' k k' R c := by
  pointwise [k0_pay14, k0_pay15, scAt]
  done

/-- The output block whose queries see at most 512 keys, from its scores. -/
theorem out512 (S : FVec Ideal S256x512 .f32) (v : Vec Ideal S1x512x128 .bf16) (r d : Fin 128) :
    k0_pay22 ln (k0_pay20 mk S) (k0_pay21 mk S) v (ix3 0 r d) = outAt 384 rfl mk ln S v r d := by
  pointwise [k0_pay20, k0_pay21, k0_pay22, k0_pay19, outAt, srow, mmax, mrow, masked]
  rfl

/-- The scores of the block whose queries see at most 640 keys. -/
theorem sc640 (k k' : Vec Ideal S1x640x128 .bf16) (R : Fin 256) (c : Fin 640) :
    k0_pay18 m0 m1 q q' k k' (ix2 R c) = scAt m0 m1 q q' k k' R c := by
  pointwise [k0_pay18, scAt]
  done

/-- The output block whose queries see at most 640 keys, from its scores. -/
theorem out640 (S : FVec Ideal S256x640 .f32) (v : Vec Ideal S1x640x128 .bf16) (r d : Fin 128) :
    k0_pay25 ln (k0_pay24 mk S) v (ix3 0 r d) = outAt 512 rfl mk ln S v r d := by
  pointwise [k0_pay24, k0_pay25, outAt, srow, mmax, mrow, masked]
  rfl

/-- The scores of the block whose queries see at most 768 keys. -/
theorem sc768 (k k' : Vec Ideal S1x768x128 .bf16) (R : Fin 256) (c : Fin 768) :
    k0_pay23 m0 m1 q q' k k' (ix2 R c) = scAt m0 m1 q q' k k' R c := by
  pointwise [k0_pay23, scAt]
  done

/-- The output block whose queries see at most 768 keys, from its scores. -/
theorem out768 (S : FVec Ideal S256x768 .f32) (v : Vec Ideal S1x768x128 .bf16) (r d : Fin 128) :
    k0_pay29 mk ln S v (ix3 0 r d) = outAt 640 rfl mk ln S v r d := by
  pointwise [k0_pay29, outAt, srow, mmax, mrow, masked]
  rfl

/-- The scores of the block whose queries see at most 896 keys. -/
theorem sc896 (k k' : Vec Ideal S1x896x128 .bf16) (R : Fin 256) (c : Fin 896) :
    k0_pay28 (k0_pay26 m0 m1 q q') (k0_pay27 k) k' (ix2 R c) = scAt m0 m1 q q' k k' R c := by
  pointwise [k0_pay26, k0_pay27, k0_pay28, scAt]
  done

/-- The output block whose queries see at most 896 keys, from its scores. -/
theorem out896 (S : FVec Ideal S256x896 .f32) (v : Vec Ideal S1x896x128 .bf16) (r d : Fin 128) :
    k0_pay33 (k0_pay32 mk ln S v) (ix3 0 r d) = outAt 768 rfl mk ln S v r d := by
  pointwise [k0_pay32, k0_pay33, outAt, srow, mmax, mrow, masked]
  rfl

/-- The scores of the block whose queries see at most 1024 keys. -/
theorem sc1024 (k k' : Vec Ideal S1x1024x128 .bf16) (R : Fin 256) (c : Fin 1024) :
    k0_pay31 m0 m1 (k0_pay30 q q') k k' (ix2 R c) = scAt m0 m1 q q' k k' R c := by
  pointwise [k0_pay30, k0_pay31, scAt]
  done

/-- The output block whose queries see at most 1024 keys, from its scores. -/
theorem out1024 (S : FVec Ideal S256x1024 .f32) (v : Vec Ideal S1x1024x128 .bf16) (r d : Fin 128) :
    k0_pay38 ln (k0_pay36 mk S v) (k0_pay37 mk S) (ix3 0 r d) = outAt 896 rfl mk ln S v r d := by
  pointwise [k0_pay36, k0_pay37, k0_pay38, k0_pay35, outAt, srow, mmax, mrow, masked]
  rfl

/-- The scores of the block whose queries see at most 1152 keys. -/
theorem sc1152 (k k' : Vec Ideal S1x1152x128 .bf16) (R : Fin 256) (c : Fin 1152) :
    k0_pay34 m0 m1 q q' k k' (ix2 R c) = scAt m0 m1 q q' k k' R c := by
  pointwise [k0_pay34, scAt]
  done

/-- The output block whose queries see at most 1152 keys, from its scores. -/
theorem out1152 (S : FVec Ideal S256x1152 .f32) (v : Vec Ideal S1x1152x128 .bf16) (r d : Fin 128) :
    k0_pay42 ln (k0_pay40 mk S) (k0_pay41 mk S) v (ix3 0 r d) = outAt 1024 rfl mk ln S v r d := by
  pointwise [k0_pay40, k0_pay41, k0_pay42, outAt, srow, mmax, mrow, masked]
  rfl

/-- The scores of the block whose queries see at most 1280 keys. -/
theorem sc1280 (k k' : Vec Ideal S1x1280x128 .bf16) (R : Fin 256) (c : Fin 1280) :
    k0_pay39 m0 m1 q q' k k' (ix2 R c) = scAt m0 m1 q q' k k' R c := by
  pointwise [k0_pay39, scAt]
  done

/-- The output block whose queries see at most 1280 keys, from its scores. -/
theorem out1280 (S : FVec Ideal S256x1280 .f32) (v : Vec Ideal S1x1280x128 .bf16) (r d : Fin 128) :
    k0_pay46 mk ln S v (ix3 0 r d) = outAt 1152 rfl mk ln S v r d := by
  pointwise [k0_pay46, outAt, srow, mmax, mrow, masked]
  rfl

/-- The scores of the block whose queries see at most 1408 keys. -/
theorem sc1408 (k k' : Vec Ideal S1x1408x128 .bf16) (R : Fin 256) (c : Fin 1408) :
    k0_pay45 (k0_pay43 m0 m1 q q') (k0_pay44 k) k' (ix2 R c) = scAt m0 m1 q q' k k' R c := by
  pointwise [k0_pay43, k0_pay44, k0_pay45, scAt]
  done

/-- The output block whose queries see at most 1408 keys, from its scores. -/
theorem out1408 (S : FVec Ideal S256x1408 .f32) (v : Vec Ideal S1x1408x128 .bf16) (r d : Fin 128) :
    k0_pay51 mk ln S v (ix3 0 r d) = outAt 1280 rfl mk ln S v r d := by
  pointwise [k0_pay51, outAt, srow, mmax, mrow, masked]
  rfl

/-- The scores of the block whose queries see at most 1536 keys. -/
theorem sc1536 (k k' : Vec Ideal S1x1536x128 .bf16) (R : Fin 256) (c : Fin 1536) :
    k0_pay50 m1 (k0_pay47 q q') (k0_pay48 (F := Ideal)) (k0_pay49 m0) k k' (ix2 R c) = scAt m0 m1 q q' k k' R c := by
  pointwise [k0_pay47, k0_pay48, k0_pay49, k0_pay50, scAt]
  done

/-- The output block whose queries see at most 1536 keys, from its scores. -/
theorem out1536 (S : FVec Ideal S256x1536 .f32) (v : Vec Ideal S1x1536x128 .bf16) (r d : Fin 128) :
    k0_pay55 (k0_pay53 mk S v) (k0_pay54 ln) (ix3 0 r d) = outAt 1408 rfl mk ln S v r d := by
  pointwise [k0_pay53, k0_pay54, k0_pay55, outAt, srow, mmax, mrow, masked]
  rfl

/-- The scores of the block whose queries see at most 1664 keys. -/
theorem sc1664 (k k' : Vec Ideal S1x1664x128 .bf16) (R : Fin 256) (c : Fin 1664) :
    k0_pay52 m0 m1 q q' k k' (ix2 R c) = scAt m0 m1 q q' k k' R c := by
  pointwise [k0_pay52, scAt]
  done

/-- The output block whose queries see at most 1664 keys, from its scores. -/
theorem out1664 (S : FVec Ideal S256x1664 .f32) (v : Vec Ideal S1x1664x128 .bf16) (r d : Fin 128) :
    k0_pay59 ln (k0_pay57 mk S) (k0_pay58 mk S) v (ix3 0 r d) = outAt 1536 rfl mk ln S v r d := by
  pointwise [k0_pay57, k0_pay58, k0_pay59, outAt, srow, mmax, mrow, masked]
  rfl

/-- The scores of the block whose queries see at most 1792 keys. -/
theorem sc1792 (k k' : Vec Ideal S1x1792x128 .bf16) (R : Fin 256) (c : Fin 1792) :
    k0_pay56 m0 m1 q q' k k' (ix2 R c) = scAt m0 m1 q q' k k' R c := by
  pointwise [k0_pay56, scAt]
  done

/-- The output block whose queries see at most 1792 keys, from its scores. -/
theorem out1792 (S : FVec Ideal S256x1792 .f32) (v : Vec Ideal S1x1792x128 .bf16) (r d : Fin 128) :
    k0_pay61 mk ln S v (ix3 0 r d) = outAt 1664 rfl mk ln S v r d := by
  pointwise [k0_pay61, outAt, srow, mmax, mrow, masked]
  rfl

/-- The scores of the block whose queries see at most 1920 keys. -/
theorem sc1920 (k k' : Vec Ideal S1x1920x128 .bf16) (R : Fin 256) (c : Fin 1920) :
    k0_pay60 m0 m1 q q' k k' (ix2 R c) = scAt m0 m1 q q' k k' R c := by
  pointwise [k0_pay60, scAt]
  done

/-- The output block whose queries see at most 1920 keys, from its scores. -/
theorem out1920 (S : FVec Ideal S256x1920 .f32) (v : Vec Ideal S1x1920x128 .bf16) (r d : Fin 128) :
    k0_pay67 mk ln S v (ix3 0 r d) = outAt 1792 rfl mk ln S v r d := by
  pointwise [k0_pay67, outAt, srow, mmax, mrow, masked]
  rfl

/-- The scores of the block whose queries see at most 2048 keys. -/
theorem sc2048 (k k' : Vec Ideal S1x2048x128 .bf16) (R : Fin 256) (c : Fin 2048) :
    k0_pay66 (k0_pay64 m0 q q') (k0_pay65 m1 q q') k k' (ix2 R c) = scAt m0 m1 q q' k k' R c := by
  pointwise [k0_pay64, k0_pay65, k0_pay66, k0_pay62, k0_pay63, scAt]
  done

/-- The output block whose queries see at most 2048 keys, from its scores. -/
theorem out2048 (A B : FVec Ideal S128x256 .bf16) (k k' v : Vec Ideal S1x2048x128 .bf16) (r d : Fin 128) :
    k0_pay1 ln (k0_pay68 mk A B k k') (k0_pay69 A B k k') v (ix3 0 r d) = outAt 1920 rfl mk ln (k0_pay66 A B k k') v r d := by
  pointwise [k0_pay1, k0_pay68, k0_pay69, outAt, srow, mmax, mrow, masked]
  rfl

end Cert.KernelIdeal.Attn
-- ==== Proof.AttnValue.lean ====
/-
  The value of the attention call (`Kernel`) at the ideal instance, on arguments whose queries and keys are real: every
  entry of its result is the reference's softmax row.
-/
module

public import proofs.«01_k».proof.Defs
public import proofs.«01_k».proof.Proof.AttnMath
public import proofs.«01_k».proof.Proof.AttnBlocks
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.KernelIdeal.Attn
open Cert.KernelIdeal Cert.KernelIdeal.Gen
open Cert.Attn (kRow rRow row_eq sum_coe sum_mul_coe ninf)

/-! ## The lane masks and the causal mask -/

/-- The lanes of the first head. -/
theorem pay2_at : ∀ x : Fin 256, k0_pay2 (ix2 0 x) = if (x : Nat) < 64 ∨ (128 ≤ (x : Nat) ∧ (x : Nat) < 160) then 1#1 else 0#1 := by
  intro x
  pointwise [k0_pay2]
  revert x
  decide +kernel

/-- The lanes of the second head. -/
theorem pay3_at : ∀ x : Fin 256, k0_pay3 (ix2 0 x) = if (64 ≤ (x : Nat) ∧ (x : Nat) < 128) ∨ (160 ≤ (x : Nat) ∧ (x : Nat) < 192) then 1#1 else 0#1 := by
  intro x
  pointwise [k0_pay3]
  revert x
  decide +kernel

/-- Comparison of two numbers below 2048 as words. -/
theorem sle_at (a b : Fin 2048) : IntOp.cmpi .sle (BitVec.ofNat 32 (a : Nat)) (BitVec.ofNat 32 (b : Nat)) = if (a : Nat) ≤ (b : Nat) then 1#1 else 0#1 := by
  have ha : (BitVec.ofNat 32 (a : Nat)).toInt = (a : Int) := by
    rw [BitVec.toInt_ofNat']; rw [Int.bmod_eq_of_le] <;> omega
  have hb : (BitVec.ofNat 32 (b : Nat)).toInt = (b : Int) := by
    rw [BitVec.toInt_ofNat']; rw [Int.bmod_eq_of_le] <;> omega
  simp only [IntOp.cmpi, BitVec.sle, ha, hb, Nat.cast_le]
  by_cases h : (a : Nat) ≤ (b : Nat) <;> simp [h]

/-- The row of a stacked row within its head. -/
theorem rem_at : ∀ R : Fin 256, Scalar.select
        (IntOp.andi
          (IntOp.xori
            (IntOp.cmpi CmpIPredicate.slt
              (IntOp.remsi ArithUnit.vector (BitVec.ofNat 32 ↑R)
                (Scalar.select (Scalar.cmpi CmpIPredicate.eq 128#32 0#32) 1#32 128#32))
              0#32)
            (Scalar.cmpi CmpIPredicate.slt (Scalar.select (Scalar.cmpi CmpIPredicate.eq 128#32 0#32) 1#32 128#32) 0#32))
          (IntOp.cmpi CmpIPredicate.ne
            (IntOp.remsi ArithUnit.vector (BitVec.ofNat 32 ↑R)
              (Scalar.select (Scalar.cmpi CmpIPredicate.eq 128#32 0#32) 1#32 128#32))
            0#32))
        (IntOp.addi
          (IntOp.remsi ArithUnit.vector (BitVec.ofNat 32 ↑R)
            (Scalar.select (Scalar.cmpi CmpIPredicate.eq 128#32 0#32) 1#32 128#32))
          (Scalar.select (Scalar.cmpi CmpIPredicate.eq 128#32 0#32) 1#32 128#32))
        (IntOp.remsi ArithUnit.vector (BitVec.ofNat 32 ↑R)
          (Scalar.select (Scalar.cmpi CmpIPredicate.eq 128#32 0#32) 1#32 128#32)) = BitVec.ofNat 32 ((R : Nat) % 128) := by
  decide +kernel

/-- The causal mask of the diagonal block. -/
theorem pay4_at (R : Fin 256) (c : Fin 128) : k0_pay4 (ix2 R c) = if (c : Nat) ≤ (R : Nat) % 128 then 1#1 else 0#1 := by
  pointwise [k0_pay4]
  rw [rem_at]
  exact sle_at ⟨c, by omega⟩ ⟨(R : Nat) % 128, by omega⟩

/-- A masked score is minus infinity. -/
theorem masked_eq : masked = ⊥ := IdealRules.named_const.ideal_named_scalar κ "mask" (φ := .f32) 0xF149F2CA#32 ⊥ rfl

/-! ## The scores -/

/-- A sum over 128 lanes of which only `a ≤ x < a + w` are read. -/
theorem lane_sum (a w : Nat) (haw : a + w ≤ 128) (f g : Fin 128 → EReal) (p : Fin 128 → BitVec 1)
    (hp : ∀ x, p x = if a ≤ (x : Nat) ∧ (x : Nat) < a + w then 1#1 else 0#1) :
    ∑ x, Scalar.select (p x) (f x) 0 * g x = ∑ y : Fin w, f ⟨a + y, by omega⟩ * g ⟨a + y, by omega⟩ := by
  let F : Nat → EReal := fun x => if h : x < 128 then f ⟨x, h⟩ * g ⟨x, h⟩ else 0
  have e : ∀ x : Fin 128, Scalar.select (p x) (f x) 0 * g x = if a ≤ (x : Nat) ∧ (x : Nat) < a + w then F x else 0 := fun x => by
    rw [hp]
    by_cases h : a ≤ (x : Nat) ∧ (x : Nat) < a + w
    · rw [if_pos h, if_pos h]; simp [Scalar.select, F]
    · rw [if_neg h, if_neg h]; simp [Scalar.select]
  rw [Finset.sum_congr rfl fun x _ => e x,
    Fin.sum_univ_eq_sum_range (fun x => if a ≤ x ∧ x < a + w then F x else 0) 128, ← Finset.sum_filter,
    show (Finset.range 128).filter (fun x => a ≤ x ∧ x < a + w) = Finset.Ico a (a + w) by ext x; simp; omega,
    Finset.sum_Ico_eq_sum_range, Nat.add_sub_cancel_left, ← Fin.sum_univ_eq_sum_range (fun y => F (a + y)) w]
  refine Finset.sum_congr rfl fun y _ => ?_
  exact dif_pos (show a + (y : Nat) < 128 by omega)

/-- The score of a stacked row: its own head's lanes. -/
theorem sc_at {n : Nat} (q q' : Vec Ideal S1x128x128 .bf16) (k k' : Vec Ideal ⟨3, ![1, n, 128]⟩ .bf16) (e : Fin 2) (r : Fin 128) (c : Fin n) :
    scAt k0_pay2 k0_pay3 q q' k k' ⟨128 * (e : Nat) + r, by omega⟩ c
      = (∑ y : Fin 64, (q (ix3 0 r ⟨64 * (e : Nat) + y, by omega⟩) : EReal) * k (ix3 0 c ⟨64 * (e : Nat) + y, by omega⟩))
        + ∑ y : Fin 32, (q' (ix3 0 r ⟨32 * (e : Nat) + y, by omega⟩) : EReal) * k' (ix3 0 c ⟨32 * (e : Nat) + y, by omega⟩) := by
  unfold scAt
  obtain rfl | rfl : e = 0 ∨ e = 1 := by omega
  · refine Ideal.add_congr ?_ ?_
    · refine Eq.trans (Finset.sum_congr rfl fun x _ => ?_) (lane_sum 0 64 (by omega) (fun x => q (ix3 0 r x)) (fun x => k (ix3 0 c x)) (fun x => k0_pay2 (ix2 0 ⟨x, by omega⟩)) fun x => ?_)
      · rw [dif_pos (show 128 * ((0 : Fin 2) : Nat) + (r : Nat) < 128 by simp)]
        simp
      · rw [pay2_at]; congr 1; simp <;> omega
    · refine Eq.trans (Finset.sum_congr rfl fun x _ => ?_) (lane_sum 0 32 (by omega) (fun x => q' (ix3 0 r x)) (fun x => k' (ix3 0 c x)) (fun x => k0_pay2 (ix2 0 ⟨128 + x, by omega⟩)) fun x => ?_)
      · rw [dif_pos (show 128 * ((0 : Fin 2) : Nat) + (r : Nat) < 128 by simp)]
        simp
      · rw [pay2_at]; congr 1; simp <;> omega
  · refine Ideal.add_congr ?_ ?_
    · refine Eq.trans (Finset.sum_congr rfl fun x _ => ?_) (lane_sum 64 64 (by omega) (fun x => q (ix3 0 r x)) (fun x => k (ix3 0 c x)) (fun x => k0_pay3 (ix2 0 ⟨x, by omega⟩)) fun x => ?_)
      · rw [dif_neg (show ¬ 128 * ((1 : Fin 2) : Nat) + (r : Nat) < 128 by simp)]
        simp
      · rw [pay3_at]; congr 1; simp <;> omega
    · refine Eq.trans (Finset.sum_congr rfl fun x _ => ?_) (lane_sum 32 32 (by omega) (fun x => q' (ix3 0 r x)) (fun x => k' (ix3 0 c x)) (fun x => k0_pay3 (ix2 0 ⟨128 + x, by omega⟩)) fun x => ?_)
      · rw [dif_neg (show ¬ 128 * ((1 : Fin 2) : Nat) + (r : Nat) < 128 by simp)]
        simp
      · rw [pay3_at]; congr 1; simp <;> omega

/-! ## A row of the quotient -/

/-- The row's two partial sums are one sum over the keys. -/
theorem srow_eq {n : Nat} (q0 : Nat) (hn : q0 + 128 = n) (s : Fin n → EReal) (b : Fin 128 → BitVec 1) (v : Fin n → EReal) :
    srow q0 hn s b v = kRow (mrow q0 hn s b) v := by
  subst hn
  unfold srow kRow
  rw [Fin.sum_univ_add, Fin.sum_univ_add]
  have l : ∀ x : Fin q0, mrow q0 rfl s b (Fin.castAdd 128 x) = s ⟨x, by omega⟩ := fun x => dif_pos x.isLt
  have r : ∀ x : Fin 128, mrow q0 rfl s b (Fin.natAdd q0 x) = Scalar.select (b x) (s ⟨q0 + x, by omega⟩) masked := fun x => by
    unfold mrow
    rw [dif_neg (by simp)]
    simp
  simp only [l, r]
  rfl

/-- The causal mask keeps the keys up to the row's own position. -/
theorem mrow_eq {n : Nat} (q0 : Nat) (hn : q0 + 128 = n) (s : Fin n → EReal) (R : Fin 256) (x : Fin n) :
    mrow q0 hn s (fun c => k0_pay4 (ix2 R c)) x = if (x : Nat) ≤ q0 + (R : Nat) % 128 then s x else ⊥ := by
  unfold mrow
  rw [masked_eq]
  by_cases h : (x : Nat) < q0
  · rw [dif_pos h, if_pos (by omega)]
  · rw [dif_neg h]
    dsimp only
    rw [pay4_at]
    by_cases h' : (x : Nat) ≤ q0 + (R : Nat) % 128
    · rw [if_pos (show (x : Nat) - q0 ≤ (R : Nat) % 128 by omega), if_pos h']
      simp only [Scalar.select]
      refine congrArg s (Fin.ext ?_)
      show q0 + ((x : Nat) - q0) = x
      omega
    · rw [if_neg (show ¬ (x : Nat) - q0 ≤ (R : Nat) % 128 by omega), if_neg h']
      simp [Scalar.select]

end Cert.KernelIdeal.Attn
-- ==== Proof.AttnRows.lean ====
/-
  The attention call's blocks read from its arguments, and each query row's result as the reference's softmax row.
-/
module

public import proofs.«01_k».proof.Proof.AttnValue

@[expose] public section

set_option maxRecDepth 16384

noncomputable section

open Idealize.ShloMosaic Idealize.ShloMosaic.TcCoe Idealize.SL.Sem
open Idealize.ShloMosaic.Pipeline (Dat)

namespace Cert.KernelIdeal.Attn
open Cert.KernelIdeal Cert.KernelIdeal.Gen
open Cert.Attn (kRow rRow row_eq sum_coe sum_mul_coe ninf)

variable (m : (ℓ : Loc nD τ sig) → Buf (Elt Ideal) ℓ)

/-- The factor the queries carry: the softmax scale in base two. -/
def scale : EReal := Ideal.div 1 (Ideal.log (Ideal.ofBits .f32 0x40000000#32) * Ideal.sqrt (Ideal.ofBits .f32 0x42C00000#32))

/-- An entry of the queries' first part. -/
def A0 (c : Dev nD) (b : Fin 8) (s : Fin 2048) (h : Fin 16) (d : Fin 64) : EReal := m ((c : Thread nD τ).loc main_arg0) (ix4 b s h d)

/-- An entry of the queries' rotated part. -/
def A1 (c : Dev nD) (b : Fin 8) (s : Fin 2048) (h : Fin 16) (d : Fin 32) : EReal := m ((c : Thread nD τ).loc main_arg1) (ix4 b s h d)

/-- An entry of the keys' first part. -/
def A2 (c : Dev nD) (b : Fin 8) (s : Fin 2048) (h : Fin 16) (d : Fin 64) : EReal := m ((c : Thread nD τ).loc main_arg2) (ix4 b s h d)

/-- An entry of the keys' rotated part, which the heads share. -/
def A3 (c : Dev nD) (b : Fin 8) (s : Fin 2048) (d : Fin 32) : EReal := m ((c : Thread nD τ).loc main_arg3) (ix3 b s d)

/-- An entry of the values. -/
def A4 (c : Dev nD) (b : Fin 8) (s : Fin 2048) (h : Fin 16) (d : Fin 64) : EReal := m ((c : Thread nD τ).loc main_arg4) (ix4 b s h d)

/-- The blocks a grid point reads and writes. -/
theorem idx : ∀ t : Fin cfg0.N, win0_0.index t = ![t.val / 8, 0, t.val % 8] ∧ win0_1.index t = ![t.val / 8, 0, t.val % 8]
    ∧ win0_2.index t = ![t.val / 8, 0, t.val % 8] ∧ win0_3.index t = ![t.val / 8, 0, 0] ∧ win0_4.index t = ![t.val / 8, 0, t.val % 8]
    ∧ win0_5.index t = ![t.val / 8, 0, t.val % 8] := (by decide +kernel : ∀ t : Fin grid0.N, _)

/-- The host's scaled queries at an index. -/
theorem V7_at (c : Dev nD) (b : Fin 8) (s : Fin 2048) (l : Fin 1024) :
    V m c main_v7 (ix3 b s l) = A0 m c b s ⟨(l : Nat) / 64, by omega⟩ ⟨(l : Nat) % 64, by omega⟩ * scale := by
  unfold V
  after_reads_at
  refine Ideal.mul_congr ?_ rfl
  blk_ext! [A0]

/-- The host's scaled rotated queries at a lane that holds one. -/
theorem V14_at (c : Dev nD) (b : Fin 8) (s : Fin 2048) (l : Fin 1024) (hl : (l : Nat) % 128 < 64) :
    V m c main_v14 (ix3 b s l) = A1 m c b s ⟨2 * ((l : Nat) / 128) + (l : Nat) % 128 / 32, by omega⟩ ⟨(l : Nat) % 32, by omega⟩ * scale := by
  unfold V
  after_reads_at
  rw [dif_pos hl]
  after_reads_at
  refine Ideal.mul_congr ?_ rfl
  blk_ext! [A1]

/-- The host's rotated keys, held once for each of a pair's two heads. -/
theorem V19_at (c : Dev nD) (b : Fin 8) (s : Fin 2048) (l : Fin 128) (hl : (l : Nat) < 64) :
    V m c main_v19 (ix3 b s l) = A3 m c b s ⟨(l : Nat) % 32, by omega⟩ := by
  unfold V
  after_reads_at
  by_cases h : (l : Nat) < 32
  · rw [dif_pos h]
    after_reads_at
    blk_ext! [A3]
  · rw [dif_neg h, dif_pos (by omega)]
    after_reads_at
    blk_ext! [A3]

/-- A query block at an index. -/
theorem read0 (c : Dev nD) (t : Fin cfg0.N) (ht : t.val < 64) (s : Fin 2048) (l : Fin 128) :
    iblk m c 0 t (ix3 0 s l) = A0 m c ⟨t.val / 8, by omega⟩ s ⟨2 * (t.val % 8) + (l : Nat) / 64, by omega⟩ ⟨(l : Nat) % 64, by omega⟩ * scale := by
  have e : ((cfg0.win 0).blk t).view.emb (ix3 0 s l) = (ix3 ⟨t.val / 8, by omega⟩ s ⟨128 * (t.val % 8) + l, by omega⟩ : S8x2048x1024.Idx) := by
    blk_ext [idx t]
  refine (congrArg (V m c main_v7) e).trans ((V7_at m c _ _ _).trans ?_)
  refine Ideal.mul_congr ?_ rfl
  congr 1 <;> exact Fin.ext (by dsimp only; omega)

/-- A rotated query block at a lane that holds a query. -/
theorem read1 (c : Dev nD) (t : Fin cfg0.N) (ht : t.val < 64) (s : Fin 2048) (l : Fin 128) (hl : (l : Nat) < 64) :
    iblk m c 1 t (ix3 0 s l) = A1 m c ⟨t.val / 8, by omega⟩ s ⟨2 * (t.val % 8) + (l : Nat) / 32, by omega⟩ ⟨(l : Nat) % 32, by omega⟩ * scale := by
  have e : ((cfg0.win 1).blk t).view.emb (ix3 0 s l) = (ix3 ⟨t.val / 8, by omega⟩ s ⟨128 * (t.val % 8) + l, by omega⟩ : S8x2048x1024.Idx) := by
    blk_ext [idx t]
  refine (congrArg (V m c main_v14) e).trans ((V14_at m c _ _ _ (by dsimp only; omega)).trans ?_)
  refine Ideal.mul_congr ?_ rfl
  congr 1 <;> exact Fin.ext (by dsimp only; omega)

/-- A key block at an index. -/
theorem read2 (c : Dev nD) (t : Fin cfg0.N) (ht : t.val < 64) (s : Fin 2048) (l : Fin 128) :
    iblk m c 2 t (ix3 0 s l) = A2 m c ⟨t.val / 8, by omega⟩ s ⟨2 * (t.val % 8) + (l : Nat) / 64, by omega⟩ ⟨(l : Nat) % 64, by omega⟩ := by
  unfold A2
  blk_ext! [iblk, V, idx t]

/-- A rotated key block at a lane that holds a key. -/
theorem read3 (c : Dev nD) (t : Fin cfg0.N) (ht : t.val < 64) (s : Fin 2048) (l : Fin 128) (hl : (l : Nat) < 64) :
    iblk m c 3 t (ix3 0 s l) = A3 m c ⟨t.val / 8, by omega⟩ s ⟨(l : Nat) % 32, by omega⟩ := by
  have e : ((cfg0.win 3).blk t).view.emb (ix3 0 s l) = (ix3 ⟨t.val / 8, by omega⟩ s l : S8x2048x128.Idx) := by
    blk_ext [idx t]
  exact (congrArg (V m c main_v19) e).trans (V19_at m c _ _ _ hl)

/-- A value block at an index. -/
theorem read4 (c : Dev nD) (t : Fin cfg0.N) (ht : t.val < 64) (s : Fin 2048) (l : Fin 128) :
    iblk m c 4 t (ix3 0 s l) = A4 m c ⟨t.val / 8, by omega⟩ s ⟨2 * (t.val % 8) + (l : Nat) / 64, by omega⟩ ⟨(l : Nat) % 64, by omega⟩ := by
  unfold A4
  blk_ext! [iblk, V, idx t]

/-! ## The scores of real arguments -/

/-- The queries and the keys are real numbers. -/
def Reals (c : Dev nD) : Prop :=
  ∃ (a0 : Fin 8 → Fin 2048 → Fin 16 → Fin 64 → ℝ) (a1 : Fin 8 → Fin 2048 → Fin 16 → Fin 32 → ℝ)
    (a2 : Fin 8 → Fin 2048 → Fin 16 → Fin 64 → ℝ) (a3 : Fin 8 → Fin 2048 → Fin 32 → ℝ),
    (∀ b s h d, A0 m c b s h d = (a0 b s h d : EReal)) ∧ (∀ b s h d, A1 m c b s h d = (a1 b s h d : EReal))
      ∧ (∀ b s h d, A2 m c b s h d = (a2 b s h d : EReal)) ∧ (∀ b s d, A3 m c b s d = (a3 b s d : EReal))

/-- The reference's score of a query and a key. -/
def rsc (c : Dev nD) (b : Fin 8) (h : Fin 16) (s x : Fin 2048) : EReal :=
  Ideal.div (∑ y, A0 m c b s h y * A2 m c b x h y + ∑ y, A3 m c b x y * A1 m c b s h y) (Ideal.sqrt (Ideal.ofBits .f32 0x42C00000#32))

/-- The kernel's score of a query and a key. -/
def ksc (c : Dev nD) (b : Fin 8) (h : Fin 16) (s x : Fin 2048) : EReal :=
  ∑ y, (A0 m c b s h y * scale) * A2 m c b x h y + ∑ y, (A1 m c b s h y * scale) * A3 m c b x y

/-- The scale's root is a real number. -/
theorem sqrt96 : Ideal.sqrt (Ideal.ofBits .f32 0x42C00000#32) = ((Real.sqrt 96 : ℝ) : EReal) := by
  have h : Ideal.ofBits .f32 0x42C00000#32 = ((96 : ℝ) : EReal) := by
    simp [Ideal.ofBits, Ideal.ieee]
    rw [← EReal.coe_mul]
    norm_num
  rw [h, Ideal.sqrt_coe, if_neg (by norm_num)]

/-- The scale is a real number. -/
theorem scale_coe : scale = ((1 / (Real.log 2 * Real.sqrt 96) : ℝ) : EReal) := by
  have h : Ideal.ofBits .f32 0x40000000#32 = ((2 : ℝ) : EReal) := by
    simp [Ideal.ofBits, Ideal.ieee]
    rw [← EReal.coe_mul]
    norm_num
  have hl : Real.log 2 ≠ 0 := (Real.log_pos (by norm_num)).ne'
  have hs : Real.sqrt 96 ≠ 0 := (Real.sqrt_pos.mpr (by norm_num)).ne'
  unfold scale
  rw [sqrt96, h, Ideal.log_coe, if_neg (by norm_num), ← EReal.coe_mul, Ideal.div_coe (mul_ne_zero hl hs), one_mul]

/-- The kernel's scores are the reference's in base two. -/
theorem scores (c : Dev nD) (hf : Reals m c) (b : Fin 8) (h : Fin 16) (s : Fin 2048) :
    ∃ t : Nat → ℝ, ∀ x : Fin 2048, rsc m c b h s x = (t x : EReal) ∧ ksc m c b h s x = ((t x * (Real.log 2)⁻¹ : ℝ) : EReal) := by
  obtain ⟨a0, a1, a2, a3, h0, h1, h2, h3⟩ := hf
  have hl : Real.log 2 ≠ 0 := (Real.log_pos (by norm_num)).ne'
  have hs : Real.sqrt 96 ≠ 0 := (Real.sqrt_pos.mpr (by norm_num)).ne'
  refine ⟨fun x => if hx : x < 2048 then (∑ y, a0 b s h y * a2 b ⟨x, hx⟩ h y + ∑ y, a3 b ⟨x, hx⟩ y * a1 b s h y) / Real.sqrt 96 else 0, fun x => ?_⟩
  simp only [dif_pos x.isLt]
  constructor
  · unfold rsc
    simp only [h0, h1, h2, h3, ← EReal.coe_mul, sum_coe, ← EReal.coe_add]
    rw [sqrt96, Ideal.div_coe hs, ← EReal.coe_mul]
    congr 1
    ring
  · unfold ksc
    simp only [h0, h1, h2, h3, scale_coe, ← EReal.coe_mul, sum_coe, ← EReal.coe_add]
    congr 1
    have e0 : ∀ y, a0 b s h y * (1 / (Real.log 2 * Real.sqrt 96)) * a2 b x h y = (a0 b s h y * a2 b x h y) * (1 / (Real.log 2 * Real.sqrt 96)) := fun y => by ring
    have e1 : ∀ y, a1 b s h y * (1 / (Real.log 2 * Real.sqrt 96)) * a3 b x y = (a3 b x y * a1 b s h y) * (1 / (Real.log 2 * Real.sqrt 96)) := fun y => by ring
    simp only [e0, e1, ← Finset.sum_mul]
    field_simp

/-! ## A result entry -/

/-- The reference's result at an index: the softmax row of the masked scores against the values. -/
def rowAt (c : Dev nD) (b : Fin 8) (r : Fin 2048) (d : Fin 1024) : EReal :=
  rRow (fun x : Fin 2048 => Scalar.select (IntOp.cmpi .sle (BitVec.ofNat 32 (x : Nat)) (BitVec.ofNat 32 (r : Nat)))
      (rsc m c b ⟨(d : Nat) / 64, by omega⟩ r x) (Ideal.ofBits .f32 0xFF800000#32))
    (fun x => A4 m c b x ⟨(d : Nat) / 64, by omega⟩ ⟨(d : Nat) % 64, by omega⟩)

/-- The result array. -/
def G (c : Dev nD) : Vec Ideal S8x2048x1024 .bf16 := fun i => rowAt m c (i 0) (i 1) (i 2)

/-- One head's row of a block is the reference's row. -/
theorem head_row {n : Nat} (c : Dev nD) (hf : Reals m c) (t : Fin cfg0.N) (ht : t.val < 64) (q0 : Nat) (hn : q0 + 128 = n) (hN : n ≤ 2048)
    (s : FVec Ideal ⟨2, ![256, n]⟩ .f32) (q q' : Vec Ideal S1x128x128 .bf16) (k k' v : Vec Ideal ⟨3, ![1, n, 128]⟩ .bf16)
    (hq : ∀ r l, q (ix3 0 r l) = iblk m c 0 t (ix3 0 ⟨q0 + r, by omega⟩ l)) (hq' : ∀ r l, q' (ix3 0 r l) = iblk m c 1 t (ix3 0 ⟨q0 + r, by omega⟩ l))
    (hk : ∀ x l, k (ix3 0 x l) = iblk m c 2 t (ix3 0 ⟨x, by omega⟩ l)) (hk' : ∀ x l, k' (ix3 0 x l) = iblk m c 3 t (ix3 0 ⟨x, by omega⟩ l))
    (hv : ∀ x l, v (ix3 0 x l) = iblk m c 4 t (ix3 0 ⟨x, by omega⟩ l)) (hS : ∀ R x, s (ix2 R x) = scAt k0_pay2 k0_pay3 q q' k k' R x)
    (e : Fin 2) (r d : Fin 128) (hd : (d : Nat) / 64 = e) :
    srow q0 hn (fun x => s (ix2 ⟨128 * (e : Nat) + r, by omega⟩ x)) (fun x => k0_pay4 (ix2 ⟨128 * (e : Nat) + r, by omega⟩ x)) (fun x => v (ix3 0 x d))
      = rowAt m c ⟨t.val / 8, by omega⟩ ⟨q0 + r, by omega⟩ ⟨128 * (t.val % 8) + d, by omega⟩ := by
  obtain ⟨T, hT⟩ := scores m c hf ⟨t.val / 8, by omega⟩ ⟨2 * (t.val % 8) + e, by omega⟩ ⟨q0 + r, by omega⟩
  have hh : (⟨(128 * (t.val % 8) + (d : Nat)) / 64, by omega⟩ : Fin 16) = ⟨2 * (t.val % 8) + e, by omega⟩ := Fin.ext (by dsimp only; omega)
  rw [srow_eq]
  refine row_eq n 2048 (q0 + r) (by omega) hN (Real.log 2)⁻¹ rfl T _ _ _ _ (fun x => ?_) (fun x => ?_) fun x => ?_
  · rw [mrow_eq]
    have hR : (128 * (e : Nat) + (r : Nat)) % 128 = r := by omega
    dsimp only
    rw [hR]
    refine if_congr Iff.rfl ?_ rfl
    refine Eq.trans ?_ (hT ⟨x, by omega⟩).2
    rw [hS, sc_at]
    unfold ksc
    refine Ideal.add_congr (Finset.sum_congr rfl fun y _ => ?_) (Finset.sum_congr rfl fun y _ => ?_)
    · rw [hq, hk, read0 m c t ht, read2 m c t ht]
      refine Ideal.mul_congr (Ideal.mul_congr ?_ rfl) ?_ <;> congr 1 <;> exact Fin.ext (by dsimp only; omega)
    · rw [hq', hk', read1 m c t ht _ _ (by dsimp only; omega), read3 m c t ht _ _ (by dsimp only; omega)]
      refine Ideal.mul_congr (Ideal.mul_congr ?_ rfl) ?_ <;> congr 1 <;> exact Fin.ext (by dsimp only; omega)
  · dsimp only
    rw [hh, (hT x).1, sle_at x ⟨q0 + r, by omega⟩, ninf]
    dsimp only
    by_cases h : (x : Nat) ≤ q0 + r
    · rw [if_pos h, if_pos h]; rfl
    · rw [if_neg h, if_neg h]; rfl
  · dsimp only
    rw [hv, read4 m c t ht]
    congr 1 <;> exact Fin.ext (by dsimp only; omega)

/-- The lanes of an output block. -/
theorem lane_at (x0 x1 x2 x3 x4 : Vec Ideal S1x2048x128 .bf16) : ∀ d : Fin 128, IntOp.cmpi .slt (k0_pay70 x0 x1 x2 x3 x4 (ix2 0 d)) 64#32 = if (d : Nat) < 64 then 1#1 else 0#1 := by
  intro d
  pointwise [k0_pay70]
  revert d
  decide +kernel

/-- An output block is the reference's rows. -/
theorem out_row {n : Nat} (c : Dev nD) (hf : Reals m c) (t : Fin cfg0.N) (ht : t.val < 64) (q0 : Nat) (hn : q0 + 128 = n) (hN : n ≤ 2048)
    (s : FVec Ideal ⟨2, ![256, n]⟩ .f32) (q q' : Vec Ideal S1x128x128 .bf16) (k k' v : Vec Ideal ⟨3, ![1, n, 128]⟩ .bf16)
    (hq : ∀ r l, q (ix3 0 r l) = iblk m c 0 t (ix3 0 ⟨q0 + r, by omega⟩ l)) (hq' : ∀ r l, q' (ix3 0 r l) = iblk m c 1 t (ix3 0 ⟨q0 + r, by omega⟩ l))
    (hk : ∀ x l, k (ix3 0 x l) = iblk m c 2 t (ix3 0 ⟨x, by omega⟩ l)) (hk' : ∀ x l, k' (ix3 0 x l) = iblk m c 3 t (ix3 0 ⟨x, by omega⟩ l))
    (hv : ∀ x l, v (ix3 0 x l) = iblk m c 4 t (ix3 0 ⟨x, by omega⟩ l)) (hS : ∀ R x, s (ix2 R x) = scAt k0_pay2 k0_pay3 q q' k k' R x)
    (x0 x1 x2 x3 x4 : Vec Ideal S1x2048x128 .bf16) (r d : Fin 128) :
    outAt q0 hn k0_pay4 (k0_pay70 x0 x1 x2 x3 x4) s v r d
      = rowAt m c ⟨t.val / 8, by omega⟩ ⟨q0 + r, by omega⟩ ⟨128 * (t.val % 8) + d, by omega⟩ := by
  unfold outAt
  rw [lane_at]
  by_cases h : (d : Nat) < 64
  · rw [if_pos h]
    refine Eq.trans ?_ (head_row m c hf t ht q0 hn hN s q q' k k' v hq hq' hk hk' hv hS 0 r d (by simp; omega))
    simp [Scalar.select]
  · rw [if_neg h]
    refine Eq.trans ?_ (head_row m c hf t ht q0 hn hN s q q' k k' v hq hq' hk hk' hv hS 1 r d (by simp; omega))
    simp [Scalar.select]

/-- A load of rows `o …` of a block at an index. -/
theorem ld_at (x : Vec Ideal S1x2048x128 .bf16) (o n : Nat) (inb : ∀ a, (![0, o, 0] : Fin 3 → Nat) a + (![1, n, 128] : Fin 3 → Nat) a ≤ S1x2048x128.size a)
    (r : Fin n) (l : Fin 128) (h : o + r < 2048) :
    View.ld x (Rect.unit (s := S1x2048x128) ![0, o, 0] ![1, n, 128] inb) (ix3 0 r l) = x (ix3 0 ⟨o + r, h⟩ l) :=
  View.ld_unit_apply_of x _ _ _ _ _ fun a => by fin_cases a <;> simp

end Cert.KernelIdeal.Attn
-- ==== Proof.AttnFinal.lean ====
/-
  The attention call's result array, entry by entry.
-/
module

public import proofs.«01_k».proof.Proof.AttnRows

@[expose] public section

set_option maxRecDepth 16384

noncomputable section

open Idealize.ShloMosaic Idealize.ShloMosaic.TcCoe Idealize.SL.Sem
open Idealize.ShloMosaic.Pipeline (Dat)

namespace Cert.KernelIdeal.Attn
open Cert.KernelIdeal Cert.KernelIdeal.Gen

variable (m : (ℓ : Loc nD τ sig) → Buf (Elt Ideal) ℓ)

/-- An output block whose scores are those of the loaded rows is the reference's rows. -/
theorem piece {n : Nat} (c : Dev nD) (hf : Reals m c) (t : Fin cfg0.N) (ht : t.val < 64) (q0 : Nat) (hn : q0 + 128 = n) (hN : n ≤ 2048)
    (iq : ∀ a, (![0, q0, 0] : Fin 3 → Nat) a + (![1, 128, 128] : Fin 3 → Nat) a ≤ S1x2048x128.size a)
    (ik : ∀ a, (![0, 0, 0] : Fin 3 → Nat) a + (![1, n, 128] : Fin 3 → Nat) a ≤ S1x2048x128.size a)
    (x0 x1 x2 x3 x4 : Vec Ideal S1x2048x128 .bf16)
    (e0 : x0 = iblk m c 0 t) (e1 : x1 = iblk m c 1 t) (e2 : x2 = iblk m c 2 t) (e3 : x3 = iblk m c 3 t) (e4 : x4 = iblk m c 4 t)
    (s : FVec Ideal ⟨2, ![256, n]⟩ .f32)
    (hS : ∀ R x, s (ix2 R x) = scAt k0_pay2 k0_pay3 (View.ld x0 (Rect.unit (s := S1x2048x128) ![0, q0, 0] ![1, 128, 128] iq))
      (View.ld x1 (Rect.unit (s := S1x2048x128) ![0, q0, 0] ![1, 128, 128] iq))
      (View.ld x2 (Rect.unit (s := S1x2048x128) ![0, 0, 0] ![1, n, 128] ik))
      (View.ld x3 (Rect.unit (s := S1x2048x128) ![0, 0, 0] ![1, n, 128] ik)) R x)
    (r d : Fin 128) :
    outAt q0 hn k0_pay4 (k0_pay70 x0 x1 x2 x3 x4) s (View.ld x4 (Rect.unit (s := S1x2048x128) ![0, 0, 0] ![1, n, 128] ik)) r d
      = rowAt m c ⟨t.val / 8, by omega⟩ ⟨q0 + r, by omega⟩ ⟨128 * (t.val % 8) + d, by omega⟩ := by
  have z : ∀ (x : Vec Ideal S1x2048x128 .bf16) (k : Fin n) (l : Fin 128),
      View.ld x (Rect.unit (s := S1x2048x128) ![0, 0, 0] ![1, n, 128] ik) (ix3 0 k l) = x (ix3 0 ⟨k, by omega⟩ l) := fun x k l =>
    (ld_at x 0 n ik k l (by omega)).trans (congrArg (fun i => x (ix3 0 i l)) (Fin.ext (Nat.zero_add _)))
  subst e0 e1 e2 e3 e4
  exact out_row m c hf t ht q0 hn hN s _ _ _ _ _ (fun r l => ld_at _ q0 128 iq r l (by omega)) (fun r l => ld_at _ q0 128 iq r l (by omega))
    (z _) (z _) (z _) hS _ _ _ _ _ r d

/-- The block a grid point writes, at an index. -/
theorem out_at (c : Dev nD) (hf : Reals m c) (t : Fin cfg0.N) (ht : t.val < 64) (x0 x1' x2 x3 x4 : Vec Ideal S1x2048x128 .bf16)
    (e0 : x0 = iblk m c 0 t) (e1 : x1' = iblk m c 1 t) (e2 : x2 = iblk m c 2 t) (e3 : x3 = iblk m c 3 t) (e4 : x4 = iblk m c 4 t)
    (r : Fin 2048) (d : Fin 128) :
    out0_5 x0 x1' x2 x3 x4 (ix3 0 r d) = rowAt m c ⟨t.val / 8, by omega⟩ r ⟨128 * (t.val % 8) + d, by omega⟩ := by
  unfold_out out0_5
  canon_tiles y h
  all_goals
    idx_vars y
    obtain rfl : y0 = 0 := Subsingleton.elim _ _
    obtain rfl : d = y2 := Fin.ext h2
  · rw [show r = ⟨1920 + y1, by omega⟩ from Fin.ext h1]
    exact (out2048 _ _ _ _ _ _ _ _ _).trans (piece m c hf t ht 1920 rfl (by omega) _ _ x0 x1' x2 x3 x4 e0 e1 e2 e3 e4 _ (fun R x => sc2048 _ _ _ _ _ _ R x) _ _)
  · rw [show r = ⟨1792 + y1, by omega⟩ from Fin.ext h1]
    exact (out1920 _ _ _ _ _ _).trans (piece m c hf t ht 1792 rfl (by omega) _ _ x0 x1' x2 x3 x4 e0 e1 e2 e3 e4 _ (fun R x => sc1920 _ _ _ _ _ _ R x) _ _)
  · rw [show r = ⟨1664 + y1, by omega⟩ from Fin.ext h1]
    exact (out1792 _ _ _ _ _ _).trans (piece m c hf t ht 1664 rfl (by omega) _ _ x0 x1' x2 x3 x4 e0 e1 e2 e3 e4 _ (fun R x => sc1792 _ _ _ _ _ _ R x) _ _)
  · rw [show r = ⟨1536 + y1, by omega⟩ from Fin.ext h1]
    exact (out1664 _ _ _ _ _ _).trans (piece m c hf t ht 1536 rfl (by omega) _ _ x0 x1' x2 x3 x4 e0 e1 e2 e3 e4 _ (fun R x => sc1664 _ _ _ _ _ _ R x) _ _)
  · rw [show r = ⟨1408 + y1, by omega⟩ from Fin.ext h1]
    exact (out1536 _ _ _ _ _ _).trans (piece m c hf t ht 1408 rfl (by omega) _ _ x0 x1' x2 x3 x4 e0 e1 e2 e3 e4 _ (fun R x => sc1536 _ _ _ _ _ _ R x) _ _)
  · rw [show r = ⟨1280 + y1, by omega⟩ from Fin.ext h1]
    exact (out1408 _ _ _ _ _ _).trans (piece m c hf t ht 1280 rfl (by omega) _ _ x0 x1' x2 x3 x4 e0 e1 e2 e3 e4 _ (fun R x => sc1408 _ _ _ _ _ _ R x) _ _)
  · rw [show r = ⟨1152 + y1, by omega⟩ from Fin.ext h1]
    exact (out1280 _ _ _ _ _ _).trans (piece m c hf t ht 1152 rfl (by omega) _ _ x0 x1' x2 x3 x4 e0 e1 e2 e3 e4 _ (fun R x => sc1280 _ _ _ _ _ _ R x) _ _)
  · rw [show r = ⟨1024 + y1, by omega⟩ from Fin.ext h1]
    exact (out1152 _ _ _ _ _ _).trans (piece m c hf t ht 1024 rfl (by omega) _ _ x0 x1' x2 x3 x4 e0 e1 e2 e3 e4 _ (fun R x => sc1152 _ _ _ _ _ _ R x) _ _)
  · rw [show r = ⟨896 + y1, by omega⟩ from Fin.ext h1]
    exact (out1024 _ _ _ _ _ _).trans (piece m c hf t ht 896 rfl (by omega) _ _ x0 x1' x2 x3 x4 e0 e1 e2 e3 e4 _ (fun R x => sc1024 _ _ _ _ _ _ R x) _ _)
  · rw [show r = ⟨768 + y1, by omega⟩ from Fin.ext h1]
    exact (out896 _ _ _ _ _ _).trans (piece m c hf t ht 768 rfl (by omega) _ _ x0 x1' x2 x3 x4 e0 e1 e2 e3 e4 _ (fun R x => sc896 _ _ _ _ _ _ R x) _ _)
  · rw [show r = ⟨640 + y1, by omega⟩ from Fin.ext h1]
    exact (out768 _ _ _ _ _ _).trans (piece m c hf t ht 640 rfl (by omega) _ _ x0 x1' x2 x3 x4 e0 e1 e2 e3 e4 _ (fun R x => sc768 _ _ _ _ _ _ R x) _ _)
  · rw [show r = ⟨512 + y1, by omega⟩ from Fin.ext h1]
    exact (out640 _ _ _ _ _ _).trans (piece m c hf t ht 512 rfl (by omega) _ _ x0 x1' x2 x3 x4 e0 e1 e2 e3 e4 _ (fun R x => sc640 _ _ _ _ _ _ R x) _ _)
  · rw [show r = ⟨384 + y1, by omega⟩ from Fin.ext h1]
    exact (out512 _ _ _ _ _ _).trans (piece m c hf t ht 384 rfl (by omega) _ _ x0 x1' x2 x3 x4 e0 e1 e2 e3 e4 _ (fun R x => sc512 _ _ _ _ _ _ R x) _ _)
  · rw [show r = ⟨256 + y1, by omega⟩ from Fin.ext h1]
    exact (out384 _ _ _ _ _ _).trans (piece m c hf t ht 256 rfl (by omega) _ _ x0 x1' x2 x3 x4 e0 e1 e2 e3 e4 _ (fun R x => sc384 _ _ _ _ _ _ R x) _ _)
  · rw [show r = ⟨128 + y1, by omega⟩ from Fin.ext h1]
    exact (out256 _ _ _ _ _ _).trans (piece m c hf t ht 128 rfl (by omega) _ _ x0 x1' x2 x3 x4 e0 e1 e2 e3 e4 _ (fun R x => sc256 _ _ _ _ _ _ R x) _ _)
  · rw [show r = ⟨0 + y1, by omega⟩ from Fin.ext (h1.trans (Nat.zero_add _).symm)]
    exact (out128 _ _ _ _ _ _).trans (piece m c hf t ht 0 rfl (by omega) _ _ x0 x1' x2 x3 x4 e0 e1 e2 e3 e4 _ (fun R x => sc128 _ _ _ _ _ _ R x) _ _)

/-- The result array after the run is `G`. -/
theorem final (c : Dev nD) (hf : Reals m c) : (dats m 0 c).arrAt 5 cfg0.N = G m c := by
  refine (dats m 0 c).arrAt_eq_of_covers 5 _ (by decide +kernel) fun t _ y => ?_
  have ht : t.val < 64 := (show t.val < cfg0.N from t.isLt).trans_eq (show cfg0.N = 64 from N_0)
  blk_simp
  rw [after0_5]
  idx_vars y
  obtain rfl : y0 = 0 := Subsingleton.elim _ _
  have e : ((cfg0.win 5).blk t).view.emb (ix3 0 y1 y2) = (ix3 ⟨t.val / 8, by omega⟩ y1 ⟨128 * (t.val % 8) + y2, by omega⟩ : S8x2048x1024.Idx) := by
    blk_ext [idx t]
  have o := out_at m c hf t ht (iblk m c 0 t) (iblk m c 1 t) (iblk m c 2 t) (iblk m c 3 t) (iblk m c 4 t) rfl rfl rfl rfl rfl y1 y2
  refine Eq.trans ?_ (congrArg (G m c) e.symm)
  refine Eq.trans o ?_
  rfl

end Cert.KernelIdeal.Attn
-- ==== Proof.AttnRef.lean ====
/-
  The attention's precondition as real arguments, and the reference's result at an index.
-/
module

public import proofs.«01_k».proof.Proof.AttnRows
public import proofs.«01_k».proof.Proof.Gen.ReferenceIdeal.Run
public import proofs.«01_k».proof.Proof.Gen.Pre_finite
public import Idealize.ShloMosaic.Lib.ReduceAll

@[expose] public section

set_option maxRecDepth 16384

noncomputable section

open Idealize.ShloMosaic Idealize.ShloMosaic.TcCoe Idealize.SL.Sem
open Idealize.ShloMosaic.Pipeline (Dat)

namespace Cert.KernelIdeal.Attn
open Cert.KernelIdeal Cert.KernelIdeal.Gen

variable (m : (ℓ : Loc nD τ sig) → Buf (Elt Ideal) ℓ)

/-- A number whose magnitude is below infinity is real. -/
theorem real_of (x : EReal) (h : (FloatOps.cmpf .olt (FloatOps.absf x : Ideal .f32) (Ideal.ofBits .f32 0x7F800000#32) : BitVec 1) = 1#1) : ∃ r : ℝ, x = (r : EReal) := by
  have e : Ideal.ofBits .f32 0x7F800000#32 = ⊤ := by simp [Ideal.ofBits, Ideal.ieee]
  rw [e] at h
  have h' : max x (-x) < ⊤ := by
    by_contra hn
    have : (FloatOps.cmpf .olt (FloatOps.absf x : Ideal .f32) (⊤ : EReal) : BitVec 1) = BitVec.ofBool (decide (max x (-x) < ⊤)) := rfl
    rw [this, decide_eq_false hn] at h
    exact absurd h (by decide)
  obtain ⟨h1, h2⟩ := max_lt_iff.mp h'
  induction x with
  | bot => simp at h2
  | top => simp at h1
  | coe r => exact ⟨r, rfl⟩

/-- A conjunction at an index. -/
theorem andi_at {s : Shape} (x y : IVec s 1) (i : s.Idx) (h : andi x y i = 1#1) : x i = 1#1 ∧ y i = 1#1 := IntOp.andi_eq_one.1 h

/-- An array all of whose magnitudes are below infinity is real at every index. -/
theorem all_real {s t : Shape} [Subsingleton t.Idx] {axes : List (Fin s.rank)} (d : Fin t.rank → Fin s.rank) (x : FVec Ideal s .f32) (hb : t.BroadcastsInDim s d) (hr : s.ReducesTo axes t)
    (hu : 0 < t.numel) (j : t.Idx)
    (e : Host.reduce IntOp.andi (cmpf .olt (Host.absf x) (broadcastInDim s d hb (constant t .f32 0x7F800000#32))) (constantI t 1 1#1) hr hu j = 1#1)
    (i : s.Idx) : ∃ r : ℝ, (x i : EReal) = (r : EReal) :=
  real_of _ (Host.reduce_andi_all _ _ _ _ j e i)

/-- The precondition as a statement of its arrays. -/
theorem pre_of (x0 : FVec Ideal S8x2048x16x64 .f32) (x1 : FVec Ideal S8x2048x16x32 .f32) (x2 : FVec Ideal S8x2048x16x64 .f32) (x3 : FVec Ideal S8x2048x32 .f32) (x4 : FVec Ideal S8x2048x16x64 .f32)
    (h : Cert.Pre_finite.fn (F := Ideal) x0 x1 x2 x3 x4 = fun _ => 1#1) :
    (∀ i, ∃ r : ℝ, (x0 i : EReal) = r) ∧ (∀ i, ∃ r : ℝ, (x1 i : EReal) = r) ∧ (∀ i, ∃ r : ℝ, (x2 i : EReal) = r) ∧ (∀ i, ∃ r : ℝ, (x3 i : EReal) = r) := by
  have e := congrFun h ix0
  unfold Cert.Pre_finite.fn Cert.Pre_finite.fn_part1 at e
  obtain ⟨e, p3⟩ := andi_at _ _ _ e
  obtain ⟨e, p2⟩ := andi_at _ _ _ e
  obtain ⟨p0, p1⟩ := andi_at _ _ _ e
  exact ⟨all_real _ _ _ _ _ _ p0, all_real _ _ _ _ _ _ p1, all_real _ _ _ _ _ _ p2, all_real _ _ _ _ _ _ p3⟩

/-- The precondition says that the queries and the keys are real. -/
theorem reals_of (h : Cert.Pre_KernelIdeal_finite m) (c : Dev nD) : Reals m c := by
  obtain ⟨r0, r1, r2, r3⟩ := pre_of _ _ _ _ _ (h c)
  choose a0 h0 using r0
  choose a1 h1 using r1
  choose a2 h2 using r2
  choose a3 h3 using r3
  exact ⟨fun b s h d => a0 (ix4 b s h d), fun b s h d => a1 (ix4 b s h d), fun b s h d => a2 (ix4 b s h d), fun b s d => a3 (ix3 b s d),
    fun b s h d => h0 (ix4 b s h d), fun b s h d => h1 (ix4 b s h d), fun b s h d => h2 (ix4 b s h d), fun b s d => h3 (ix3 b s d)⟩

end Cert.KernelIdeal.Attn

namespace Cert.ReferenceIdeal.Attn
open Cert.ReferenceIdeal Cert.ReferenceIdeal.Gen
open Cert.Attn (rRow)

/-- The reference's scores. -/
def scores (a0 : FVec Ideal S8x2048x16x64 .f32) (a1 : FVec Ideal S8x2048x16x32 .f32) (a2 : FVec Ideal S8x2048x16x64 .f32) (a3 : FVec Ideal S8x2048x32 .f32) : FVec Ideal S8x16x2048x2048 .f32 :=
  Host.divf (addf (Host.dotGeneral dot_S8x2048x16x64_S8x2048x16x64_S8x16x2048x2048_3_3_1_1_02_02 none a0 a2) (transpose S8x16x2048x2048 [0, 3, 2, 1] (Host.dotGeneral dot_S8x2048x32_S8x2048x16x32_S8x2048x2048x16_2_3_1_12_0_0 none a3 a1) transposes_S8x2048x2048x16_S8x16x2048x2048_0_3_2_1)) (broadcastInDim S8x16x2048x2048 ![] bcast_S_S8x16x2048x2048 (Host.sqrt (constant S_ .f32 0x42C00000#32)))

/-- The scores with the keys past the query's position at minus infinity. -/
def msk (w : FVec Ideal S8x16x2048x2048 .f32) : FVec Ideal S8x16x2048x2048 .f32 :=
  select (broadcastInDim S8x16x2048x2048 ![2, 3] bcast_S2048x2048_S8x16x2048x2048_2_3 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))) w (broadcastInDim S8x16x2048x2048 ![] bcast_S_S8x16x2048x2048 (id (constant S_ .f32 0xFF800000#32)))

/-- The largest of each row. -/
def mx (w : FVec Ideal S8x16x2048x2048 .f32) : FVec Ideal S8x16x2048 .f32 :=
  Host.reduce FloatOps.maximumf w (constant S_ .f32 0xFF800000#32) reducesTo_S8x16x2048x2048_S8x16x2048_d3 h_S_

/-- The exponentials of the scores against the row's largest `M`. -/
def ex (w : FVec Ideal S8x16x2048x2048 .f32) (M : FVec Ideal S8x16x2048 .f32) : FVec Ideal S8x16x2048x2048 .f32 :=
  Host.exp (subf w (broadcastInDim S8x16x2048x2048 ![0, 1, 2, 3] bcast_S8x16x2048x1_S8x16x2048x2048_0_1_2_3 (broadcastInDim S8x16x2048x1 ![0, 1, 2] bcast_S8x16x2048_S8x16x2048x1_0_1_2 (maximumf (broadcastInDim S8x16x2048 ![] bcast_S_S8x16x2048 (constant S_ .f32 0xFF800000#32)) M))))

/-- The rows of `e`, each divided by its sum. -/
def soft (e : FVec Ideal S8x16x2048x2048 .f32) : FVec Ideal S8x16x2048x2048 .f32 :=
  Host.divf e (broadcastInDim S8x16x2048x2048 ![0, 1, 2, 3] bcast_S8x16x2048x1_S8x16x2048x2048_0_1_2_3 (broadcastInDim S8x16x2048x1 ![0, 1, 2] bcast_S8x16x2048_S8x16x2048x1_0_1_2 (Host.reduceAdd e (constant S_ .f32 0x00000000#32) reducesTo_S8x16x2048x2048_S8x16x2048_d3 h_S_)))

/-- The values weighted by `p`. -/
def outp (v : FVec Ideal S8x2048x16x64 .f32) (p : FVec Ideal S8x16x2048x2048 .f32) : FVec Ideal S8x2048x1024 .bf16 :=
  truncf .bf16 (shapeCast _ (transpose S8x2048x16x64 [0, 3, 1, 2] (Host.dotGeneral dot_S8x2048x16x64_S8x16x2048x2048_S8x16x64x2048_1_3_3_2_02_01 none v p) transposes_S8x16x64x2048_S8x2048x16x64_0_3_1_2) shapeCasts_S8x2048x16x64_S8x2048x1024) bitsLt_bf16_f32

/-- The scores at an index. -/
theorem scores_at (a0 : FVec Ideal S8x2048x16x64 .f32) (a1 : FVec Ideal S8x2048x16x32 .f32) (a2 : FVec Ideal S8x2048x16x64 .f32) (a3 : FVec Ideal S8x2048x32 .f32) (b : Fin 8) (h : Fin 16) (r x : Fin 2048) :
    scores a0 a1 a2 a3 (ix4 b h r x) = Ideal.div (∑ y, a0 (ix4 b r h y) * a2 (ix4 b x h y) + ∑ y, a3 (ix3 b x y) * a1 (ix4 b r h y)) (Ideal.sqrt (Ideal.ofBits .f32 0x42C00000#32)) := by
  pointwise [scores]
  done

/-- The masked scores at an index. -/
theorem msk_at (w : FVec Ideal S8x16x2048x2048 .f32) (b : Fin 8) (h : Fin 16) (r x : Fin 2048) :
    msk w (ix4 b h r x) = Scalar.select (IntOp.cmpi .sle (BitVec.ofNat 32 (x : Nat)) (BitVec.ofNat 32 (r : Nat))) (w (ix4 b h r x)) (Ideal.ofBits .f32 0xFF800000#32) := by
  pointwise [msk]
  rfl

/-- A maximum over the last of four axes, at an index. -/
theorem hmax {B H R N : Nat} {t : Shape} (w : FVec Ideal ⟨4, ![B, H, R, N]⟩ .f32) (c : FVec Ideal t .f32)
    (h' : (⟨4, ![B, H, R, N]⟩ : Shape).ReducesTo [3] ⟨3, ![B, H, R]⟩) (h : (⟨4, ![B, H, R, N]⟩ : Shape).Reduces [3] ⟨3, ![B, H, R]⟩)
    (hu : 0 < t.numel) (b : Fin B) (k : Fin H) (r : Fin R) :
    Host.reduce FloatOps.maximumf w c h' hu (ix3 b k r) = Finset.univ.fold max (c (Shape.Idx.first hu) : EReal) fun y : Fin N => (w (ix4 b k r y) : EReal) := by
  refine (Host.reduce_eq_fold_single FloatOps.maximumf w c h' h hu (ix3 b k r)).trans ?_
  show Finset.univ.fold max (c (Shape.Idx.first hu) : EReal) (fun y : Fin N => (w (h.lift (ix3 b k r) y) : EReal)) = _
  congr 1
  funext y
  congr 1
  funext a
  fin_cases a <;> exact Fin.ext ((Shape.Reduces.lift_val h _ _ _).trans rfl)

/-- The largest at an index. -/
theorem mx_at (w : FVec Ideal S8x16x2048x2048 .f32) (b : Fin 8) (h : Fin 16) (r : Fin 2048) :
    mx w (ix3 b h r) = Finset.univ.fold max (Ideal.ofBits .f32 0xFF800000#32) fun y => w (ix4 b h r y) :=
  hmax w _ _ ⟨rfl, by decide, reducesTo_S8x16x2048x2048_S8x16x2048_d3.2⟩ _ b h r

/-- The exponentials at an index. -/
theorem ex_at (w : FVec Ideal S8x16x2048x2048 .f32) (M : FVec Ideal S8x16x2048 .f32) (b : Fin 8) (h : Fin 16) (r x : Fin 2048) :
    ex w M (ix4 b h r x) = Ideal.exp (w (ix4 b h r x) - max (Ideal.ofBits .f32 0xFF800000#32) (M (ix3 b h r))) := by
  pointwise [ex]
  done

/-- The weights at an index. -/
theorem soft_at (e : FVec Ideal S8x16x2048x2048 .f32) (b : Fin 8) (h : Fin 16) (r x : Fin 2048) :
    soft e (ix4 b h r x) = Ideal.div (e (ix4 b h r x)) (∑ y, e (ix4 b h r y)) := by
  pointwise [soft]
  done

/-- The weighted values at an index. -/
theorem outp_at (v : FVec Ideal S8x2048x16x64 .f32) (p : FVec Ideal S8x16x2048x2048 .f32) (b : Fin 8) (r : Fin 2048) (d : Fin 1024) :
    outp v p (ix3 b r d) = ∑ x : Fin 2048, v (ix4 b x ⟨(d : Nat) / 64, by omega⟩ ⟨(d : Nat) % 64, by omega⟩) * p (ix4 b ⟨(d : Nat) / 64, by omega⟩ r x) := by
  pointwise [outp]
  done

/-- The stages in their order. -/
def whole (a0 : FVec Ideal S8x2048x16x64 .f32) (a1 : FVec Ideal S8x2048x16x32 .f32) (a2 : FVec Ideal S8x2048x16x64 .f32) (a3 : FVec Ideal S8x2048x32 .f32) (v : FVec Ideal S8x2048x16x64 .f32) : FVec Ideal S8x2048x1024 .bf16 :=
  outp v (soft (ex (msk (scores a0 a1 a2 a3)) (mx (msk (scores a0 a1 a2 a3)))))

/-- The reference's result, as a composition of the stages above. -/
theorem res_eq (m : (ℓ : Loc nD τ sig) → Buf (Elt Ideal) ℓ) (c : Dev nD) : Value.res_main_v28 m c
    = whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

/-- The reference's result at an index. -/
theorem res_at (a0 : FVec Ideal S8x2048x16x64 .f32) (a1 : FVec Ideal S8x2048x16x32 .f32) (a2 : FVec Ideal S8x2048x16x64 .f32) (a3 : FVec Ideal S8x2048x32 .f32) (v : FVec Ideal S8x2048x16x64 .f32)
    (b : Fin 8) (r : Fin 2048) (d : Fin 1024) : whole a0 a1 a2 a3 v (ix3 b r d)
    = rRow (fun x : Fin 2048 => Scalar.select (IntOp.cmpi .sle (BitVec.ofNat 32 (x : Nat)) (BitVec.ofNat 32 (r : Nat)))
        (Ideal.div (∑ y : Fin 64, a0 (ix4 b r ⟨(d : Nat) / 64, by omega⟩ y) * a2 (ix4 b x ⟨(d : Nat) / 64, by omega⟩ y)
            + ∑ y : Fin 32, a3 (ix3 b x y) * a1 (ix4 b r ⟨(d : Nat) / 64, by omega⟩ y))
          (Ideal.sqrt (Ideal.ofBits .f32 0x42C00000#32))) (Ideal.ofBits .f32 0xFF800000#32))
      (fun x => v (ix4 b x ⟨(d : Nat) / 64, by omega⟩ ⟨(d : Nat) % 64, by omega⟩)) := by
  unfold whole
  rw [outp_at]
  simp only [soft_at, ex_at, mx_at, msk_at, scores_at]
  rfl

end Cert.ReferenceIdeal.Attn
-- ==== Proof.AttnClaims.lean ====
/-
  The claims about the attention call, from its value lemmas.
-/
module

public import proofs.«01_k».proof.Proof.AttnFinal
public import proofs.«01_k».proof.Proof.AttnRef
public import proofs.«01_k».proof.Proof.Gen.Kernel.Frame
public import Idealize.ShloMosaic.Lib.Quiescent

@[expose] public section

noncomputable section

open Idealize.ShloMosaic Idealize.ShloMosaic.TcCoe Idealize.SL.Sem

namespace Cert.Proof.Attn

/-- The printed call runs to its end, quietly, and leaves its arguments unchanged. -/
theorem frame_k : Cert.quiescent_Kernel := fun m ρ _ => Cert.Kernel.Gen.frame m ρ

/-- So does its idealization. -/
theorem frame_ki : Cert.quiescent_KernelIdeal := fun m ρ _ => Cert.KernelIdeal.Gen.frame m ρ

/-- So it does under the precondition. -/
theorem frame_ki_finite : Cert.quiescent_KernelIdeal_pre_finite := fun m ρ _ => Cert.KernelIdeal.Gen.frame m ρ

/-- The reference runs to its end, quietly, and leaves its arguments unchanged. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- So it does under the precondition. -/
theorem frame_ri_finite : Cert.quiescent_ReferenceIdeal_pre_finite := fun m ρ _ => frame_ri m ρ trivial

/-- The idealization named the mask's constant. -/
theorem preserves : Cert.preserves_Kernel_KernelIdeal :=
  IdealRules.named_const.statement Cert.KernelIdeal.κ "mask" .f32 0xF149F2CA#32 ⊥ rfl

/-- On real queries and keys the kernel's result is the reference's: every entry is the same softmax row. -/
theorem algebraic : Cert.algebraic_KernelIdeal_ReferenceIdeal_pre_finite := by
  intro m ρ m' ρ' hp hag
  refine ⟨fun c => Cert.KernelIdeal.Attn.G m c, ?_, ?_⟩
  · exact (θ_run Cert.KernelIdeal.defs _ _).mono
      (fun r h c => ⟨(h c).1.trans (Cert.KernelIdeal.Attn.final m c (Cert.KernelIdeal.Attn.reals_of m hp c)), (h c).2⟩)
      (Cert.KernelIdeal.Value.run_blocks (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4⟩ := hag c
    funext i
    idx_vars i
    rw [Cert.ReferenceIdeal.Attn.res_eq, h0, h1, h2, h3, h4]
    exact Cert.ReferenceIdeal.Attn.res_at _ _ _ _ _ i0 i1 i2

end Cert.Proof.Attn
-- ==== Proof.MlpValue.lean ====
/-
  The value of the feed-forward call (`Kernel2`) and of its reference at the ideal instance: both compute, row by row,
  the function `mlpRow` below.
-/
module

public import proofs.«01_k».proof.Defs
public import proofs.«01_k».proof.Proof.Gen.Kernel2Ideal.Value
public import proofs.«01_k».proof.Proof.Gen.Reference2Ideal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel2Ideal.Mlp

open Cert.Kernel2Ideal Cert.Kernel2Ideal.Gen

/-- The root-mean-square norm of a row `x` of 1024 numbers, scaled by `g`. -/
def rmsRow (x g : Fin 1024 → EReal) (c : Fin 1024) : EReal :=
  x c * Ideal.rsqrt (Ideal.div (∑ k, x k * x k) (Ideal.ofBits .f32 0x44800000#32) + Ideal.ofBits .f32 0x3727C5AC#32) * g c

/-- A row of the residual stream with the mixer's output `y` projected by `wo` added to it. -/
def mixRow (h y : Fin 1024 → EReal) (wo : Fin 1024 → Fin 1024 → EReal) (c : Fin 1024) : EReal :=
  h c + ∑ k, y k * wo k c

/-- The squared rectified products of a normed row with the columns of `w1`. -/
def actRow (u : Fin 1024 → EReal) (w1 : Fin 1024 → Fin 4096 → EReal) (f : Fin 4096) : EReal :=
  max (∑ k, u k * w1 k f) 0 * max (∑ k, u k * w1 k f) 0

/-- A row of the feed-forward layer: mix, norm, squared-ReLU feed-forward, residual, final norm. -/
def mlpRow (h y : Fin 1024 → EReal) (wo : Fin 1024 → Fin 1024 → EReal) (g : Fin 1024 → EReal)
    (w1 : Fin 1024 → Fin 4096 → EReal) (w2 : Fin 4096 → Fin 1024 → EReal) (gf : Fin 1024 → EReal) : Fin 1024 → EReal :=
  rmsRow (fun c => mixRow h y wo c + ∑ f, actRow (rmsRow (mixRow h y wo) g) w1 f * w2 f c) gf

/-! ## The kernel's payloads at an index -/

/-- The kernel's mixed row, its bias added in between. -/
theorem pay2_at (v0 : Vec Ideal S1024x1024 .f32) (v2 : Vec Ideal S1x1024 .f32) (v6 v8 : Vec Ideal S1024x1024 .bf16)
    (hb : ∀ k, v2 (ix2 0 k) = (0 : EReal)) (a c : Fin 1024) :
    k0_pay2 v0 v2 v6 v8 (ix2 a c)
      = mixRow (fun k => v0 (ix2 a k)) (fun k => v6 (ix2 a k)) (fun k c => v8 (ix2 k c)) c := by
  pointwise [k0_pay2, mixRow]
  rw [hb]
  simp

/-- The kernel's normed row. -/
theorem pay3_at (v0 : Vec Ideal S1024x1024 .f32) (v2 : Vec Ideal S1x1024 .f32) (v6 v8 : Vec Ideal S1024x1024 .bf16)
    (v12 : Vec Ideal S1x1024 .f32) (a c : Fin 1024) :
    k0_pay3 v0 v2 v6 v8 v12 (ix2 a c) = rmsRow (fun k => k0_pay2 v0 v2 v6 v8 (ix2 a k)) (fun k => v12 (ix2 0 k)) c := by
  pointwise [k0_pay3, rmsRow]
  done

/-- The kernel's last stage: the second product, the residual and the final norm. -/
theorem pay1_at (v11 : FVec Ideal S1024x1024 .f32) (v67 : Vec Ideal S1024x4096 .bf16) (v68 : Vec Ideal S1x4096x1024 .bf16)
    (v72 : Vec Ideal S1x1024 .f32) (a c : Fin 1024) :
    k0_pay1 v11 v67 v68 v72 (ix2 a c)
      = rmsRow (fun c => v11 (ix2 a c) + ∑ f, v67 (ix2 a f) * v68 (ix3 0 f c)) (fun k => v72 (ix2 0 k)) c := by
  pointwise [k0_pay1, rmsRow]
  done

/-- The four column blocks of the activation. -/
theorem pay4_at (v0 : Vec Ideal S1024x1024 .f32) (v2 : Vec Ideal S1x1024 .f32) (v6 v8 : Vec Ideal S1024x1024 .bf16)
    (v12 : Vec Ideal S1x1024 .f32) (v27 : Vec Ideal S1x1024x1024 .bf16) (a c : Fin 1024) :
    k0_pay4 v0 v2 v6 v8 v12 v27 (ix2 a c) = k0_pay5 (k0_pay3 v0 v2 v6 v8 v12) v27 (ix2 a c) := by
  rfl

theorem pay5_at (v26 : FVec Ideal S1024x1024 .bf16) (v37 : Vec Ideal S1x1024x1024 .bf16) (a c : Fin 1024) :
    k0_pay5 v26 v37 (ix2 a c) = max (∑ k, v26 (ix2 a k) * v37 (ix3 0 k c)) 0 * max (∑ k, v26 (ix2 a k) * v37 (ix3 0 k c)) 0 := by
  pointwise [k0_pay5]
  done

/-- A column block of the kernel's activation at an index: `v` is the block of the weights loaded for it. -/
theorem act_at (v26 : FVec Ideal S1024x1024 .bf16) (v37 : Vec Ideal S1x1024x1024 .bf16) (u : Fin 1024 → EReal)
    (w1 : Fin 1024 → Fin 4096 → EReal) (f : Fin 4096) (x : S1024x1024.Idx)
    (hu : ∀ k : Fin 1024, v26 (ix2 (x 0) k) = u k) (hw : ∀ k : Fin 1024, v37 (ix3 0 k (x 1)) = w1 k f) :
    k0_pay5 v26 v37 x = actRow u w1 f := by
  idx_vars x
  rw [pay5_at]
  unfold actRow
  have e : ∀ k : Fin 1024, v26 (ix2 x0 k) * v37 (ix3 0 k x1) = u k * w1 k f := fun k => by
    rw [← hu k, ← hw k]
  simp only [e]

/-- The activation buffer after its four stores, read at an index. -/
theorem scratch_at (U : FVec Ideal S1024x1024 .bf16) (x5 : Vec Ideal S1x1024x4096 .bf16) (u : Fin 1024 → EReal) (a : Fin 1024)
    (hU : ∀ k : Fin 1024, U (ix2 a k) = u k) (P0 : FVec Ideal S1024x1024 .bf16)
    (h0 : P0 = k0_pay5 U (View.ld x5 (Rect.unit ![0, 0, 0] ![1, 1024, 1024] inb_S1x1024x4096_S1x1024x1024_0_0_0))) (f : Fin 4096) :
    View.canon (Val := Elt Ideal) (s := S1024x4096) (e := .bf16)
      [⟨Rect.unit ![0, 3072] ![1024, 1024] inb_S1024x4096_S1024x1024_0_3072,
            k0_pay7 U (View.ld x5 (Rect.unit ![0, 0, 3072] ![1, 1024, 1024] inb_S1x1024x4096_S1x1024x1024_0_0_3072))⟩,
          ⟨Rect.unit ![0, 2048] ![1024, 1024] inb_S1024x4096_S1024x1024_0_2048,
            k0_pay6 U (View.ld x5 (Rect.unit ![0, 0, 2048] ![1, 1024, 1024] inb_S1x1024x4096_S1x1024x1024_0_0_2048))⟩,
          ⟨Rect.unit ![0, 1024] ![1024, 1024] inb_S1024x4096_S1024x1024_0_1024,
            k0_pay5 U (View.ld x5 (Rect.unit ![0, 0, 1024] ![1, 1024, 1024] inb_S1x1024x4096_S1x1024x1024_0_0_1024))⟩,
          ⟨Rect.unit ![0, 0] ![1024, 1024] inb_S1024x4096_S1024x1024_0_0, P0⟩] (ix2 a f)
      = actRow u (fun k f => x5 (ix3 0 k f)) f := by
  subst h0
  canon_tiles x h
  all_goals
    refine act_at U _ u _ f x (fun k => ?_) (fun k => ?_)
    · rw [show x 0 = a from Fin.ext h0.symm]; exact hU k
    · idx_vars x
      pointwise
      blk_ext

/-- What the body leaves in the output block, at an index: the row function of the input blocks' rows. -/
theorem out_at (c : Dev nD) (i : grid0.Coords) (arg1 : Memref sig .tc .vmem S1024x1024 .f32) (harg1 : arg1.IsWhole) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024x4096 .bf16) (harg6 : arg6.IsWhole) (arg7 : Memref sig .tc .vmem S1x4096x1024 .bf16) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x4096 .bf16) (harg10 : arg10.IsWhole)
    (x0 : Vec Ideal S1024x1024 .f32) (x1 : Vec Ideal S1024x1024 .bf16) (x2 : Vec Ideal S1024x1024 .bf16) (x3 : Vec Ideal S1x1024 .f32) (x4 : Vec Ideal S1x1024 .f32) (x5 : Vec Ideal S1x1024x4096 .bf16) (x6 : Vec Ideal S1x4096x1024 .bf16) (x7 : Vec Ideal S1x1024 .f32)
    (hb : ∀ k, x3 (ix2 0 k) = (0 : EReal)) (a d : Fin 1024) :
    out0_A_8 c i arg1 harg1 arg2 harg2 arg3 harg3 arg4 harg4 arg5 harg5 arg6 harg6 arg7 harg7 arg8 harg8 arg9 harg9 arg10 harg10 x0 x1 x2 x3 x4 x5 x6 x7 (ix2 a d)
      = mlpRow (fun k => x0 (ix2 a k)) (fun k => x1 (ix2 a k)) (fun k c => x2 (ix2 k c)) (fun k => x4 (ix2 0 k))
          (fun k f => x5 (ix3 0 k f)) (fun f c => x6 (ix3 0 f c)) (fun k => x7 (ix2 0 k)) d := by
  frame_out
  have hH : (fun k => k0_pay2 x0 x3 x1 x2 (ix2 a k))
      = mixRow (fun k => x0 (ix2 a k)) (fun k => x1 (ix2 a k)) (fun k c => x2 (ix2 k c)) :=
    funext fun k => pay2_at x0 x3 x1 x2 hb a k
  have hU : ∀ k : Fin 1024, k0_pay3 x0 x3 x1 x2 x4 (ix2 a k)
      = rmsRow (mixRow (fun k => x0 (ix2 a k)) (fun k => x1 (ix2 a k)) (fun k c => x2 (ix2 k c))) (fun k => x4 (ix2 0 k)) k :=
    fun k => by rw [pay3_at, hH]
  rw [pay1_at]
  unfold mlpRow
  refine congrArg (fun r => rmsRow r (fun k => x7 (ix2 0 k)) d) (funext fun d' => ?_)
  refine Ideal.add_congr (pay2_at x0 x3 x1 x2 hb a d') (Finset.sum_congr rfl fun f _ => Ideal.mul_congr ?_ rfl)
  rw [View.readCov_eq_canon']
  have e : (Rect.unit ![0, 0] ![1024, 4096] inb_S1024x4096_S1024x4096_0_0).toLoadRect.idx (ix2 a f) = (ix2 a f : S1024x4096.Idx) :=
    congrFun (View.ld_unit_lit (Val := fun _ => S1024x4096.Idx) (e := .f32) inb_S1024x4096_S1024x4096_0_0 id (by decide)) (ix2 a f)
  refine (congrArg (View.canon _) e).trans ?_
  exact scratch_at _ x5 _ a hU _ rfl f

variable (m : (ℓ : Loc nD τ sig) → Buf (Elt Ideal) ℓ)

/-- Where each window's block lies, at every grid point. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![3, 0, 0] ∧ win0_6.index t = ![3, 0, 0]
    ∧ win0_7.index t = ![0, 0] ∧ win0_8.index t = ![t.val, 0] :=
  (by decide +kernel : ∀ t : Fin grid0.N, _)

/-- The rows of the argument arrays that row `r` of the result is computed from. -/
def G (c : Dev nD) : FVec Ideal S16384x1024 .f32 := fun i =>
  have r : Fin 16384 := i 0
  mlpRow (fun k => m ((c : Thread nD τ).loc main_arg0) (ix3 ⟨r / 2048, by omega⟩ ⟨r % 2048, by omega⟩ k))
    (fun k => m ((c : Thread nD τ).loc main_arg1) (ix3 ⟨r / 2048, by omega⟩ ⟨r % 2048, by omega⟩ k))
    (fun k c' => m ((c : Thread nD τ).loc main_arg2) (ix2 k c'))
    (fun k => m ((c : Thread nD τ).loc main_arg3) (ix2 3 k))
    (fun k f => m ((c : Thread nD τ).loc main_arg4) (ix3 3 k f))
    (fun f c' => m ((c : Thread nD τ).loc main_arg5) (ix3 3 f c'))
    (fun k => m ((c : Thread nD τ).loc main_arg6) (ix1 k)) (i 1)

/-- Row `a` of point `t`'s block of the residual stream, in the argument array. -/
theorem read0 (c : Dev nD) (t : Fin cfg0.N) (a k : Fin 1024) (r : Fin 16384) (hr : (r : Nat) = t.val * 1024 + a) :
    (iblk m c 0 t : Vec Ideal S1024x1024 .f32) (ix2 a k)
      = m ((c : Thread nD τ).loc main_arg0) (ix3 ⟨(r : Nat) / 2048, by omega⟩ ⟨(r : Nat) % 2048, by omega⟩ k) := by
  blk_ext! [iblk, V, idx t]

/-- Row `a` of point `t`'s block of the mixer's output, in the argument array. -/
theorem read1 (c : Dev nD) (t : Fin cfg0.N) (a k : Fin 1024) (r : Fin 16384) (hr : (r : Nat) = t.val * 1024 + a) :
    (iblk m c 1 t : Vec Ideal S1024x1024 .bf16) (ix2 a k)
      = m ((c : Thread nD τ).loc main_arg1) (ix3 ⟨(r : Nat) / 2048, by omega⟩ ⟨(r : Nat) % 2048, by omega⟩ k) := by
  blk_ext! [iblk, V, idx t]

/-- The output projection's block is its array. -/
theorem read2 (c : Dev nD) (t : Fin cfg0.N) (a k : Fin 1024) :
    (iblk m c 2 t : Vec Ideal S1024x1024 .bf16) (ix2 a k) = m ((c : Thread nD τ).loc main_arg2) (ix2 a k) := by
  blk_ext! [iblk, V, idx t]

/-- The bias is zero. -/
theorem read3 (c : Dev nD) (t : Fin cfg0.N) (k : Fin 1024) :
    (iblk m c 3 t : Vec Ideal S1x1024 .f32) (ix2 0 k) = (0 : EReal) := by
  blk_simp [iblk]
  entry_read
  pointwise
  done

/-- The norm's scale is the last layer's row. -/
theorem read4 (c : Dev nD) (t : Fin cfg0.N) (k : Fin 1024) :
    (iblk m c 4 t : Vec Ideal S1x1024 .f32) (ix2 0 k) = m ((c : Thread nD τ).loc main_arg3) (ix2 3 k) := by
  blk_ext! [iblk, V, idx t]

/-- The first weights' block is the last layer's. -/
theorem read5 (c : Dev nD) (t : Fin cfg0.N) (k : Fin 1024) (f : Fin 4096) :
    (iblk m c 5 t : Vec Ideal S1x1024x4096 .bf16) (ix3 0 k f) = m ((c : Thread nD τ).loc main_arg4) (ix3 3 k f) := by
  blk_ext! [iblk, V, idx t]

/-- The second weights' block is the last layer's. -/
theorem read6 (c : Dev nD) (t : Fin cfg0.N) (f : Fin 4096) (k : Fin 1024) :
    (iblk m c 6 t : Vec Ideal S1x4096x1024 .bf16) (ix3 0 f k) = m ((c : Thread nD τ).loc main_arg5) (ix3 3 f k) := by
  blk_ext! [iblk, V, idx t]

/-- The final norm's scale. -/
theorem read7 (c : Dev nD) (t : Fin cfg0.N) (k : Fin 1024) :
    (iblk m c 7 t : Vec Ideal S1x1024 .f32) (ix2 0 k) = m ((c : Thread nD τ).loc main_arg6) (ix1 k) := by
  blk_ext! [iblk, V, idx t]

/-- The result array after the run is `G`. -/
theorem final (c : Dev nD) : (dats m 0 c).arrAt 8 cfg0.N = G m c := by
  refine (dats m 0 c).arrAt_eq_of_covers 8 _ (by decide +kernel) fun t _ y => ?_
  blk_simp
  rw [after0_8]
  unfold outsAt0
  idx_vars y
  refine (out_at c _ _ _ _ _ _ _ _ _ _ _ _ _ _ _ _ _ _ _ _ _ _ _ _ _ _ _ _ _ (read3 m c t) y0 y1).trans ?_
  have ht : t.val < 16 := (show t.val < cfg0.N from t.isLt).trans_eq (show cfg0.N = 16 from N_0)
  have e : ((cfg0.win 8).blk t).view.emb (ix2 y0 y1) = (ix2 ⟨t.val * 1024 + y0, by omega⟩ y1 : S16384x1024.Idx) := by
    blk_ext [idx t]
  refine Eq.trans ?_ (congrArg (G m c) e.symm)
  simp only [read0 m c t y0 _ ⟨t.val * 1024 + y0, by omega⟩ rfl, read1 m c t y0 _ ⟨t.val * 1024 + y0, by omega⟩ rfl, read2, read4, read5, read6, read7]
  rfl

end Cert.Kernel2Ideal.Mlp

namespace Cert.Reference2Ideal.Mlp

open Cert.Reference2Ideal Cert.Reference2Ideal.Gen
open Cert.Kernel2Ideal.Mlp (mlpRow rmsRow mixRow actRow)

/-- The reference's mixed rows. -/
def mix (h y : FVec Ideal S8x2048x1024 .f32) (wo : FVec Ideal S1024x1024 .f32) : FVec Ideal S8x2048x1024 .f32 :=
  addf h (Host.dotGeneral dot_S8x2048x1024_S1024x1024_S8x2048x1024_2_0_01_1_n_n none y wo)

/-- The reference's norm of every row of `x`, by the scale `g`. -/
def rms (x : FVec Ideal S8x2048x1024 .f32) (g : FVec Ideal S1024 .f32) : FVec Ideal S8x2048x1024 .f32 :=
  mulf (mulf x (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf x x) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x3727C5AC#32)))))) (broadcastInDim S8x2048x1024 ![0, 1, 2] bcast_S1x1x1024_S8x2048x1024_0_1_2 (broadcastInDim S1x1x1024 ![2] bcast_S1024_S1x1x1024_2 g))

/-- The last layer's scale. -/
def scale (g : FVec Ideal S4x1024 .f32) : FVec Ideal S1024 .f32 :=
  shapeCast _ (extractStridedSlice S1x1024 ![3, 0] g slices_S4x1024_S1x1024_3_0) shapeCasts_S1x1024_S1024

/-- The reference's rectified products. -/
def relu (u : FVec Ideal S8x2048x1024 .f32) (w1 : FVec Ideal S4x1024x4096 .f32) : FVec Ideal S8x2048x4096 .f32 :=
  maximumf (Host.dotGeneral dot_S8x2048x1024_S1024x4096_S8x2048x4096_2_0_01_1_n_n none u (shapeCast _ (extractStridedSlice S1x1024x4096 ![3, 0, 0] w1 slices_S4x1024x4096_S1x1024x4096_3_0_0) shapeCasts_S1x1024x4096_S1024x4096)) (broadcastInDim S8x2048x4096 ![] bcast_S_S8x2048x4096 (constant S_ .f32 0x00000000#32))

/-- The residual stream with the feed-forward's product added. -/
def ff (x : FVec Ideal S8x2048x1024 .f32) (r : FVec Ideal S8x2048x4096 .f32) (w2 : FVec Ideal S4x4096x1024 .f32) : FVec Ideal S8x2048x1024 .f32 :=
  addf x (Host.dotGeneral dot_S8x2048x4096_S4096x1024_S8x2048x1024_2_0_01_1_n_n none (mulf r r) (shapeCast _ (extractStridedSlice S1x4096x1024 ![3, 0, 0] w2 slices_S4x4096x1024_S1x4096x1024_3_0_0) shapeCasts_S1x4096x1024_S4096x1024))

variable (m : (ℓ : Loc nD τ sig) → Buf (Elt Ideal) ℓ)

/-- The reference's result, as a composition of the stages above. -/
theorem res_eq (c : Dev nD) : Value.res_main_v39 m c
    = shapeCast (⟨2, ![16384, 1024]⟩ : Shape) (rms (ff (mix (m ((c.tc : Thread nD τ).loc main_arg0)) (m ((c.tc : Thread nD τ).loc main_arg1)) (m ((c.tc : Thread nD τ).loc main_arg2)))
        (relu (rms (mix (m ((c.tc : Thread nD τ).loc main_arg0)) (m ((c.tc : Thread nD τ).loc main_arg1)) (m ((c.tc : Thread nD τ).loc main_arg2))) (scale (m ((c.tc : Thread nD τ).loc main_arg3))))
          (m ((c.tc : Thread nD τ).loc main_arg4))) (m ((c.tc : Thread nD τ).loc main_arg5))) (m ((c.tc : Thread nD τ).loc main_arg6))) shapeCasts_S8x2048x1024_S16384x1024 := rfl

/-- The mixed rows at an index. -/
theorem mix_at (h y : FVec Ideal S8x2048x1024 .f32) (wo : FVec Ideal S1024x1024 .f32) (b : Fin 8) (s : Fin 2048) (c : Fin 1024) :
    mix h y wo (ix3 b s c) = mixRow (fun k => h (ix3 b s k)) (fun k => y (ix3 b s k)) (fun k c => wo (ix2 k c)) c := by
  pointwise [mix, mixRow]
  done

/-- The norm at an index. -/
theorem rms_at (x : FVec Ideal S8x2048x1024 .f32) (g : FVec Ideal S1024 .f32) (b : Fin 8) (s : Fin 2048) (c : Fin 1024) :
    rms x g (ix3 b s c) = rmsRow (fun k => x (ix3 b s k)) (fun k => g (ix1 k)) c := by
  pointwise [rms, rmsRow]
  done

/-- The last layer's scale at an index. -/
theorem scale_at (g : FVec Ideal S4x1024 .f32) (k : Fin 1024) : scale g (ix1 k) = g (ix2 3 k) := by
  pointwise [scale]
  done

/-- The feed-forward with its residual, at an index. -/
theorem ff_at (x u : FVec Ideal S8x2048x1024 .f32) (w1 : FVec Ideal S4x1024x4096 .f32) (w2 : FVec Ideal S4x4096x1024 .f32) (b : Fin 8) (s : Fin 2048) (c : Fin 1024) :
    ff x (relu u w1) w2 (ix3 b s c)
      = x (ix3 b s c) + ∑ f, actRow (fun k => u (ix3 b s k)) (fun k f => w1 (ix3 3 k f)) f * w2 (ix3 3 f c) := by
  pointwise [ff, relu, actRow]
  done

/-- The reference's result at an index. -/
theorem res_at (c : Dev nD) (r : Fin 16384) (d : Fin 1024) : Value.res_main_v39 m c (ix2 r d)
    = mlpRow (fun k => m ((c.tc : Thread nD τ).loc main_arg0) (ix3 ⟨(r : Nat) / 2048, by omega⟩ ⟨(r : Nat) % 2048, by omega⟩ k))
    (fun k => m ((c.tc : Thread nD τ).loc main_arg1) (ix3 ⟨(r : Nat) / 2048, by omega⟩ ⟨(r : Nat) % 2048, by omega⟩ k))
    (fun k c' => m ((c.tc : Thread nD τ).loc main_arg2) (ix2 k c'))
    (fun k => m ((c.tc : Thread nD τ).loc main_arg3) (ix2 3 k))
    (fun k f => m ((c.tc : Thread nD τ).loc main_arg4) (ix3 3 k f))
    (fun f c' => m ((c.tc : Thread nD τ).loc main_arg5) (ix3 3 f c'))
    (fun k => m ((c.tc : Thread nD τ).loc main_arg6) (ix1 k)) d := by
  rw [res_eq]
  pointwise
  simp only [rms_at, ff_at, mix_at, scale_at]
  rfl

end Cert.Reference2Ideal.Mlp
-- ==== Proof.Mlp3Value.lean ====
/-
  The value of the feed-forward call in a layer before the last (`Kernel3`): the output projection has a bias, and there is
  no final norm. Its rows are built from the functions of `MlpValue`.
-/
module

public import proofs.«01_k».proof.Proof.MlpValue
public import proofs.«01_k».proof.Proof.Gen.Kernel3Ideal.Value
public import proofs.«01_k».proof.Proof.Gen.Reference3Ideal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel3Ideal.Mlp

open Cert.Kernel3Ideal Cert.Kernel3Ideal.Gen
open Cert.Kernel2Ideal.Mlp (rmsRow mixRow actRow)

/-- A row of the residual stream with the biased projection of the mixer's output added to it. -/
def biasRow (h y : Fin 1024 → EReal) (wo : Fin 1024 → Fin 1024 → EReal) (b : Fin 1024 → EReal) (c : Fin 1024) : EReal :=
  h c + (∑ k, y k * wo k c + b c)

/-- A row of the feed-forward layer: mix, norm, squared-ReLU feed-forward, residual. -/
def mlpRow (h y : Fin 1024 → EReal) (wo : Fin 1024 → Fin 1024 → EReal) (b g : Fin 1024 → EReal)
    (w1 : Fin 1024 → Fin 4096 → EReal) (w2 : Fin 4096 → Fin 1024 → EReal) (c : Fin 1024) : EReal :=
  biasRow h y wo b c + ∑ f, actRow (rmsRow (biasRow h y wo b) g) w1 f * w2 f c

/-- The kernel's mixed row adds the bias before the product. -/
theorem pay2_at (v0 : Vec Ideal S1024x1024 .f32) (v2 : Vec Ideal S1x1024 .f32) (v6 v8 : Vec Ideal S1024x1024 .bf16) (a c : Fin 1024) :
    k0_pay2 v0 v2 v6 v8 (ix2 a c)
      = biasRow (fun k => v0 (ix2 a k)) (fun k => v6 (ix2 a k)) (fun k c => v8 (ix2 k c)) (fun k => v2 (ix2 0 k)) c := by
  pointwise [k0_pay2, biasRow]
  rw [add_assoc, add_comm (v2 _)]

/-- The kernel's normed row. -/
theorem pay3_at (v0 : Vec Ideal S1024x1024 .f32) (v2 : Vec Ideal S1x1024 .f32) (v6 v8 : Vec Ideal S1024x1024 .bf16)
    (v12 : Vec Ideal S1x1024 .f32) (a c : Fin 1024) :
    k0_pay3 v0 v2 v6 v8 v12 (ix2 a c) = rmsRow (fun k => k0_pay2 v0 v2 v6 v8 (ix2 a k)) (fun k => v12 (ix2 0 k)) c := by
  pointwise [k0_pay3, rmsRow]
  done

/-- The kernel's last stage: the second product and the residual. -/
theorem pay1_at (v11 : FVec Ideal S1024x1024 .f32) (v67 : Vec Ideal S1024x4096 .bf16) (v68 : Vec Ideal S1x4096x1024 .bf16) (a c : Fin 1024) :
    k0_pay1 v11 v67 v68 (ix2 a c) = v11 (ix2 a c) + ∑ f, v67 (ix2 a f) * v68 (ix3 0 f c) := by
  pointwise [k0_pay1]
  done

/-- What the body leaves in the output block, at an index: the row function of the input blocks' rows. -/
theorem out_at (c : Dev nD) (i : grid0.Coords) (arg1 : Memref sig .tc .vmem S1024x1024 .f32) (harg1 : arg1.IsWhole) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024x4096 .bf16) (harg6 : arg6.IsWhole) (arg7 : Memref sig .tc .vmem S1x4096x1024 .bf16) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x4096 .bf16) (harg10 : arg10.IsWhole)
    (x0 : Vec Ideal S1024x1024 .f32) (x1 : Vec Ideal S1024x1024 .bf16) (x2 : Vec Ideal S1024x1024 .bf16) (x3 : Vec Ideal S1x1024 .f32) (x4 : Vec Ideal S1x1024 .f32) (x5 : Vec Ideal S1x1024x4096 .bf16) (x6 : Vec Ideal S1x4096x1024 .bf16) (x7 : Vec Ideal S1x1024 .f32)
    (a d : Fin 1024) :
    out0_A_8 c i arg1 harg1 arg2 harg2 arg3 harg3 arg4 harg4 arg5 harg5 arg6 harg6 arg7 harg7 arg8 harg8 arg9 harg9 arg10 harg10 x0 x1 x2 x3 x4 x5 x6 x7 (ix2 a d)
      = mlpRow (fun k => x0 (ix2 a k)) (fun k => x1 (ix2 a k)) (fun k c => x2 (ix2 k c)) (fun k => x3 (ix2 0 k)) (fun k => x4 (ix2 0 k))
          (fun k f => x5 (ix3 0 k f)) (fun f c => x6 (ix3 0 f c)) d := by
  frame_out
  have hH : (fun k => k0_pay2 x0 x3 x1 x2 (ix2 a k))
      = biasRow (fun k => x0 (ix2 a k)) (fun k => x1 (ix2 a k)) (fun k c => x2 (ix2 k c)) (fun k => x3 (ix2 0 k)) :=
    funext fun k => pay2_at x0 x3 x1 x2 a k
  have hU : ∀ k : Fin 1024, k0_pay3 x0 x3 x1 x2 x4 (ix2 a k)
      = rmsRow (biasRow (fun k => x0 (ix2 a k)) (fun k => x1 (ix2 a k)) (fun k c => x2 (ix2 k c)) (fun k => x3 (ix2 0 k))) (fun k => x4 (ix2 0 k)) k :=
    fun k => by rw [pay3_at, hH]
  rw [pay1_at]
  unfold mlpRow
  refine Ideal.add_congr (pay2_at x0 x3 x1 x2 a d) (Finset.sum_congr rfl fun f _ => Ideal.mul_congr ?_ rfl)
  rw [View.readCov_eq_canon']
  have e : (Rect.unit ![0, 0] ![1024, 4096] inb_S1024x4096_S1024x4096_0_0).toLoadRect.idx (ix2 a f) = (ix2 a f : S1024x4096.Idx) :=
    congrFun (View.ld_unit_lit (Val := fun _ => S1024x4096.Idx) (e := .f32) inb_S1024x4096_S1024x4096_0_0 id (by decide)) (ix2 a f)
  refine (congrArg (View.canon _) e).trans ?_
  exact Cert.Kernel2Ideal.Mlp.scratch_at _ x5 _ a hU _ rfl f

variable (m : (ℓ : Loc nD τ sig) → Buf (Elt Ideal) ℓ)

/-- Where each window's block lies, at every grid point. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![1, 0, 0] ∧ win0_6.index t = ![1, 0, 0]
    ∧ win0_7.index t = ![0, 0] ∧ win0_8.index t = ![t.val, 0] :=
  (by decide +kernel : ∀ t : Fin grid0.N, _)

/-- The result: row `r` of it is a function of the same row of the first two arguments. -/
def G (c : Dev nD) : FVec Ideal S16384x1024 .f32 := fun i =>
  have r : Fin 16384 := i 0
  mlpRow (fun k => m ((c : Thread nD τ).loc main_arg0) (ix3 ⟨r / 2048, by omega⟩ ⟨r % 2048, by omega⟩ k))
    (fun k => m ((c : Thread nD τ).loc main_arg1) (ix3 ⟨r / 2048, by omega⟩ ⟨r % 2048, by omega⟩ k))
    (fun k c' => m ((c : Thread nD τ).loc main_arg2) (ix2 k c'))
    (fun k => m ((c : Thread nD τ).loc main_arg3) (ix1 k))
    (fun k => m ((c : Thread nD τ).loc main_arg4) (ix2 1 k))
    (fun k f => m ((c : Thread nD τ).loc main_arg5) (ix3 1 k f))
    (fun f c' => m ((c : Thread nD τ).loc main_arg6) (ix3 1 f c')) (i 1)

/-- Row `a` of point `t`'s block of the residual stream, in the argument array. -/
theorem read0 (c : Dev nD) (t : Fin cfg0.N) (a k : Fin 1024) (r : Fin 16384) (hr : (r : Nat) = t.val * 1024 + a) :
    (iblk m c 0 t : Vec Ideal S1024x1024 .f32) (ix2 a k)
      = m ((c : Thread nD τ).loc main_arg0) (ix3 ⟨(r : Nat) / 2048, by omega⟩ ⟨(r : Nat) % 2048, by omega⟩ k) := by
  blk_ext! [iblk, V, idx t]

/-- Row `a` of point `t`'s block of the mixer's output, in the argument array. -/
theorem read1 (c : Dev nD) (t : Fin cfg0.N) (a k : Fin 1024) (r : Fin 16384) (hr : (r : Nat) = t.val * 1024 + a) :
    (iblk m c 1 t : Vec Ideal S1024x1024 .bf16) (ix2 a k)
      = m ((c : Thread nD τ).loc main_arg1) (ix3 ⟨(r : Nat) / 2048, by omega⟩ ⟨(r : Nat) % 2048, by omega⟩ k) := by
  blk_ext! [iblk, V, idx t]

/-- The output projection's block is its array. -/
theorem read2 (c : Dev nD) (t : Fin cfg0.N) (a k : Fin 1024) :
    (iblk m c 2 t : Vec Ideal S1024x1024 .bf16) (ix2 a k) = m ((c : Thread nD τ).loc main_arg2) (ix2 a k) := by
  blk_ext! [iblk, V, idx t]

/-- The bias's block is its array. -/
theorem read3 (c : Dev nD) (t : Fin cfg0.N) (k : Fin 1024) :
    (iblk m c 3 t : Vec Ideal S1x1024 .f32) (ix2 0 k) = m ((c : Thread nD τ).loc main_arg3) (ix1 k) := by
  blk_ext! [iblk, V, idx t]

/-- The norm's scale is the layer's row. -/
theorem read4 (c : Dev nD) (t : Fin cfg0.N) (k : Fin 1024) :
    (iblk m c 4 t : Vec Ideal S1x1024 .f32) (ix2 0 k) = m ((c : Thread nD τ).loc main_arg4) (ix2 1 k) := by
  blk_ext! [iblk, V, idx t]

/-- The first weights' block is the layer's. -/
theorem read5 (c : Dev nD) (t : Fin cfg0.N) (k : Fin 1024) (f : Fin 4096) :
    (iblk m c 5 t : Vec Ideal S1x1024x4096 .bf16) (ix3 0 k f) = m ((c : Thread nD τ).loc main_arg5) (ix3 1 k f) := by
  blk_ext! [iblk, V, idx t]

/-- The second weights' block is the layer's. -/
theorem read6 (c : Dev nD) (t : Fin cfg0.N) (f : Fin 4096) (k : Fin 1024) :
    (iblk m c 6 t : Vec Ideal S1x4096x1024 .bf16) (ix3 0 f k) = m ((c : Thread nD τ).loc main_arg6) (ix3 1 f k) := by
  blk_ext! [iblk, V, idx t]

/-- The result array after the run is `G`. -/
theorem final (c : Dev nD) : (dats m 0 c).arrAt 8 cfg0.N = G m c := by
  refine (dats m 0 c).arrAt_eq_of_covers 8 _ (by decide +kernel) fun t _ y => ?_
  blk_simp
  rw [after0_8]
  unfold outsAt0
  idx_vars y
  refine (out_at c _ _ _ _ _ _ _ _ _ _ _ _ _ _ _ _ _ _ _ _ _ _ _ _ _ _ _ _ _ y0 y1).trans ?_
  have ht : t.val < 16 := (show t.val < cfg0.N from t.isLt).trans_eq (show cfg0.N = 16 from N_0)
  have e : ((cfg0.win 8).blk t).view.emb (ix2 y0 y1) = (ix2 ⟨t.val * 1024 + y0, by omega⟩ y1 : S16384x1024.Idx) := by
    blk_ext [idx t]
  refine Eq.trans ?_ (congrArg (G m c) e.symm)
  simp only [read0 m c t y0 _ ⟨t.val * 1024 + y0, by omega⟩ rfl, read1 m c t y0 _ ⟨t.val * 1024 + y0, by omega⟩ rfl, read2, read3, read4, read5, read6]
  rfl

end Cert.Kernel3Ideal.Mlp

namespace Cert.Reference3Ideal.Mlp

open Cert.Reference3Ideal Cert.Reference3Ideal.Gen
open Cert.Kernel2Ideal.Mlp (rmsRow actRow)
open Cert.Kernel3Ideal.Mlp (biasRow mlpRow)
open Cert.Reference2Ideal.Mlp (rms rms_at)

/-- The reference's mixed rows. -/
def mix (h y : FVec Ideal S8x2048x1024 .f32) (wo : FVec Ideal S1024x1024 .f32) (b : FVec Ideal S1024 .f32) : FVec Ideal S8x2048x1024 .f32 :=
  addf h (addf (Host.dotGeneral dot_S8x2048x1024_S1024x1024_S8x2048x1024_2_0_01_1_n_n none y wo) (broadcastInDim S8x2048x1024 ![0, 1, 2] bcast_S1x1x1024_S8x2048x1024_0_1_2 (broadcastInDim S1x1x1024 ![2] bcast_S1024_S1x1x1024_2 b)))

/-- The layer's scale. -/
def scale (g : FVec Ideal S4x1024 .f32) : FVec Ideal S1024 .f32 :=
  shapeCast _ (extractStridedSlice S1x1024 ![1, 0] g slices_S4x1024_S1x1024_1_0) shapeCasts_S1x1024_S1024

/-- The residual stream with the feed-forward's product added. -/
def ff (x u : FVec Ideal S8x2048x1024 .f32) (w1 : FVec Ideal S4x1024x4096 .f32) (w2 : FVec Ideal S4x4096x1024 .f32) : FVec Ideal S8x2048x1024 .f32 :=
  have r : FVec Ideal S8x2048x4096 .f32 := maximumf (Host.dotGeneral dot_S8x2048x1024_S1024x4096_S8x2048x4096_2_0_01_1_n_n none u (shapeCast _ (extractStridedSlice S1x1024x4096 ![1, 0, 0] w1 slices_S4x1024x4096_S1x1024x4096_1_0_0) shapeCasts_S1x1024x4096_S1024x4096)) (broadcastInDim S8x2048x4096 ![] bcast_S_S8x2048x4096 (constant S_ .f32 0x00000000#32))
  addf x (Host.dotGeneral dot_S8x2048x4096_S4096x1024_S8x2048x1024_2_0_01_1_n_n none (mulf r r) (shapeCast _ (extractStridedSlice S1x4096x1024 ![1, 0, 0] w2 slices_S4x4096x1024_S1x4096x1024_1_0_0) shapeCasts_S1x4096x1024_S4096x1024))

/-- The reference's result, as a composition of stages. -/
def whole (h y : FVec Ideal S8x2048x1024 .f32) (wo : FVec Ideal S1024x1024 .f32) (b : FVec Ideal S1024 .f32) (g : FVec Ideal S4x1024 .f32)
    (w1 : FVec Ideal S4x1024x4096 .f32) (w2 : FVec Ideal S4x4096x1024 .f32) : FVec Ideal S16384x1024 .f32 :=
  shapeCast (⟨2, ![16384, 1024]⟩ : Shape) (ff (mix h y wo b) (rms (mix h y wo b) (scale g)) w1 w2) shapeCasts_S8x2048x1024_S16384x1024

variable (m : (ℓ : Loc nD τ sig) → Buf (Elt Ideal) ℓ)

theorem res_eq (c : Dev nD) : Value.res_main_v29 m c
    = whole (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) := rfl

/-- The mixed rows at an index. -/
theorem mix_at (h y : FVec Ideal S8x2048x1024 .f32) (wo : FVec Ideal S1024x1024 .f32) (b : FVec Ideal S1024 .f32) (i : Fin 8) (s : Fin 2048) (c : Fin 1024) :
    mix h y wo b (ix3 i s c) = biasRow (fun k => h (ix3 i s k)) (fun k => y (ix3 i s k)) (fun k c => wo (ix2 k c)) (fun k => b (ix1 k)) c := by
  pointwise [mix, biasRow]
  done

/-- The layer's scale at an index. -/
theorem scale_at (g : FVec Ideal S4x1024 .f32) (k : Fin 1024) : scale g (ix1 k) = g (ix2 1 k) := by
  pointwise [scale]
  done

/-- The feed-forward with its residual, at an index. -/
theorem ff_at (x u : FVec Ideal S8x2048x1024 .f32) (w1 : FVec Ideal S4x1024x4096 .f32) (w2 : FVec Ideal S4x4096x1024 .f32) (b : Fin 8) (s : Fin 2048) (c : Fin 1024) :
    ff x u w1 w2 (ix3 b s c)
      = x (ix3 b s c) + ∑ f, actRow (fun k => u (ix3 b s k)) (fun k f => w1 (ix3 1 k f)) f * w2 (ix3 1 f c) := by
  pointwise [ff, actRow]
  done

/-- The result at an index. -/
theorem whole_at (h y : FVec Ideal S8x2048x1024 .f32) (wo : FVec Ideal S1024x1024 .f32) (b : FVec Ideal S1024 .f32) (g : FVec Ideal S4x1024 .f32)
    (w1 : FVec Ideal S4x1024x4096 .f32) (w2 : FVec Ideal S4x4096x1024 .f32) (r : Fin 16384) (d : Fin 1024) :
    whole h y wo b g w1 w2 (ix2 r d)
      = mlpRow (fun k => h (ix3 ⟨(r : Nat) / 2048, by omega⟩ ⟨(r : Nat) % 2048, by omega⟩ k))
          (fun k => y (ix3 ⟨(r : Nat) / 2048, by omega⟩ ⟨(r : Nat) % 2048, by omega⟩ k))
          (fun k c' => wo (ix2 k c')) (fun k => b (ix1 k)) (fun k => g (ix2 1 k)) (fun k f => w1 (ix3 1 k f)) (fun f c' => w2 (ix3 1 f c')) d := by
  unfold whole
  pointwise
  rw [ff_at]
  simp only [mix_at, rms_at, scale_at]
  rfl

end Cert.Reference3Ideal.Mlp
-- ==== Proof.Mlp3Claims.lean ====
/-
  The claims about the feed-forward call in a layer before the last, from its value lemmas.
-/
module

public import proofs.«01_k».proof.Proof.Mlp3Value
public import proofs.«01_k».proof.Proof.Gen.Kernel3.Frame
public import Idealize.ShloMosaic.Lib.Quiescent

@[expose] public section

noncomputable section

open Idealize.ShloMosaic Idealize.ShloMosaic.TcCoe Idealize.SL.Sem

namespace Cert.Proof.Mlp3

/-- The printed call runs to its end, quietly, and leaves its arguments unchanged. -/
theorem frame_k : Cert.quiescent_Kernel3 := fun m ρ _ => Cert.Kernel3.Gen.frame m ρ

/-- So does its idealization. -/
theorem frame_ki : Cert.quiescent_Kernel3Ideal := fun m ρ _ => Cert.Kernel3Ideal.Gen.frame m ρ

/-- So does the reference. -/
theorem frame_ri : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The idealization replaced nothing. -/
theorem preserves : Cert.preserves_Kernel3_Kernel3Ideal := trivial

/-- The kernel's result is the reference's: both are the same row function of arguments that agree. -/
theorem algebraic : Cert.algebraic_Kernel3Ideal_Reference3Ideal := by
  intro m ρ m' ρ' _ hag
  refine ⟨fun c => Cert.Kernel3Ideal.Mlp.G m c, ?_, ?_⟩
  · exact (θ_run Cert.Kernel3Ideal.defs _ _).mono
      (fun r h c => ⟨(h c).1.trans (Cert.Kernel3Ideal.Mlp.final m c), (h c).2⟩)
      (Cert.Kernel3Ideal.Value.run_blocks (F := Ideal) m ρ)
  · refine (θ_run Cert.Reference3Ideal.defs _ _).mono (fun r h c => ⟨(h c).1.trans ?_, (h c).2⟩)
      (Cert.Reference3Ideal.Value.run (F := Ideal) m' ρ')
    obtain ⟨h0, h1, h2, h3, h4, h5, h6, h7⟩ := hag c
    funext i
    idx_vars i
    rw [Cert.Reference3Ideal.Mlp.res_eq]
    refine (Cert.Reference3Ideal.Mlp.whole_at _ _ _ _ _ _ _ i0 i1).trans ?_
    rw [h0, h1, h2, h3, h4, h5, h6]
    rfl

end Cert.Proof.Mlp3
-- ==== Proof.RwkvPay.lean ====
/-
  The recurrence's projections: what the kernel's values are at an index.
-/
module

public import proofs.«01_k».proof.Proof.MlpValue
public import proofs.«01_k».proof.Proof.Gen.Kernel4Ideal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel4Ideal.Rwkv

open Cert.Kernel4Ideal Cert.Kernel4Ideal.Gen
open Cert.Kernel2Ideal.Mlp (rmsRow)

/-! ## The functions of a token's rows -/

/-- A normed row `u` moved towards the previous token's `p`, by the weights `mu`. -/
def mixed (u p mu : Fin 1024 → EReal) (k : Fin 1024) : EReal := u k + (p k - u k) * mu k

/-- A row times a matrix. -/
def proj {n q : Nat} (x : Fin n → EReal) (w : Fin n → Fin q → EReal) (c : Fin q) : EReal := ∑ k, x k * w k c

/-- The logistic function. -/
def sigm (x : EReal) : EReal := Ideal.div 1 (1 + Ideal.exp (-x))

/-- The logarithm of the decay: minus the exponential of minus the softplus of `-x`, less one half. -/
def decay (x : EReal) : EReal :=
  -Ideal.exp (-(max (-x) 0 + Ideal.log (1 + Ideal.exp (-(FloatOps.absf (F := Ideal) (φ := .f32) (-x)))))
    - Ideal.ofBits .f32 0x3F000000#32)

/-- A row with every head's 64 numbers divided by their length. -/
def unit (k : Fin 1024 → EReal) (c : Fin 1024) : EReal :=
  k c * Ideal.rsqrt (max (∑ j : Fin 64, k ⟨(c : Nat) / 64 * 64 + j, by omega⟩ * k ⟨(c : Nat) / 64 * 64 + j, by omega⟩)
    (Ideal.ofBits .f32 0x179ABE15#32))

/-- An array of two axes as a matrix. -/
def mat {n q : Nat} (w : FVec Ideal (⟨2, ![n, q]⟩ : Shape) .f32) (k : Fin n) (c : Fin q) : EReal := w (ix2 k c)

/-! ## The kernel's payloads at an index -/

theorem pay12_at (v1 : FVec Ideal S1x1024 .f32) (v29 : FVec Ideal S512x1024 .f32) (v37 : FVec Ideal S512x1 .f32) (a : Fin 512) (c : Fin 1024) :
    k0_pay12 v1 v29 v37 (ix2 a c) = v29 (ix2 a c) * v37 (ix2 a 0) * v1 (ix2 0 c) := by
  pointwise [k0_pay12]
  done

/-- The rows of a block before each of its rows, with `z` before the first. -/
def before (z : Fin 1024 → EReal) (u : Fin 512 → Fin 1024 → EReal) (a : Fin 512) : Fin 1024 → EReal :=
  if (a : Nat) = 0 then z else u ⟨(a : Nat) - 1, by omega⟩

/-- A number below 512 is zero as a word exactly when it is zero. -/
theorem word_eq (a : Nat) (h : a < 512) : IntOp.cmpi CmpIPredicate.eq (BitVec.ofNat 32 a) 0#32 = if a = 0 then 1#1 else 0#1 := by
  have e : (BitVec.ofNat 32 a = 0#32) ↔ a = 0 := by
    constructor
    · intro e
      have := congrArg BitVec.toNat e
      simp at this
      omega
    · rintro rfl; rfl
  by_cases ha : a = 0
  · subst ha; rfl
  · have : BitVec.ofNat 32 a ≠ 0#32 := fun x => ha (e.1 x)
    simp only [IntOp.cmpi, beq_eq_false_iff_ne.mpr this, ha, if_false]; rfl

/-- The difference to the previous row. -/
theorem pay13_at (v1 v27 : FVec Ideal S1x1024 .f32) (v29 : FVec Ideal S512x1024 .f32) (v37 : FVec Ideal S512x1 .f32) (a : Fin 512) (c : Fin 1024) :
    k0_pay13 v1 v27 v29 v37 (ix2 a c)
      = before (fun k => v27 (ix2 0 k)) (fun a k => k0_pay12 v1 v29 v37 (ix2 a k)) a c - k0_pay12 v1 v29 v37 (ix2 a c) := by
  pointwise [k0_pay13]
  rw [word_eq a.val a.isLt]
  unfold before
  by_cases ha : (a : Nat) = 0
  · simp [ha, Scalar.select]
  · simp only [ha, if_false, Scalar.select]
    have e : (⟨((a : Nat) + 512 - 1) % 512, by omega⟩ : Fin 512) = ⟨(a : Nat) - 1, by omega⟩ := Fin.ext (by show ((a : Nat) + 512 - 1) % 512 = a - 1; omega)
    simp only [e]
    rfl

/-- The row before a block: the last one of the rows loaded for it, or zero at the sequence's start. -/
def first (i : grid0.Coords) (g : Fin 1024 → EReal) (x : Fin 1024 → EReal) : Fin 1024 → EReal :=
  if (i 1).val = 0 then fun _ => 0 else rmsRow x g

theorem pay9_at (i : grid0.Coords) (v0 : Vec Ideal S1x1024 .f32) (v10 : Vec Ideal S1x8x1024 .f32) (c : Fin 1024) :
    k0_pay9 i v0 v10 (ix2 0 c) = first i (fun k => v0 (ix2 0 k)) (fun k => v10 (ix3 0 7 k)) c := by
  have hi : (i 1).val < 4 := (i 1).isLt
  pointwise [k0_pay9, k0_pay2]
  unfold first
  interval_cases h : (i 1).val <;> rfl

theorem mix0_at (v1 : FVec Ideal S1x1024 .f32) (v3 : FVec Ideal S8x1024 .f32) (v27 : FVec Ideal S1x1024 .f32) (v29 : FVec Ideal S512x1024 .f32) (v37 : FVec Ideal S512x1 .f32) (a : Fin 512) (c : Fin 1024) :
    k0_pay14 v1 v3 v27 v29 v37 (ix2 a c) = mixed (fun k => k0_pay12 v1 v29 v37 (ix2 a k))
      (before (fun k => v27 (ix2 0 k)) (fun a k => k0_pay12 v1 v29 v37 (ix2 a k)) a) (fun k => v3 (ix2 0 k)) c := by
  pointwise [k0_pay14]
  rw [pay13_at]
  rfl

theorem mix2_at (v1 : FVec Ideal S1x1024 .f32) (v3 : FVec Ideal S8x1024 .f32) (v27 : FVec Ideal S1x1024 .f32) (v29 : FVec Ideal S512x1024 .f32) (v37 : FVec Ideal S512x1 .f32) (a : Fin 512) (c : Fin 1024) :
    k0_pay15 v1 v3 v27 v29 v37 (ix2 a c) = mixed (fun k => k0_pay12 v1 v29 v37 (ix2 a k))
      (before (fun k => v27 (ix2 0 k)) (fun a k => k0_pay12 v1 v29 v37 (ix2 a k)) a) (fun k => v3 (ix2 2 k)) c := by
  pointwise [k0_pay15]
  rw [pay13_at]
  rfl

theorem mix3_at (v1 : FVec Ideal S1x1024 .f32) (v3 : FVec Ideal S8x1024 .f32) (v27 : FVec Ideal S1x1024 .f32) (v29 : FVec Ideal S512x1024 .f32) (v37 : FVec Ideal S512x1 .f32) (a : Fin 512) (c : Fin 1024) :
    k0_pay16 v1 v3 v27 v29 v37 (ix2 a c) = mixed (fun k => k0_pay12 v1 v29 v37 (ix2 a k))
      (before (fun k => v27 (ix2 0 k)) (fun a k => k0_pay12 v1 v29 v37 (ix2 a k)) a) (fun k => v3 (ix2 3 k)) c := by
  pointwise [k0_pay16]
  rw [pay13_at]
  rfl

theorem mix5_at (v1 : FVec Ideal S1x1024 .f32) (v3 : FVec Ideal S8x1024 .f32) (v27 : FVec Ideal S1x1024 .f32) (v29 : FVec Ideal S512x1024 .f32) (v37 : FVec Ideal S512x1 .f32) (a : Fin 512) (c : Fin 1024) :
    k0_pay17 v1 v3 v27 v29 v37 (ix2 a c) = mixed (fun k => k0_pay12 v1 v29 v37 (ix2 a k))
      (before (fun k => v27 (ix2 0 k)) (fun a k => k0_pay12 v1 v29 v37 (ix2 a k)) a) (fun k => v3 (ix2 5 k)) c := by
  pointwise [k0_pay17]
  rw [pay13_at]
  rfl

theorem low1_at (v1 : FVec Ideal S1x1024 .f32) (v3 : FVec Ideal S8x1024 .f32) (v27 : FVec Ideal S1x1024 .f32) (v29 : FVec Ideal S512x1024 .f32) (v37 : FVec Ideal S512x1 .f32) (w : Vec Ideal S1024x64 .bf16) (a : Fin 512) (c : Fin 64) :
    k0_pay18 v1 v3 v27 v29 v37 w (ix2 a c) = proj (mixed (fun k => k0_pay12 v1 v29 v37 (ix2 a k))
      (before (fun k => v27 (ix2 0 k)) (fun a k => k0_pay12 v1 v29 v37 (ix2 a k)) a) (fun k => v3 (ix2 1 k))) (mat w) c := by
  pointwise [k0_pay18]
  simp only [pay13_at]
  rfl

theorem low4_at (v1 : FVec Ideal S1x1024 .f32) (v3 : FVec Ideal S8x1024 .f32) (v27 : FVec Ideal S1x1024 .f32) (v29 : FVec Ideal S512x1024 .f32) (v37 : FVec Ideal S512x1 .f32) (w : Vec Ideal S1024x64 .bf16) (a : Fin 512) (c : Fin 64) :
    k0_pay19 v1 v3 v27 v29 v37 w (ix2 a c) = proj (mixed (fun k => k0_pay12 v1 v29 v37 (ix2 a k))
      (before (fun k => v27 (ix2 0 k)) (fun a k => k0_pay12 v1 v29 v37 (ix2 a k)) a) (fun k => v3 (ix2 4 k))) (mat w) c := by
  pointwise [k0_pay19]
  simp only [pay13_at]
  rfl

/-- The three square projections. -/
theorem sq_at (x : FVec Ideal S512x1024 .bf16) (w : Vec Ideal S1024x1024 .bf16) (a : Fin 512) (c : Fin 1024) :
    k0_pay23 x w (ix2 a c) = proj (fun k => x (ix2 a k)) (mat w) c := by
  pointwise [k0_pay23]
  rfl

/-- The decay's argument. -/
theorem pay20_at (v6 : FVec Ideal S1x1024 .f32) (x : FVec Ideal S512x64 .f32) (w : Vec Ideal S64x1024 .bf16) (a : Fin 512) (c : Fin 1024) :
    k0_pay20 v6 x w (ix2 a c) = v6 (ix2 0 c) + proj (fun k => Ideal.tanh (x (ix2 a k))) (mat w) c := by
  pointwise [k0_pay20]
  rfl

/-- The decay. -/
theorem pay31_at (x : FVec Ideal S512x1024 .f32) (a : Fin 512) (c : Fin 1024) :
    k0_pay31 (k0_pay27 x k0_pay26) (ix3 0 a c) = decay (x (ix2 a c)) := by
  pointwise [k0_pay31, k0_pay27, k0_pay26]
  simp only [zero_sub]
  rfl

/-- The rate's argument. -/
theorem pay21_at (v7 : FVec Ideal S1x1024 .f32) (x : FVec Ideal S512x64 .f32) (w : Vec Ideal S64x1024 .bf16) (a : Fin 512) (c : Fin 1024) :
    k0_pay21 v7 x w (ix2 a c) = v7 (ix2 0 c) + proj (fun k => x (ix2 a k)) (mat w) c := by
  pointwise [k0_pay21]
  rfl

/-- The rate. -/
theorem pay28_at (x : FVec Ideal S512x1024 .f32) (a : Fin 512) (c : Fin 1024) : k0_pay28 x (ix2 a c) = sigm (x (ix2 a c)) := by
  pointwise [k0_pay28]
  simp only [zero_sub]
  rfl

/-- The gate. -/
theorem pay22_at (x : FVec Ideal S512x1024 .bf16) (w1 : Vec Ideal S1024x128 .bf16) (w2 : Vec Ideal S128x1024 .bf16) (a : Fin 512) (c : Fin 1024) :
    k0_pay22 x w1 w2 (ix2 a c) = proj (fun j => sigm (proj (fun k => x (ix2 a k)) (mat w1) j)) (mat w2) c := by
  pointwise [k0_pay22]
  simp only [zero_sub]
  rfl

/-- The effective key. -/
theorem pay32_at (v9 : FVec Ideal S1x1024 .f32) (k r : FVec Ideal S512x1024 .f32) (a : Fin 512) (c : Fin 1024) :
    k0_pay32 v9 k r (ix3 0 a c) = k (ix2 a c) * (1 + (r (ix2 a c) - 1) * v9 (ix2 0 c)) := by
  pointwise [k0_pay32]
  done

/-- A sum over 256 numbers weighted by a head's indicator is the sum over the head. -/
theorem head_sum (f : Fin 256 → EReal) (e : Fin 256) :
    ∑ x : Fin 256, f x * (if (x : Nat) / 64 = (e : Nat) / 64 then 1 else 0) = ∑ j : Fin 64, f ⟨(e : Nat) / 64 * 64 + j, by omega⟩ := by
  simp only [mul_ite, mul_one, mul_zero]
  rw [← Finset.sum_filter]
  refine (Finset.sum_bij (fun (j : Fin 64) _ => (⟨(e : Nat) / 64 * 64 + j, by omega⟩ : Fin 256)) ?_ ?_ ?_ ?_).symm
  · intro j _
    have := j.isLt
    simp only [Finset.mem_filter, Finset.mem_univ, true_and]
    omega
  · intro j _ j' _ h
    have := congrArg Fin.val h
    simp only at this
    exact Fin.ext (by omega)
  · intro x hx
    simp only [Finset.mem_filter, Finset.mem_univ, true_and] at hx
    exact ⟨⟨(x : Nat) % 64, by omega⟩, Finset.mem_univ _, Fin.ext (by simp only; omega)⟩
  · intro j _; rfl

/-- The same for the columns of a row of 1024, summed in the chunk `o` that holds the head of column `c`. -/
theorem chunk_sum (f : Fin 1024 → EReal) (c : Fin 1024) (w : Fin 256 → Fin 256 → EReal)
    (hw : ∀ x e : Fin 256, w x e = if (x : Nat) / 64 = (e : Nat) / 64 then 1 else 0)
    (o : Nat) (ho : o + 256 ≤ 1024) (h64 : o % 64 = 0) (e : Fin 256) (h : o + (e : Nat) = c) :
    ∑ x : Fin 256, f ⟨o + x, by omega⟩ * w x e = ∑ j : Fin 64, f ⟨(c : Nat) / 64 * 64 + j, by omega⟩ := by
  simp only [hw]
  rw [head_sum (fun x => f ⟨o + x, by omega⟩) e]
  refine Finset.sum_congr rfl fun j _ => congrArg f (Fin.ext ?_)
  simp only
  omega

/-- The keys of unit length. -/
theorem pay29_at (v8 : FVec Ideal S1x1024 .f32) (k : FVec Ideal S512x1024 .f32) (w : Vec Ideal S256x256 .bf16)
    (hw : ∀ x e : Fin 256, w (ix2 x e) = (if (x : Nat) / 64 = (e : Nat) / 64 then (1 : EReal) else 0)) (a : Fin 512) (c : Fin 1024) :
    k0_pay29 v8 k w (ix2 a c) = unit (fun c => k (ix2 a c) * v8 (ix2 0 c)) c := by
  pointwise [k0_pay29]
  unfold unit
  have L := chunk_sum (fun c => k (ix2 a c) * v8 (ix2 0 c) * (k (ix2 a c) * v8 (ix2 0 c))) c (fun x e => w (ix2 x e)) hw
  refine congrArg (_ * ·) (congrArg Ideal.rsqrt (congrArg (max · _) ?_))
  have hc := c.isLt
  by_cases h0 : (c : Nat) < 256
  · have := L 0 (by omega) (by omega) ⟨c, h0⟩ (by simp)
    simp only [Nat.zero_add] at this
    simpa [h0] using this
  by_cases h1 : (c : Nat) - 256 < 256
  · have := L 256 (by omega) (by omega) ⟨(c : Nat) - 256, h1⟩ (by simp only; omega)
    simpa [h0, h1] using this
  by_cases h2 : (c : Nat) - 256 - 256 < 256
  · have := L 512 (by omega) (by omega) ⟨(c : Nat) - 256 - 256, h2⟩ (by simp only; omega)
    simpa [h0, h1, h2] using this
  · have := L 768 (by omega) (by omega) ⟨(c : Nat) - 256 - 256 - 256, by omega⟩ (by simp only; omega)
    simpa [h0, h1, h2] using this

end Cert.Kernel4Ideal.Rwkv
-- ==== Proof.RwkvValue.lean ====
/-
  The recurrence's projections: what the kernel leaves in a grid point's blocks.
-/
module

public import proofs.«01_k».proof.Proof.RwkvPay
public import proofs.«01_k».proof.Proof.Gen.Kernel4Ideal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel4Ideal.Rwkv

open Cert.Kernel4Ideal Cert.Kernel4Ideal.Gen
open Cert.Kernel2Ideal.Mlp (rmsRow)

/-! ## What the body leaves in the output blocks -/

section Outs
variable (i : grid0.Coords) (x0 : Vec Ideal S1x512x1024 .f32) (x1 : Vec Ideal S1x8x1024 .f32) (x2 : Vec Ideal S1x1024 .f32) (x3 x4 : Vec Ideal S8x1024 .f32) (x5 x6 x7 : Vec Ideal S1024x1024 .bf16) (x8 : Vec Ideal S1024x64 .bf16) (x9 : Vec Ideal S64x1024 .bf16) (x10 : Vec Ideal S1024x64 .bf16) (x11 : Vec Ideal S64x1024 .bf16) (x12 : Vec Ideal S1024x128 .bf16) (x13 : Vec Ideal S128x1024 .bf16) (x14 : Vec Ideal S256x256 .bf16)

/-- Row `a` of the block, normed. -/
def rowU (x0 : Vec Ideal S1x512x1024 .f32) (x2 : Vec Ideal S1x1024 .f32) (a : Fin 512) : Fin 1024 → EReal :=
  rmsRow (fun k => x0 (ix3 0 a k)) (fun k => x2 (ix2 0 k))

/-- The row before it, normed. -/
def rowP (i : grid0.Coords) (x0 : Vec Ideal S1x512x1024 .f32) (x1 : Vec Ideal S1x8x1024 .f32) (x2 : Vec Ideal S1x1024 .f32) : Fin 512 → Fin 1024 → EReal :=
  before (first i (fun k => x2 (ix2 0 k)) (fun k => x1 (ix3 0 7 k))) (rowU x0 x2)

/-- Row `a` and the row before it, mixed by row `j` of the weights. -/
def rowX (i : grid0.Coords) (x0 : Vec Ideal S1x512x1024 .f32) (x1 : Vec Ideal S1x8x1024 .f32) (x2 : Vec Ideal S1x1024 .f32) (x3 : Vec Ideal S8x1024 .f32) (j : Fin 8) (a : Fin 512) : Fin 1024 → EReal :=
  mixed (rowU x0 x2 a) (rowP i x0 x1 x2 a) (fun k => x3 (ix2 j k))

theorem ld0 {e : EltTy} (x : Vec Ideal S1x1024 e) : View.ld x r0_0 = x := View.ld_unit_lit inb_S1x1024_S1x1024_0_0 x (by decide)
theorem ld1 {e : EltTy} (x : Vec Ideal S8x1024 e) : View.ld x r0_1 = x := View.ld_unit_lit inb_S8x1024_S8x1024_0_0 x (by decide)
theorem ld2 {e : EltTy} (x : Vec Ideal S1x8x1024 e) : View.ld x r0_2 = x := View.ld_unit_lit inb_S1x8x1024_S1x8x1024_0_0_0 x (by decide)
theorem ld3 {e : EltTy} (x : Vec Ideal S1x512x1024 e) : View.ld x r0_3 = x := View.ld_unit_lit inb_S1x512x1024_S1x512x1024_0_0_0 x (by decide)
theorem ld4 {e : EltTy} (x : Vec Ideal S1024x64 e) : View.ld x r0_4 = x := View.ld_unit_lit inb_S1024x64_S1024x64_0_0 x (by decide)
theorem ld5 {e : EltTy} (x : Vec Ideal S1024x128 e) : View.ld x r0_5 = x := View.ld_unit_lit inb_S1024x128_S1024x128_0_0 x (by decide)
theorem ld6 {e : EltTy} (x : Vec Ideal S64x1024 e) : View.ld x r0_6 = x := View.ld_unit_lit inb_S64x1024_S64x1024_0_0 x (by decide)
theorem ld7 {e : EltTy} (x : Vec Ideal S128x1024 e) : View.ld x r0_7 = x := View.ld_unit_lit inb_S128x1024_S128x1024_0_0 x (by decide)
theorem ld8 {e : EltTy} (x : Vec Ideal S1024x1024 e) : View.ld x r0_8 = x := View.ld_unit_lit inb_S1024x1024_S1024x1024_0_0 x (by decide)
theorem ld9 {e : EltTy} (x : Vec Ideal S256x256 e) : View.ld x r0_9 = x := View.ld_unit_lit inb_S256x256_S256x256_0_0 x (by decide)

/-- A block stored whole. -/
theorem canon_w (p : Vec Ideal S1x512x1024 .f32) : View.canon [⟨r0_3, p⟩] = p :=
  View.canon_unit_zero (funext (by decide)) inb_S1x512x1024_S1x512x1024_0_0_0 p

/-- The normed rows, as the kernel computes them. -/
theorem u_at (a : Fin 512) (k : Fin 1024) :
    k0_pay12 (k0_pay36 i x0 x1 x2 x3 x4 x5 x6 x7 x8 x9 x10 x11 x12 x13 x14) (k0_pay39 i x0 x1 x2 x3 x4 x5 x6 x7 x8 x9 x10 x11 x12 x13 x14) (k0_pay40 i x0 x1 x2 x3 x4 x5 x6 x7 x8 x9 x10 x11 x12 x13 x14) (ix2 a k) = rowU x0 x2 a k := by
  rw [pay12_at]
  unfold k0_pay36 k0_pay39 k0_pay40
  simp only [ld0, ld3]
  pointwise [k0_pay2, k0_pay10, k0_pay11]
  rfl

/-- The row before a block, as the kernel computes it. -/
theorem p_at (k : Fin 1024) : k0_pay38 i x0 x1 x2 x3 x4 x5 x6 x7 x8 x9 x10 x11 x12 x13 x14 (ix2 0 k) = first i (fun k => x2 (ix2 0 k)) (fun k => x1 (ix3 0 7 k)) k := by
  unfold k0_pay38
  simp only [ld0, ld2]
  exact pay9_at i x2 x1 k

/-- The mixing weights. -/
theorem mu_at (j : Fin 8) (k : Fin 1024) : k0_pay37 i x0 x1 x2 x3 x4 x5 x6 x7 x8 x9 x10 x11 x12 x13 x14 (ix2 j k) = x3 (ix2 j k) := by
  unfold k0_pay37
  simp only [ld1]
  pointwise [k0_pay3]
  done

/-- The vectors' rows. -/
theorem vec_at (v : Vec Ideal S8x1024 .f32) (k : Fin 1024) : k0_pay5 v (ix2 0 k) = v (ix2 0 k) ∧ k0_pay6 v (ix2 0 k) = v (ix2 1 k)
    ∧ k0_pay7 v (ix2 0 k) = v (ix2 2 k) ∧ k0_pay8 v (ix2 0 k) = v (ix2 3 k) := by
  refine ⟨?_, ?_, ?_, ?_⟩
  · pointwise [k0_pay5, k0_pay4]; done
  · pointwise [k0_pay6, k0_pay4]; done
  · pointwise [k0_pay7, k0_pay4]; done
  · pointwise [k0_pay8, k0_pay4]; done

/-- The first result's block. -/
theorem out15_at (a : Fin 512) (d : Fin 1024) : out0_15 i x0 x1 x2 x3 x4 x5 x6 x7 x8 x9 x10 x11 x12 x13 x14 (ix3 0 a d)
    = proj (rowX i x0 x1 x2 x3 0 a) (mat x5) d := by
  unfold out0_15
  rw [canon_w, ld8]
  have e : ∀ v : FVec Ideal S512x1024 .f32, k0_pay30 v (ix3 0 a d) = v (ix2 a d) := by intro v; pointwise [k0_pay30]; done
  rw [e]
  refine (sq_at _ x5 a d).trans ?_
  simp only [mix0_at, u_at, p_at, mu_at]
  rfl

/-- The keys. -/
theorem k_at (a : Fin 512) (d : Fin 1024) : k0_pay41 i x0 x1 x2 x3 x4 x5 x6 x7 x8 x9 x10 x11 x12 x13 x14 (ix2 a d) = proj (rowX i x0 x1 x2 x3 2 a) (mat x6) d := by
  unfold k0_pay41
  rw [ld8, sq_at]
  simp only [mix2_at, u_at, p_at, mu_at]
  rfl

/-- The rates. -/
theorem a_at (a : Fin 512) (d : Fin 1024) : k0_pay42 i x0 x1 x2 x3 x4 x5 x6 x7 x8 x9 x10 x11 x12 x13 x14 (ix2 a d)
    = sigm (x4 (ix2 1 d) + proj (proj (rowX i x0 x1 x2 x3 4 a) (mat x10)) (mat x11) d) := by
  unfold k0_pay42
  rw [ld1, ld4, ld6, pay28_at, pay21_at]
  simp only [low4_at, u_at, p_at, mu_at, vec_at]
  rfl

/-- The keys of unit length. -/
theorem kk_at (hw : ∀ x e : Fin 256, x14 (ix2 x e) = (if (x : Nat) / 64 = (e : Nat) / 64 then (1 : EReal) else 0)) (a : Fin 512) (d : Fin 1024) :
    k0_pay43 i x0 x1 x2 x3 x4 x5 x6 x7 x8 x9 x10 x11 x12 x13 x14 (ix2 a d) = unit (fun d => proj (rowX i x0 x1 x2 x3 2 a) (mat x6) d * x4 (ix2 2 d)) d := by
  unfold k0_pay43
  rw [ld1, ld9, pay29_at _ _ _ hw]
  simp only [k_at, vec_at]

/-- The second result's block. -/
theorem out16_at (a : Fin 512) (d : Fin 1024) : out0_16 i x0 x1 x2 x3 x4 x5 x6 x7 x8 x9 x10 x11 x12 x13 x14 (ix3 0 a d)
    = decay (x4 (ix2 0 d) + proj (fun j => Ideal.tanh (proj (rowX i x0 x1 x2 x3 1 a) (mat x8) j)) (mat x9) d) := by
  unfold out0_16
  rw [canon_w, ld1, ld4, ld6, pay31_at, pay20_at]
  simp only [low1_at, u_at, p_at, mu_at, vec_at]
  rfl

/-- The third result's block. -/
theorem out17_at (a : Fin 512) (d : Fin 1024) : out0_17 i x0 x1 x2 x3 x4 x5 x6 x7 x8 x9 x10 x11 x12 x13 x14 (ix3 0 a d)
    = proj (rowX i x0 x1 x2 x3 2 a) (mat x6) d
      * (1 + (sigm (x4 (ix2 1 d) + proj (proj (rowX i x0 x1 x2 x3 4 a) (mat x10)) (mat x11) d) - 1) * x4 (ix2 3 d)) := by
  unfold out0_17
  rw [canon_w, ld1, pay32_at, k_at, a_at, (vec_at x4 d).2.2.2]

/-- The fourth result's block. -/
theorem out18_at (a : Fin 512) (d : Fin 1024) : out0_18 i x0 x1 x2 x3 x4 x5 x6 x7 x8 x9 x10 x11 x12 x13 x14 (ix3 0 a d)
    = proj (rowX i x0 x1 x2 x3 3 a) (mat x7) d := by
  unfold out0_18
  rw [canon_w, ld8]
  have e : ∀ v : FVec Ideal S512x1024 .f32, k0_pay33 v (ix3 0 a d) = v (ix2 a d) := by intro v; pointwise [k0_pay33]; done
  rw [e]
  refine (sq_at _ x7 a d).trans ?_
  simp only [mix3_at, u_at, p_at, mu_at]
  rfl

/-- The fifth result's block. -/
theorem out19_at (hw : ∀ x e : Fin 256, x14 (ix2 x e) = (if (x : Nat) / 64 = (e : Nat) / 64 then (1 : EReal) else 0)) (a : Fin 512) (d : Fin 1024) :
    out0_19 i x0 x1 x2 x3 x4 x5 x6 x7 x8 x9 x10 x11 x12 x13 x14 (ix3 0 a d) = -unit (fun d => proj (rowX i x0 x1 x2 x3 2 a) (mat x6) d * x4 (ix2 2 d)) d := by
  unfold out0_19
  rw [canon_w]
  have e : ∀ v : FVec Ideal S512x1024 .f32, k0_pay34 v (ix3 0 a d) = -v (ix2 a d) := by
    intro v
    pointwise [k0_pay34]
    exact zero_sub _
  rw [e, kk_at i x0 x1 x2 x3 x4 x5 x6 x7 x8 x9 x10 x11 x12 x13 x14 hw]

/-- The sixth result's block. -/
theorem out20_at (hw : ∀ x e : Fin 256, x14 (ix2 x e) = (if (x : Nat) / 64 = (e : Nat) / 64 then (1 : EReal) else 0)) (a : Fin 512) (d : Fin 1024) :
    out0_20 i x0 x1 x2 x3 x4 x5 x6 x7 x8 x9 x10 x11 x12 x13 x14 (ix3 0 a d) = unit (fun d => proj (rowX i x0 x1 x2 x3 2 a) (mat x6) d * x4 (ix2 2 d)) d
      * sigm (x4 (ix2 1 d) + proj (proj (rowX i x0 x1 x2 x3 4 a) (mat x10)) (mat x11) d) := by
  unfold out0_20
  rw [canon_w]
  have e : ∀ v w : FVec Ideal S512x1024 .f32, k0_pay35 v w (ix3 0 a d) = w (ix2 a d) * v (ix2 a d) := by
    intro v w
    pointwise [k0_pay35]
    done
  rw [e, kk_at i x0 x1 x2 x3 x4 x5 x6 x7 x8 x9 x10 x11 x12 x13 x14 hw, a_at]

/-- The seventh result's block. -/
theorem out21_at (a : Fin 512) (d : Fin 1024) : out0_21 i x0 x1 x2 x3 x4 x5 x6 x7 x8 x9 x10 x11 x12 x13 x14 (ix3 0 a d)
    = proj (fun j => sigm (proj (rowX i x0 x1 x2 x3 5 a) (mat x12) j)) (mat x13) d := by
  unfold out0_21
  rw [canon_w, ld5, ld7]
  have e : ∀ v : FVec Ideal S512x1024 .f32, k0_pay1 v (ix3 0 a d) = v (ix2 a d) := by intro v; pointwise [k0_pay1]; done
  rw [e, pay22_at]
  simp only [mix5_at, u_at, p_at, mu_at]
  rfl

end Outs

end Cert.Kernel4Ideal.Rwkv
-- ==== Proof.RwkvRead.lean ====
/-
  The recurrence's projections: what a grid point's blocks hold, from the arguments.
-/
module

public import proofs.«01_k».proof.Proof.RwkvValue
public import proofs.«01_k».proof.Proof.Gen.Kernel4Ideal.Value
public import Idealize.ShloMosaic.Lib.Pipeline.ValueKit
public import Idealize.ShloMosaic.Lib.Pipeline.ReadBack
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.Kernel4Ideal.Rwkv

open Cert.Kernel4Ideal Cert.Kernel4Ideal.Gen
open Cert.Kernel2Ideal.Mlp (rmsRow)

/-! ## The rows of the argument arrays -/

/-- Token `s` of sequence `b`, normed. -/
def uA (h : FVec Ideal S8x2048x1024 .f32) (g : FVec Ideal S1024 .f32) (b : Fin 8) (s : Fin 2048) : Fin 1024 → EReal :=
  rmsRow (fun k => h (ix3 b s k)) (fun k => g (ix1 k))

/-- The token before it, normed, and zero before the first. -/
def pA (h : FVec Ideal S8x2048x1024 .f32) (g : FVec Ideal S1024 .f32) (b : Fin 8) (s : Fin 2048) : Fin 1024 → EReal :=
  if (s : Nat) = 0 then fun _ => 0 else uA h g b ⟨(s : Nat) - 1, by omega⟩

/-- The two mixed by row `j` of the weights. -/
def xA (h : FVec Ideal S8x2048x1024 .f32) (g : FVec Ideal S1024 .f32) (mu : FVec Ideal S6x1024 .f32) (j : Fin 6) (b : Fin 8) (s : Fin 2048) : Fin 1024 → EReal :=
  mixed (uA h g b s) (pA h g b s) (fun k => mu (ix2 j k))

variable (m : (ℓ : Loc nD τ sig) → Buf (Elt Ideal) ℓ)

/-- Where each window's block lies, at every grid point. -/
theorem idx : ∀ t : Fin cfg0.N, win0_0.index t = ![t.val / 4, t.val % 4, 0] ∧ win0_1.index t = ![t.val / 4, t.val % 4 * 64 - 1, 0]
    ∧ win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![0, 0]
    ∧ win0_10.index t = ![0, 0] ∧ win0_11.index t = ![0, 0] ∧ win0_12.index t = ![0, 0] ∧ win0_13.index t = ![0, 0] ∧ win0_14.index t = ![0, 0] :=
  (by decide +kernel : ∀ t : Fin grid0.N, _)

/-- Where each result's block lies. -/
theorem odx : ∀ t : Fin cfg0.N, win0_15.index t = ![t.val / 4, t.val % 4, 0] ∧ win0_16.index t = ![t.val / 4, t.val % 4, 0]
    ∧ win0_17.index t = ![t.val / 4, t.val % 4, 0] ∧ win0_18.index t = ![t.val / 4, t.val % 4, 0] ∧ win0_19.index t = ![t.val / 4, t.val % 4, 0]
    ∧ win0_20.index t = ![t.val / 4, t.val % 4, 0] ∧ win0_21.index t = ![t.val / 4, t.val % 4, 0] ∧ (grid0.coords t 1).val = t.val % 4 :=
  (by decide +kernel : ∀ t : Fin grid0.N, _)

theorem t_lt (t : Fin cfg0.N) : t.val < 32 := (show t.val < cfg0.N from t.isLt).trans_eq (show cfg0.N = 32 from N_0)

/-- Row `a` of point `t`'s block, in the argument array. -/
theorem read0 (c : Dev nD) (t : Fin cfg0.N) (a : Fin 512) (k : Fin 1024) (b : Fin 8) (s : Fin 2048) (hb : (b : Nat) = t.val / 4) (hs : (s : Nat) = t.val % 4 * 512 + a) :
    (iblk m c 0 t : Vec Ideal S1x512x1024 .f32) (ix3 0 a k) = m ((c : Thread nD τ).loc main_arg0) (ix3 b s k) := by
  blk_ext! [iblk, V, idx t]

/-- The row before point `t`'s block, in the argument array. -/
theorem read1 (c : Dev nD) (t : Fin cfg0.N) (k : Fin 1024) (b : Fin 8) (s : Fin 2048) (h0 : 0 < t.val % 4) (hb : (b : Nat) = t.val / 4) (hs : (s : Nat) = t.val % 4 * 512 - 1) :
    (iblk m c 1 t : Vec Ideal S1x8x1024 .f32) (ix3 0 7 k) = m ((c : Thread nD τ).loc main_arg0) (ix3 b s k) := by
  blk_ext! [iblk, V, idx t]

/-- The norm's scale, reshaped. -/
theorem V21_at (c : Dev nD) (k : Fin 1024) :
    (V m c main_v21 : FVec Ideal S1x1024 .f32) (ix2 0 k) = m ((c : Thread nD τ).loc main_arg1) (ix1 k) := by
  unfold V
  after_reads_at

/-- The norm's scale. -/
theorem read2 (c : Dev nD) (t : Fin cfg0.N) (k : Fin 1024) :
    (iblk m c 2 t : Vec Ideal S1x1024 .f32) (ix2 0 k) = m ((c : Thread nD τ).loc main_arg1) (ix1 k) := by
  have e : ((cfg0.win 2).blk t).view.emb (ix2 0 k) = (ix2 0 k : S1x1024.Idx) := by
    blk_ext [idx t]
  exact (congrArg (V m c main_v21) e).trans (V21_at m c k)

/-- The padded mixing weights. -/
theorem V11_at (c : Dev nD) (j : Fin 6) (k : Fin 1024) :
    (V m c main_v11 : FVec Ideal S8x1024 .f32) (ix2 ⟨j, by omega⟩ k) = m ((c : Thread nD τ).loc main_arg2) (ix2 j k) := by
  unfold V
  after_reads_at

/-- The stacked vectors. -/
theorem V9_at (c : Dev nD) (k : Fin 1024) :
    (V m c main_v9 : FVec Ideal S8x1024 .f32) (ix2 0 k) = m ((c : Thread nD τ).loc main_arg6) (ix1 k)
    ∧ (V m c main_v9 : FVec Ideal S8x1024 .f32) (ix2 1 k) = m ((c : Thread nD τ).loc main_arg9) (ix1 k)
    ∧ (V m c main_v9 : FVec Ideal S8x1024 .f32) (ix2 2 k) = m ((c : Thread nD τ).loc main_arg14) (ix1 k)
    ∧ (V m c main_v9 : FVec Ideal S8x1024 .f32) (ix2 3 k) = m ((c : Thread nD τ).loc main_arg15) (ix1 k) := by
  unfold V
  refine ⟨?_, ?_, ?_, ?_⟩ <;>
  · after_reads_at
    rw [StableHlo.unary_result']
    after_reads_at

/-- The quotient by 64, rounded down, as the host computes it. -/
theorem quot : ∀ x : Fin 256, Scalar.select
          (IntOp.andi
            (IntOp.cmpi CmpIPredicate.ne
              (if BitVec.ofNat 32 (x : Nat) = 0 then (0 : BitVec 32) else if (BitVec.ofNat 32 (x : Nat)).msb = true then -1 else 1)
              (if id (constantI S_ 32 64#32) ix0 = 0 then (0 : BitVec 32)
              else if BitVec.msb (id (constantI S_ 32 64#32) ix0) = true then -1 else 1))
            (IntOp.cmpi CmpIPredicate.ne
              (IntOp.remsi ArithUnit.host (BitVec.ofNat 32 (x : Nat)) (id (constantI S_ 32 64#32) ix0)) 0#32))
          (IntOp.subi (IntOp.divsi ArithUnit.host (BitVec.ofNat 32 (x : Nat)) (id (constantI S_ 32 64#32) ix0)) 1#32)
          (IntOp.divsi ArithUnit.host (BitVec.ofNat 32 (x : Nat)) (id (constantI S_ 32 64#32) ix0)) = BitVec.ofNat 32 ((x : Nat) / 64) := by
  decide +kernel

/-- Two heads' numbers are equal as words exactly when they are equal. -/
theorem heads : ∀ x e : Fin 4, IntOp.cmpi CmpIPredicate.eq (BitVec.ofNat 32 (x : Nat)) (BitVec.ofNat 32 (e : Nat)) = if (x : Nat) = (e : Nat) then 1#1 else 0#1 := by
  decide +kernel

/-- The heads' indicator. -/
theorem V29_at (c : Dev nD) (x e : Fin 256) :
    (V m c main_v29 : FVec Ideal S256x256 .bf16) (ix2 x e) = (if (x : Nat) / 64 = (e : Nat) / 64 then (1 : EReal) else 0) := by
  unfold V
  after_reads_at
  refine (congrArg (FloatOps.uitofp (F := Ideal) FTy.bf16) ((congrArg₂ (IntOp.cmpi CmpIPredicate.eq) (quot x) (quot e)).trans
    (heads ⟨(x : Nat) / 64, by omega⟩ ⟨(e : Nat) / 64, by omega⟩))).trans ?_
  by_cases h : (x : Nat) / 64 = (e : Nat) / 64
  · simp only [h, if_true]
    simp [FloatOps.uitofp]
  · simp only [h, if_false]
    simp [FloatOps.uitofp]

/-- The mixing weights' block. -/
theorem read3 (c : Dev nD) (t : Fin cfg0.N) (j : Fin 6) (k : Fin 1024) :
    (iblk m c 3 t : Vec Ideal S8x1024 .f32) (ix2 ⟨j, by omega⟩ k) = m ((c : Thread nD τ).loc main_arg2) (ix2 j k) := by
  have e : ((cfg0.win 3).blk t).view.emb (ix2 ⟨j, by omega⟩ k) = (ix2 ⟨j, by omega⟩ k : S8x1024.Idx) := by
    blk_ext [idx t]
  exact (congrArg (V m c main_v11) e).trans (V11_at m c j k)

/-- The vectors' block is their array. -/
theorem blk4 (c : Dev nD) (t : Fin cfg0.N) (j : Fin 8) (k : Fin 1024) :
    (iblk m c 4 t : Vec Ideal S8x1024 .f32) (ix2 j k) = (V m c main_v9 : FVec Ideal S8x1024 .f32) (ix2 j k) := by
  have e : ((cfg0.win 4).blk t).view.emb (ix2 j k) = (ix2 j k : S8x1024.Idx) := by
    blk_ext [idx t]
  exact congrArg (V m c main_v9) e

/-- The vectors' block. -/
theorem read4 (c : Dev nD) (t : Fin cfg0.N) (k : Fin 1024) :
    (iblk m c 4 t : Vec Ideal S8x1024 .f32) (ix2 0 k) = m ((c : Thread nD τ).loc main_arg6) (ix1 k)
    ∧ (iblk m c 4 t : Vec Ideal S8x1024 .f32) (ix2 1 k) = m ((c : Thread nD τ).loc main_arg9) (ix1 k)
    ∧ (iblk m c 4 t : Vec Ideal S8x1024 .f32) (ix2 2 k) = m ((c : Thread nD τ).loc main_arg14) (ix1 k)
    ∧ (iblk m c 4 t : Vec Ideal S8x1024 .f32) (ix2 3 k) = m ((c : Thread nD τ).loc main_arg15) (ix1 k) := by
  obtain ⟨h0, h1, h2, h3⟩ := V9_at m c k
  exact ⟨(blk4 m c t 0 k).trans h0, (blk4 m c t 1 k).trans h1, (blk4 m c t 2 k).trans h2, (blk4 m c t 3 k).trans h3⟩

/-- The indicator's block. -/
theorem read14 (c : Dev nD) (t : Fin cfg0.N) (x e : Fin 256) :
    (iblk m c 14 t : Vec Ideal S256x256 .bf16) (ix2 x e) = (if (x : Nat) / 64 = (e : Nat) / 64 then (1 : EReal) else 0) := by
  have e' : ((cfg0.win 14).blk t).view.emb (ix2 x e) = (ix2 x e : S256x256.Idx) := by
    blk_ext [idx t]
  exact (congrArg (V m c main_v29) e').trans (V29_at m c x e)

/-- The block of weights 5 is its array. -/
theorem read5 (c : Dev nD) (t : Fin cfg0.N) : mat (iblk m c 5 t : Vec Ideal S1024x1024 .bf16) = mat (m ((c : Thread nD τ).loc main_arg3)) := by
  funext k f
  have e : (iblk m c 5 t : Vec Ideal S1024x1024 .bf16) (ix2 k f) = m ((c : Thread nD τ).loc main_arg3) (ix2 k f) := by blk_ext! [iblk, V, idx t]
  exact e

/-- The block of weights 6 is its array. -/
theorem read6 (c : Dev nD) (t : Fin cfg0.N) : mat (iblk m c 6 t : Vec Ideal S1024x1024 .bf16) = mat (m ((c : Thread nD τ).loc main_arg4)) := by
  funext k f
  have e : (iblk m c 6 t : Vec Ideal S1024x1024 .bf16) (ix2 k f) = m ((c : Thread nD τ).loc main_arg4) (ix2 k f) := by blk_ext! [iblk, V, idx t]
  exact e

/-- The block of weights 7 is its array. -/
theorem read7 (c : Dev nD) (t : Fin cfg0.N) : mat (iblk m c 7 t : Vec Ideal S1024x1024 .bf16) = mat (m ((c : Thread nD τ).loc main_arg5)) := by
  funext k f
  have e : (iblk m c 7 t : Vec Ideal S1024x1024 .bf16) (ix2 k f) = m ((c : Thread nD τ).loc main_arg5) (ix2 k f) := by blk_ext! [iblk, V, idx t]
  exact e

/-- The block of weights 8 is its array. -/
theorem read8 (c : Dev nD) (t : Fin cfg0.N) : mat (iblk m c 8 t : Vec Ideal S1024x64 .bf16) = mat (m ((c : Thread nD τ).loc main_arg7)) := by
  funext k f
  have e : (iblk m c 8 t : Vec Ideal S1024x64 .bf16) (ix2 k f) = m ((c : Thread nD τ).loc main_arg7) (ix2 k f) := by blk_ext! [iblk, V, idx t]
  exact e

/-- The block of weights 9 is its array. -/
theorem read9 (c : Dev nD) (t : Fin cfg0.N) : mat (iblk m c 9 t : Vec Ideal S64x1024 .bf16) = mat (m ((c : Thread nD τ).loc main_arg8)) := by
  funext k f
  have e : (iblk m c 9 t : Vec Ideal S64x1024 .bf16) (ix2 k f) = m ((c : Thread nD τ).loc main_arg8) (ix2 k f) := by blk_ext! [iblk, V, idx t]
  exact e

/-- The block of weights 10 is its array. -/
theorem read10 (c : Dev nD) (t : Fin cfg0.N) : mat (iblk m c 10 t : Vec Ideal S1024x64 .bf16) = mat (m ((c : Thread nD τ).loc main_arg10)) := by
  funext k f
  have e : (iblk m c 10 t : Vec Ideal S1024x64 .bf16) (ix2 k f) = m ((c : Thread nD τ).loc main_arg10) (ix2 k f) := by blk_ext! [iblk, V, idx t]
  exact e

/-- The block of weights 11 is its array. -/
theorem read11 (c : Dev nD) (t : Fin cfg0.N) : mat (iblk m c 11 t : Vec Ideal S64x1024 .bf16) = mat (m ((c : Thread nD τ).loc main_arg11)) := by
  funext k f
  have e : (iblk m c 11 t : Vec Ideal S64x1024 .bf16) (ix2 k f) = m ((c : Thread nD τ).loc main_arg11) (ix2 k f) := by blk_ext! [iblk, V, idx t]
  exact e

/-- The block of weights 12 is its array. -/
theorem read12 (c : Dev nD) (t : Fin cfg0.N) : mat (iblk m c 12 t : Vec Ideal S1024x128 .bf16) = mat (m ((c : Thread nD τ).loc main_arg12)) := by
  funext k f
  have e : (iblk m c 12 t : Vec Ideal S1024x128 .bf16) (ix2 k f) = m ((c : Thread nD τ).loc main_arg12) (ix2 k f) := by blk_ext! [iblk, V, idx t]
  exact e

/-- The block of weights 13 is its array. -/
theorem read13 (c : Dev nD) (t : Fin cfg0.N) : mat (iblk m c 13 t : Vec Ideal S128x1024 .bf16) = mat (m ((c : Thread nD τ).loc main_arg13)) := by
  funext k f
  have e : (iblk m c 13 t : Vec Ideal S128x1024 .bf16) (ix2 k f) = m ((c : Thread nD τ).loc main_arg13) (ix2 k f) := by blk_ext! [iblk, V, idx t]
  exact e

/-- The normed rows of a point's block. -/
theorem u_eq (c : Dev nD) (t : Fin cfg0.N) (a : Fin 512) (b : Fin 8) (s : Fin 2048) (hb : (b : Nat) = t.val / 4) (hs : (s : Nat) = t.val % 4 * 512 + a) :
    rowU (iblk m c 0 t) (iblk m c 2 t) a = uA (m ((c : Thread nD τ).loc main_arg0)) (m ((c : Thread nD τ).loc main_arg1)) b s := by
  unfold rowU uA
  simp only [read0 m c t a _ b s hb hs, read2]

/-- The rows before them. -/
theorem p_eq (c : Dev nD) (t : Fin cfg0.N) (a : Fin 512) (b : Fin 8) (s : Fin 2048) (hb : (b : Nat) = t.val / 4) (hs : (s : Nat) = t.val % 4 * 512 + a) :
    rowP (grid0.coords t) (iblk m c 0 t) (iblk m c 1 t) (iblk m c 2 t) a = pA (m ((c : Thread nD τ).loc main_arg0)) (m ((c : Thread nD τ).loc main_arg1)) b s := by
  unfold rowP before pA first
  rw [(odx t).2.2.2.2.2.2.2]
  by_cases ha : (a : Nat) = 0
  · by_cases h4 : t.val % 4 = 0
    · rw [if_pos ha, if_pos h4, if_pos (by omega)]
    · rw [if_pos ha, if_neg h4, if_neg (by omega)]
      unfold uA
      simp only [read1 m c t _ b ⟨(s : Nat) - 1, by omega⟩ (by omega) hb (by simp only; omega), read2]
  · rw [if_neg ha, if_neg (by omega)]
    exact u_eq m c t _ b _ hb (by simp only; omega)

/-- The mixed rows. -/
theorem x_eq (c : Dev nD) (t : Fin cfg0.N) (a : Fin 512) (b : Fin 8) (s : Fin 2048) (hb : (b : Nat) = t.val / 4) (hs : (s : Nat) = t.val % 4 * 512 + a) (j : Fin 6) (j' : Fin 8) (hj : j' = ⟨j, by omega⟩) :
    rowX (grid0.coords t) (iblk m c 0 t) (iblk m c 1 t) (iblk m c 2 t) (iblk m c 3 t) j' a
      = xA (m ((c : Thread nD τ).loc main_arg0)) (m ((c : Thread nD τ).loc main_arg1)) (m ((c : Thread nD τ).loc main_arg2)) j b s := by
  subst hj
  unfold rowX xA
  rw [u_eq m c t a b s hb hs, p_eq m c t a b s hb hs]
  simp only [read3]

end Cert.Kernel4Ideal.Rwkv
-- ==== Proof.RwkvFinal.lean ====
/-
  The recurrence's projections: the result arrays, as functions of the arguments.
-/
module

public import proofs.«01_k».proof.Proof.RwkvRead
public import proofs.«01_k».proof.Proof.Gen.Kernel4Ideal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel4Ideal.Rwkv

open Cert.Kernel4Ideal Cert.Kernel4Ideal.Gen
open Cert.Kernel2Ideal.Mlp (rmsRow)

/-! ## The results, as functions of the argument arrays -/

/-- A square projection of the rows mixed by row `j` of the weights. -/
def squareA (h : FVec Ideal S8x2048x1024 .f32) (g : FVec Ideal S1024 .f32) (mu : FVec Ideal S6x1024 .f32) (j : Fin 6) (w : FVec Ideal S1024x1024 .f32) : FVec Ideal S8x2048x1024 .f32 := fun i =>
  proj (xA h g mu j (i 0) (i 1)) (mat w) (i 2)

/-- The logarithm of the decay. -/
def decayA (h : FVec Ideal S8x2048x1024 .f32) (g : FVec Ideal S1024 .f32) (mu : FVec Ideal S6x1024 .f32) (w0 : FVec Ideal S1024 .f32) (w1 : FVec Ideal S1024x64 .f32) (w2 : FVec Ideal S64x1024 .f32) : FVec Ideal S8x2048x1024 .f32 := fun i =>
  decay (w0 (ix1 (i 2)) + proj (fun j => Ideal.tanh (proj (xA h g mu 1 (i 0) (i 1)) (mat w1) j)) (mat w2) (i 2))

/-- The rate. -/
def rateA (h : FVec Ideal S8x2048x1024 .f32) (g : FVec Ideal S1024 .f32) (mu : FVec Ideal S6x1024 .f32) (a0 : FVec Ideal S1024 .f32) (a1 : FVec Ideal S1024x64 .f32) (a2 : FVec Ideal S64x1024 .f32) : FVec Ideal S8x2048x1024 .f32 := fun i =>
  sigm (a0 (ix1 (i 2)) + proj (proj (xA h g mu 4 (i 0) (i 1)) (mat a1)) (mat a2) (i 2))

/-- The key, scaled by the rate. -/
def keyA (h : FVec Ideal S8x2048x1024 .f32) (g : FVec Ideal S1024 .f32) (mu : FVec Ideal S6x1024 .f32) (wk : FVec Ideal S1024x1024 .f32) (a0 : FVec Ideal S1024 .f32) (a1 : FVec Ideal S1024x64 .f32) (a2 : FVec Ideal S64x1024 .f32) (ka : FVec Ideal S1024 .f32) : FVec Ideal S8x2048x1024 .f32 := fun i =>
  squareA h g mu 2 wk i * (1 + (rateA h g mu a0 a1 a2 i - 1) * ka (ix1 (i 2)))

/-- The key of unit length. -/
def unitA (h : FVec Ideal S8x2048x1024 .f32) (g : FVec Ideal S1024 .f32) (mu : FVec Ideal S6x1024 .f32) (wk : FVec Ideal S1024x1024 .f32) (kk : FVec Ideal S1024 .f32) : FVec Ideal S8x2048x1024 .f32 := fun i =>
  unit (fun d => squareA h g mu 2 wk (ix3 (i 0) (i 1) d) * kk (ix1 d)) (i 2)

/-- The key of unit length, negated. -/
def negA (h : FVec Ideal S8x2048x1024 .f32) (g : FVec Ideal S1024 .f32) (mu : FVec Ideal S6x1024 .f32) (wk : FVec Ideal S1024x1024 .f32) (kk : FVec Ideal S1024 .f32) : FVec Ideal S8x2048x1024 .f32 := fun i =>
  -unitA h g mu wk kk i

/-- The key of unit length times the rate. -/
def stepA (h : FVec Ideal S8x2048x1024 .f32) (g : FVec Ideal S1024 .f32) (mu : FVec Ideal S6x1024 .f32) (wk : FVec Ideal S1024x1024 .f32) (kk : FVec Ideal S1024 .f32) (a0 : FVec Ideal S1024 .f32) (a1 : FVec Ideal S1024x64 .f32) (a2 : FVec Ideal S64x1024 .f32) : FVec Ideal S8x2048x1024 .f32 := fun i =>
  unitA h g mu wk kk i * rateA h g mu a0 a1 a2 i

/-- The gate. -/
def gateA (h : FVec Ideal S8x2048x1024 .f32) (g : FVec Ideal S1024 .f32) (mu : FVec Ideal S6x1024 .f32) (g1 : FVec Ideal S1024x128 .f32) (g2 : FVec Ideal S128x1024 .f32) : FVec Ideal S8x2048x1024 .f32 := fun i =>
  proj (fun j => sigm (proj (xA h g mu 5 (i 0) (i 1)) (mat g1) j)) (mat g2) (i 2)

variable (m : (ℓ : Loc nD τ sig) → Buf (Elt Ideal) ℓ)

/-- The results of the run, from the argument arrays. -/
def G15 (c : Dev nD) : FVec Ideal S8x2048x1024 .f32 := squareA (m ((c : Thread nD τ).loc main_arg0)) (m ((c : Thread nD τ).loc main_arg1)) (m ((c : Thread nD τ).loc main_arg2)) 0 (m ((c : Thread nD τ).loc main_arg3))
def G16 (c : Dev nD) : FVec Ideal S8x2048x1024 .f32 := decayA (m ((c : Thread nD τ).loc main_arg0)) (m ((c : Thread nD τ).loc main_arg1)) (m ((c : Thread nD τ).loc main_arg2)) (m ((c : Thread nD τ).loc main_arg6)) (m ((c : Thread nD τ).loc main_arg7)) (m ((c : Thread nD τ).loc main_arg8))
def G17 (c : Dev nD) : FVec Ideal S8x2048x1024 .f32 := keyA (m ((c : Thread nD τ).loc main_arg0)) (m ((c : Thread nD τ).loc main_arg1)) (m ((c : Thread nD τ).loc main_arg2)) (m ((c : Thread nD τ).loc main_arg4)) (m ((c : Thread nD τ).loc main_arg9)) (m ((c : Thread nD τ).loc main_arg10)) (m ((c : Thread nD τ).loc main_arg11)) (m ((c : Thread nD τ).loc main_arg15))
def G18 (c : Dev nD) : FVec Ideal S8x2048x1024 .f32 := squareA (m ((c : Thread nD τ).loc main_arg0)) (m ((c : Thread nD τ).loc main_arg1)) (m ((c : Thread nD τ).loc main_arg2)) 3 (m ((c : Thread nD τ).loc main_arg5))
def G19 (c : Dev nD) : FVec Ideal S8x2048x1024 .f32 := negA (m ((c : Thread nD τ).loc main_arg0)) (m ((c : Thread nD τ).loc main_arg1)) (m ((c : Thread nD τ).loc main_arg2)) (m ((c : Thread nD τ).loc main_arg4)) (m ((c : Thread nD τ).loc main_arg14))
def G20 (c : Dev nD) : FVec Ideal S8x2048x1024 .f32 := stepA (m ((c : Thread nD τ).loc main_arg0)) (m ((c : Thread nD τ).loc main_arg1)) (m ((c : Thread nD τ).loc main_arg2)) (m ((c : Thread nD τ).loc main_arg4)) (m ((c : Thread nD τ).loc main_arg14)) (m ((c : Thread nD τ).loc main_arg9)) (m ((c : Thread nD τ).loc main_arg10)) (m ((c : Thread nD τ).loc main_arg11))
def G21 (c : Dev nD) : FVec Ideal S8x2048x1024 .f32 := gateA (m ((c : Thread nD τ).loc main_arg0)) (m ((c : Thread nD τ).loc main_arg1)) (m ((c : Thread nD τ).loc main_arg2)) (m ((c : Thread nD τ).loc main_arg12)) (m ((c : Thread nD τ).loc main_arg13))

/-- Window 15's array after the run. -/
theorem final15 (c : Dev nD) : (dats m 0 c).arrAt 15 cfg0.N = G15 m c := by
  refine (dats m 0 c).arrAt_eq_of_covers 15 _ (by decide +kernel) fun t _ y => ?_
  blk_simp
  rw [after0_15]
  idx_vars y
  have ht := t_lt t
  obtain rfl : y0 = 0 := Subsingleton.elim _ _
  have o := out15_at (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) y1 y2
  have e : ((cfg0.win 15).blk t).view.emb (ix3 0 y1 y2) = (ix3 ⟨t.val / 4, by omega⟩ ⟨t.val % 4 * 512 + y1, by omega⟩ y2 : S8x2048x1024.Idx) := by
    blk_ext [odx t]
  refine Eq.trans ?_ (congrArg (G15 m c) e.symm)
  refine Eq.trans o ?_
  simp only [read5, x_eq m c t y1 ⟨t.val / 4, by omega⟩ ⟨t.val % 4 * 512 + y1, by omega⟩ rfl rfl 0 0 rfl]
  rfl

/-- Window 16's array after the run. -/
theorem final16 (c : Dev nD) : (dats m 0 c).arrAt 16 cfg0.N = G16 m c := by
  refine (dats m 0 c).arrAt_eq_of_covers 16 _ (by decide +kernel) fun t _ y => ?_
  blk_simp
  rw [after0_16]
  idx_vars y
  have ht := t_lt t
  obtain rfl : y0 = 0 := Subsingleton.elim _ _
  have o := out16_at (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) y1 y2
  have e : ((cfg0.win 16).blk t).view.emb (ix3 0 y1 y2) = (ix3 ⟨t.val / 4, by omega⟩ ⟨t.val % 4 * 512 + y1, by omega⟩ y2 : S8x2048x1024.Idx) := by
    blk_ext [odx t]
  refine Eq.trans ?_ (congrArg (G16 m c) e.symm)
  refine Eq.trans o ?_
  simp only [read8, read9, read4 m c t, x_eq m c t y1 ⟨t.val / 4, by omega⟩ ⟨t.val % 4 * 512 + y1, by omega⟩ rfl rfl 1 1 rfl]
  rfl

/-- Window 17's array after the run. -/
theorem final17 (c : Dev nD) : (dats m 0 c).arrAt 17 cfg0.N = G17 m c := by
  refine (dats m 0 c).arrAt_eq_of_covers 17 _ (by decide +kernel) fun t _ y => ?_
  blk_simp
  rw [after0_17]
  idx_vars y
  have ht := t_lt t
  obtain rfl : y0 = 0 := Subsingleton.elim _ _
  have o := out17_at (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) y1 y2
  have e : ((cfg0.win 17).blk t).view.emb (ix3 0 y1 y2) = (ix3 ⟨t.val / 4, by omega⟩ ⟨t.val % 4 * 512 + y1, by omega⟩ y2 : S8x2048x1024.Idx) := by
    blk_ext [odx t]
  refine Eq.trans ?_ (congrArg (G17 m c) e.symm)
  refine Eq.trans o ?_
  simp only [read6, read10, read11, read4 m c t, x_eq m c t y1 ⟨t.val / 4, by omega⟩ ⟨t.val % 4 * 512 + y1, by omega⟩ rfl rfl 2 2 rfl, x_eq m c t y1 ⟨t.val / 4, by omega⟩ ⟨t.val % 4 * 512 + y1, by omega⟩ rfl rfl 4 4 rfl]
  rfl

/-- Window 18's array after the run. -/
theorem final18 (c : Dev nD) : (dats m 0 c).arrAt 18 cfg0.N = G18 m c := by
  refine (dats m 0 c).arrAt_eq_of_covers 18 _ (by decide +kernel) fun t _ y => ?_
  blk_simp
  rw [after0_18]
  idx_vars y
  have ht := t_lt t
  obtain rfl : y0 = 0 := Subsingleton.elim _ _
  have o := out18_at (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) y1 y2
  have e : ((cfg0.win 18).blk t).view.emb (ix3 0 y1 y2) = (ix3 ⟨t.val / 4, by omega⟩ ⟨t.val % 4 * 512 + y1, by omega⟩ y2 : S8x2048x1024.Idx) := by
    blk_ext [odx t]
  refine Eq.trans ?_ (congrArg (G18 m c) e.symm)
  refine Eq.trans o ?_
  simp only [read7, x_eq m c t y1 ⟨t.val / 4, by omega⟩ ⟨t.val % 4 * 512 + y1, by omega⟩ rfl rfl 3 3 rfl]
  rfl

/-- Window 19's array after the run. -/
theorem final19 (c : Dev nD) : (dats m 0 c).arrAt 19 cfg0.N = G19 m c := by
  refine (dats m 0 c).arrAt_eq_of_covers 19 _ (by decide +kernel) fun t _ y => ?_
  blk_simp
  rw [after0_19]
  idx_vars y
  have ht := t_lt t
  obtain rfl : y0 = 0 := Subsingleton.elim _ _
  have o := out19_at (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (read14 m c t) y1 y2
  have e : ((cfg0.win 19).blk t).view.emb (ix3 0 y1 y2) = (ix3 ⟨t.val / 4, by omega⟩ ⟨t.val % 4 * 512 + y1, by omega⟩ y2 : S8x2048x1024.Idx) := by
    blk_ext [odx t]
  refine Eq.trans ?_ (congrArg (G19 m c) e.symm)
  refine Eq.trans o ?_
  simp only [read6, read4 m c t, x_eq m c t y1 ⟨t.val / 4, by omega⟩ ⟨t.val % 4 * 512 + y1, by omega⟩ rfl rfl 2 2 rfl]
  rfl

/-- Window 20's array after the run. -/
theorem final20 (c : Dev nD) : (dats m 0 c).arrAt 20 cfg0.N = G20 m c := by
  refine (dats m 0 c).arrAt_eq_of_covers 20 _ (by decide +kernel) fun t _ y => ?_
  blk_simp
  rw [after0_20]
  idx_vars y
  have ht := t_lt t
  obtain rfl : y0 = 0 := Subsingleton.elim _ _
  have o := out20_at (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (read14 m c t) y1 y2
  have e : ((cfg0.win 20).blk t).view.emb (ix3 0 y1 y2) = (ix3 ⟨t.val / 4, by omega⟩ ⟨t.val % 4 * 512 + y1, by omega⟩ y2 : S8x2048x1024.Idx) := by
    blk_ext [odx t]
  refine Eq.trans ?_ (congrArg (G20 m c) e.symm)
  refine Eq.trans o ?_
  simp only [read6, read10, read11, read4 m c t, x_eq m c t y1 ⟨t.val / 4, by omega⟩ ⟨t.val % 4 * 512 + y1, by omega⟩ rfl rfl 2 2 rfl, x_eq m c t y1 ⟨t.val / 4, by omega⟩ ⟨t.val % 4 * 512 + y1, by omega⟩ rfl rfl 4 4 rfl]
  rfl

/-- Window 21's array after the run. -/
theorem final21 (c : Dev nD) : (dats m 0 c).arrAt 21 cfg0.N = G21 m c := by
  refine (dats m 0 c).arrAt_eq_of_covers 21 _ (by decide +kernel) fun t _ y => ?_
  blk_simp
  rw [after0_21]
  idx_vars y
  have ht := t_lt t
  obtain rfl : y0 = 0 := Subsingleton.elim _ _
  have o := out21_at (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) y1 y2
  have e : ((cfg0.win 21).blk t).view.emb (ix3 0 y1 y2) = (ix3 ⟨t.val / 4, by omega⟩ ⟨t.val % 4 * 512 + y1, by omega⟩ y2 : S8x2048x1024.Idx) := by
    blk_ext [odx t]
  refine Eq.trans ?_ (congrArg (G21 m c) e.symm)
  refine Eq.trans o ?_
  simp only [read12, read13, x_eq m c t y1 ⟨t.val / 4, by omega⟩ ⟨t.val % 4 * 512 + y1, by omega⟩ rfl rfl 5 5 rfl]
  rfl

end Cert.Kernel4Ideal.Rwkv
-- ==== Proof.RwkvRef.lean ====
/-
  The recurrence's projections: the reference's results are the same functions of the arguments.
-/
module

public import proofs.«01_k».proof.Proof.RwkvFinal
public import proofs.«01_k».proof.Proof.Gen.Kernel4Ideal.Value
public import proofs.«01_k».proof.Proof.Gen.Reference4Ideal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Reference4Ideal.Rwkv

open Cert.Reference4Ideal Cert.Reference4Ideal.Gen
open Cert.Kernel4Ideal.Rwkv (mixed proj sigm decay unit mat uA pA xA squareA decayA rateA keyA unitA negA stepA gateA)
open Cert.Reference2Ideal.Mlp (rms rms_at)

/-! ## The stages of the reference, at an index -/

/-- A row held by every token. -/
def bc (r : FVec Ideal S1024 .f32) : FVec Ideal S8x2048x1024 .f32 :=
  broadcastInDim S8x2048x1024 ![0, 1, 2] bcast_S1x1x1024_S8x2048x1024_0_1_2 (broadcastInDim S1x1x1024 ![2] bcast_S1024_S1x1x1024_2 r)

/-- Every token moved one place on, with zero before the first. -/
def sh (u : FVec Ideal S8x2048x1024 .f32) : FVec Ideal S8x2048x1024 .f32 :=
  extractStridedSlice S8x2048x1024 ![0, 0, 0] (pad S8x2049x1024 ![0, 1, 0] ![0, 0, 0] ![0, 0, 0] u (sitofp .f32 (constantI S_ 32 0#32)) pads_S8x2048x1024_S8x2049x1024_000_100_000 h_S_) slices_S8x2049x1024_S8x2048x1024_0_0_0

/-- The tokens mixed with the ones before them, by a row of weights. -/
def mix (u : FVec Ideal S8x2048x1024 .f32) (r : FVec Ideal S1024 .f32) : FVec Ideal S8x2048x1024 .f32 := addf u (mulf (subf (sh u) u) (bc r))

def row0 (mu : FVec Ideal S6x1024 .f32) : FVec Ideal S1024 .f32 :=
  shapeCast _ (extractStridedSlice S1x1024 ![0, 0] mu slices_S6x1024_S1x1024_0_0) shapeCasts_S1x1024_S1024
def row1 (mu : FVec Ideal S6x1024 .f32) : FVec Ideal S1024 .f32 :=
  shapeCast _ (extractStridedSlice S1x1024 ![1, 0] mu slices_S6x1024_S1x1024_1_0) shapeCasts_S1x1024_S1024
def row2 (mu : FVec Ideal S6x1024 .f32) : FVec Ideal S1024 .f32 :=
  shapeCast _ (extractStridedSlice S1x1024 ![2, 0] mu slices_S6x1024_S1x1024_2_0) shapeCasts_S1x1024_S1024
def row3 (mu : FVec Ideal S6x1024 .f32) : FVec Ideal S1024 .f32 :=
  shapeCast _ (extractStridedSlice S1x1024 ![3, 0] mu slices_S6x1024_S1x1024_3_0) shapeCasts_S1x1024_S1024
def row4 (mu : FVec Ideal S6x1024 .f32) : FVec Ideal S1024 .f32 :=
  shapeCast _ (extractStridedSlice S1x1024 ![4, 0] mu slices_S6x1024_S1x1024_4_0) shapeCasts_S1x1024_S1024
def row5 (mu : FVec Ideal S6x1024 .f32) : FVec Ideal S1024 .f32 :=
  shapeCast _ (extractStridedSlice S1x1024 ![5, 0] mu slices_S6x1024_S1x1024_5_0) shapeCasts_S1x1024_S1024

/-- A square projection. -/
def sq (x : FVec Ideal S8x2048x1024 .f32) (w : FVec Ideal S1024x1024 .f32) : FVec Ideal S8x2048x1024 .f32 := Host.dotGeneral dot_S8x2048x1024_S1024x1024_S8x2048x1024_2_0_01_1_n_n none x w

/-- The logarithm of the decay, of its argument. -/
def lg (x : FVec Ideal S8x2048x1024 .f32) : FVec Ideal S8x2048x1024 .f32 :=
  have y := Host.negf x
  Host.negf (Host.exp (subf (Host.negf (select (cmpf .une (subf y (broadcastInDim S8x2048x1024 ![] bcast_S_S8x2048x1024 (constant S_ .f32 0x00000000#32))) (subf y (broadcastInDim S8x2048x1024 ![] bcast_S_S8x2048x1024 (constant S_ .f32 0x00000000#32)))) (addf y (broadcastInDim S8x2048x1024 ![] bcast_S_S8x2048x1024 (constant S_ .f32 0x00000000#32)))
    (addf (maximumf y (broadcastInDim S8x2048x1024 ![] bcast_S_S8x2048x1024 (constant S_ .f32 0x00000000#32))) (Host.log1p (Host.exp (Host.negf (Host.absf (subf y (broadcastInDim S8x2048x1024 ![] bcast_S_S8x2048x1024 (constant S_ .f32 0x00000000#32)))))))))) (broadcastInDim S8x2048x1024 ![] bcast_S_S8x2048x1024 (constant S_ .f32 0x3F000000#32))))

/-- The decay's argument. -/
def lgArg (x : FVec Ideal S8x2048x1024 .f32) (w0 : FVec Ideal S1024 .f32) (w1 : FVec Ideal S1024x64 .f32) (w2 : FVec Ideal S64x1024 .f32) : FVec Ideal S8x2048x1024 .f32 :=
  addf (bc w0) (Host.dotGeneral dot_S8x2048x64_S64x1024_S8x2048x1024_2_0_01_1_n_n none (Host.tanh (Host.dotGeneral dot_S8x2048x1024_S1024x64_S8x2048x64_2_0_01_1_n_n none x w1)) w2)

/-- The rate. -/
def rate (x : FVec Ideal S8x2048x1024 .f32) (a0 : FVec Ideal S1024 .f32) (a1 : FVec Ideal S1024x64 .f32) (a2 : FVec Ideal S64x1024 .f32) : FVec Ideal S8x2048x1024 .f32 :=
  Host.divf (broadcastInDim S8x2048x1024 ![] bcast_S_S8x2048x1024 (constant S_ .f32 0x3F800000#32)) (addf (broadcastInDim S8x2048x1024 ![] bcast_S_S8x2048x1024 (constant S_ .f32 0x3F800000#32)) (Host.exp (Host.negf (addf (bc a0) (Host.dotGeneral dot_S8x2048x64_S64x1024_S8x2048x1024_2_0_01_1_n_n none (Host.dotGeneral dot_S8x2048x1024_S1024x64_S8x2048x64_2_0_01_1_n_n none x a1) a2)))))

/-- The gate. -/
def gate (x : FVec Ideal S8x2048x1024 .f32) (g1 : FVec Ideal S1024x128 .f32) (g2 : FVec Ideal S128x1024 .f32) : FVec Ideal S8x2048x1024 .f32 :=
  Host.dotGeneral dot_S8x2048x128_S128x1024_S8x2048x1024_2_0_01_1_n_n none (Host.divf (broadcastInDim S8x2048x128 ![] bcast_S_S8x2048x128 (constant S_ .f32 0x3F800000#32))
    (addf (broadcastInDim S8x2048x128 ![] bcast_S_S8x2048x128 (constant S_ .f32 0x3F800000#32)) (Host.exp (Host.negf (Host.dotGeneral dot_S8x2048x1024_S1024x128_S8x2048x128_2_0_01_1_n_n none x g1))))) g2

/-- The key, scaled by the rate. -/
def key (k a : FVec Ideal S8x2048x1024 .f32) (ka : FVec Ideal S1024 .f32) : FVec Ideal S8x2048x1024 .f32 := mulf k (addf (broadcastInDim S8x2048x1024 ![] bcast_S_S8x2048x1024 (constant S_ .f32 0x3F800000#32)) (mulf (subf a (broadcastInDim S8x2048x1024 ![] bcast_S_S8x2048x1024 (constant S_ .f32 0x3F800000#32))) (bc ka)))

/-- Every head's lengths. -/
def len (x : FVec Ideal S8x2048x16x64 .f32) : FVec Ideal S8x2048x16x1 .f32 :=
  broadcastInDim S8x2048x16x1 ![0, 1, 2] bcast_S8x2048x16_S8x2048x16x1_0_1_2 (Host.reduceAdd (mulf x x) (constant S_ .f32 0x00000000#32) reducesTo_S8x2048x16x64_S8x2048x16_d3 h_S_)

/-- Every head's numbers divided by their length. -/
def unitH (x : FVec Ideal S8x2048x16x64 .f32) : FVec Ideal S8x2048x16x64 .f32 :=
  mulf x (broadcastInDim S8x2048x16x64 ![0, 1, 2, 3] bcast_S8x2048x16x1_S8x2048x16x64_0_1_2_3 (Host.rsqrt (maximumf (len x) (broadcastInDim S8x2048x16x1 ![] bcast_S_S8x2048x16x1 (constant S_ .f32 0x179ABE15#32)))))

/-- The keys of unit length. -/
def unitR (k : FVec Ideal S8x2048x1024 .f32) (kk : FVec Ideal S1024 .f32) : FVec Ideal S8x2048x1024 .f32 :=
  shapeCast _ (unitH (shapeCast _ (mulf k (bc kk)) shapeCasts_S8x2048x1024_S8x2048x16x64)) shapeCasts_S8x2048x16x64_S8x2048x1024

theorem zero_of_int : (FloatOps.sitofp (F := Ideal) FTy.f32 (0#32)) = (0 : EReal) := by
  simp [FloatOps.sitofp]

theorem sh_at (u : FVec Ideal S8x2048x1024 .f32) (b : Fin 8) (s : Fin 2048) (c : Fin 1024) :
    sh u (ix3 b s c) = if h : (s : Nat) = 0 then (0 : EReal) else u (ix3 b ⟨(s : Nat) - 1, by omega⟩ c) := by
  pointwise [sh]
  by_cases h : (s : Nat) = 0
  · rw [dif_neg (by omega), dif_pos h]
    exact zero_of_int
  · rw [dif_pos (by omega), dif_neg h]

theorem mix_at (u : FVec Ideal S8x2048x1024 .f32) (r : FVec Ideal S1024 .f32) (b : Fin 8) (s : Fin 2048) (c : Fin 1024) :
    mix u r (ix3 b s c) = u (ix3 b s c) + (sh u (ix3 b s c) - u (ix3 b s c)) * r (ix1 c) := by
  pointwise [mix, bc]
  done

/-- The mixed rows are those of the normed tokens. -/
theorem mix_eq (h : FVec Ideal S8x2048x1024 .f32) (g : FVec Ideal S1024 .f32) (mu : FVec Ideal S6x1024 .f32) (j : Fin 6) (r : FVec Ideal S1024 .f32) (hr : ∀ k, r (ix1 k) = mu (ix2 j k))
    (b : Fin 8) (s : Fin 2048) (k : Fin 1024) : mix (rms h g) r (ix3 b s k) = xA h g mu j b s k := by
  rw [mix_at, sh_at, hr, rms_at]
  unfold xA mixed uA pA
  by_cases hs : (s : Nat) = 0
  · rw [dif_pos hs, if_pos hs]
  · rw [dif_neg hs, if_neg hs, rms_at]
    rfl

theorem row0_at (mu : FVec Ideal S6x1024 .f32) (k : Fin 1024) : row0 mu (ix1 k) = mu (ix2 0 k) := by
  pointwise [row0]
  done
theorem row1_at (mu : FVec Ideal S6x1024 .f32) (k : Fin 1024) : row1 mu (ix1 k) = mu (ix2 1 k) := by
  pointwise [row1]
  done
theorem row2_at (mu : FVec Ideal S6x1024 .f32) (k : Fin 1024) : row2 mu (ix1 k) = mu (ix2 2 k) := by
  pointwise [row2]
  done
theorem row3_at (mu : FVec Ideal S6x1024 .f32) (k : Fin 1024) : row3 mu (ix1 k) = mu (ix2 3 k) := by
  pointwise [row3]
  done
theorem row4_at (mu : FVec Ideal S6x1024 .f32) (k : Fin 1024) : row4 mu (ix1 k) = mu (ix2 4 k) := by
  pointwise [row4]
  done
theorem row5_at (mu : FVec Ideal S6x1024 .f32) (k : Fin 1024) : row5 mu (ix1 k) = mu (ix2 5 k) := by
  pointwise [row5]
  done

theorem sq_at (x : FVec Ideal S8x2048x1024 .f32) (w : FVec Ideal S1024x1024 .f32) (b : Fin 8) (s : Fin 2048) (c : Fin 1024) :
    sq x w (ix3 b s c) = proj (fun k => x (ix3 b s k)) (mat w) c := by
  pointwise [sq]
  rfl

theorem lgArg_at (x : FVec Ideal S8x2048x1024 .f32) (w0 : FVec Ideal S1024 .f32) (w1 : FVec Ideal S1024x64 .f32) (w2 : FVec Ideal S64x1024 .f32) (b : Fin 8) (s : Fin 2048) (c : Fin 1024) :
    lgArg x w0 w1 w2 (ix3 b s c) = w0 (ix1 c) + proj (fun j => Ideal.tanh (proj (fun k => x (ix3 b s k)) (mat w1) j)) (mat w2) c := by
  pointwise [lgArg, bc]
  rfl

theorem lg_at (x : FVec Ideal S8x2048x1024 .f32) (b : Fin 8) (s : Fin 2048) (c : Fin 1024) : lg x (ix3 b s c) = decay (x (ix3 b s c)) := by
  pointwise [lg]
  simp
  rfl

theorem rate_at (x : FVec Ideal S8x2048x1024 .f32) (a0 : FVec Ideal S1024 .f32) (a1 : FVec Ideal S1024x64 .f32) (a2 : FVec Ideal S64x1024 .f32) (b : Fin 8) (s : Fin 2048) (c : Fin 1024) :
    rate x a0 a1 a2 (ix3 b s c) = sigm (a0 (ix1 c) + proj (proj (fun k => x (ix3 b s k)) (mat a1)) (mat a2) c) := by
  pointwise [rate, bc]
  rfl

theorem gate_at (x : FVec Ideal S8x2048x1024 .f32) (g1 : FVec Ideal S1024x128 .f32) (g2 : FVec Ideal S128x1024 .f32) (b : Fin 8) (s : Fin 2048) (c : Fin 1024) :
    gate x g1 g2 (ix3 b s c) = proj (fun j => sigm (proj (fun k => x (ix3 b s k)) (mat g1) j)) (mat g2) c := by
  pointwise [gate]
  rfl

theorem key_at (k a : FVec Ideal S8x2048x1024 .f32) (ka : FVec Ideal S1024 .f32) (b : Fin 8) (s : Fin 2048) (c : Fin 1024) :
    key k a ka (ix3 b s c) = k (ix3 b s c) * (1 + (a (ix3 b s c) - 1) * ka (ix1 c)) := by
  pointwise [key, bc]
  done

theorem len_at (x : FVec Ideal S8x2048x16x64 .f32) (b : Fin 8) (s : Fin 2048) (h : Fin 16) :
    len x (ix4 b s h 0) = ∑ j : Fin 64, x (ix4 b s h j) * x (ix4 b s h j) := by
  pointwise [len]
  done

theorem unitH_at (x : FVec Ideal S8x2048x16x64 .f32) (b : Fin 8) (s : Fin 2048) (h : Fin 16) (d : Fin 64) :
    unitH x (ix4 b s h d) = x (ix4 b s h d) * Ideal.rsqrt (max (∑ j : Fin 64, x (ix4 b s h j) * x (ix4 b s h j)) (Ideal.ofBits .f32 0x179ABE15#32)) := by
  rw [← len_at]
  pointwise [unitH]
  done

theorem unitR_at (k : FVec Ideal S8x2048x1024 .f32) (kk : FVec Ideal S1024 .f32) (b : Fin 8) (s : Fin 2048) (c : Fin 1024) :
    unitR k kk (ix3 b s c) = unit (fun d => k (ix3 b s d) * kk (ix1 d)) c := by
  pointwise [unitR]
  rw [unitH_at]
  pointwise [bc]
  unfold unit
  rfl

/-! ## The reference's results are the kernel's functions of the arguments -/

section Results
variable (h : FVec Ideal S8x2048x1024 .f32) (g : FVec Ideal S1024 .f32) (mu : FVec Ideal S6x1024 .f32)

theorem sq0_eq (w : FVec Ideal S1024x1024 .f32) : sq (mix (rms h g) (row0 mu)) w = squareA h g mu 0 w := by
  funext i
  idx_vars i
  rw [sq_at]
  simp only [mix_eq h g mu 0 (row0 mu) (row0_at mu)]
  rfl

theorem sq2_eq (w : FVec Ideal S1024x1024 .f32) : sq (mix (rms h g) (row2 mu)) w = squareA h g mu 2 w := by
  funext i
  idx_vars i
  rw [sq_at]
  simp only [mix_eq h g mu 2 (row2 mu) (row2_at mu)]
  rfl

theorem sq3_eq (w : FVec Ideal S1024x1024 .f32) : sq (mix (rms h g) (row3 mu)) w = squareA h g mu 3 w := by
  funext i
  idx_vars i
  rw [sq_at]
  simp only [mix_eq h g mu 3 (row3 mu) (row3_at mu)]
  rfl

theorem lg_eq (w0 : FVec Ideal S1024 .f32) (w1 : FVec Ideal S1024x64 .f32) (w2 : FVec Ideal S64x1024 .f32) : lg (lgArg (mix (rms h g) (row1 mu)) w0 w1 w2) = decayA h g mu w0 w1 w2 := by
  funext i
  idx_vars i
  rw [lg_at, lgArg_at]
  simp only [mix_eq h g mu 1 (row1 mu) (row1_at mu)]
  rfl

theorem rate_eq (a0 : FVec Ideal S1024 .f32) (a1 : FVec Ideal S1024x64 .f32) (a2 : FVec Ideal S64x1024 .f32) : (rate (mix (rms h g) (row4 mu)) a0 a1 a2) = rateA h g mu a0 a1 a2 := by
  funext i
  idx_vars i
  rw [rate_at]
  simp only [mix_eq h g mu 4 (row4 mu) (row4_at mu)]
  rfl

theorem gate_eq (g1 : FVec Ideal S1024x128 .f32) (g2 : FVec Ideal S128x1024 .f32) : gate (mix (rms h g) (row5 mu)) g1 g2 = gateA h g mu g1 g2 := by
  funext i
  idx_vars i
  rw [gate_at]
  simp only [mix_eq h g mu 5 (row5 mu) (row5_at mu)]
  rfl

theorem key_eq (wk : FVec Ideal S1024x1024 .f32) (a0 : FVec Ideal S1024 .f32) (a1 : FVec Ideal S1024x64 .f32) (a2 : FVec Ideal S64x1024 .f32) (ka : FVec Ideal S1024 .f32) : key (sq (mix (rms h g) (row2 mu)) wk) (rate (mix (rms h g) (row4 mu)) a0 a1 a2) ka = keyA h g mu wk a0 a1 a2 ka := by
  rw [sq2_eq, rate_eq]
  funext i
  idx_vars i
  rw [key_at]
  rfl

theorem unit_eq (wk : FVec Ideal S1024x1024 .f32) (kk : FVec Ideal S1024 .f32) : unitR (sq (mix (rms h g) (row2 mu)) wk) kk = unitA h g mu wk kk := by
  rw [sq2_eq]
  funext i
  idx_vars i
  rw [unitR_at]
  rfl

theorem neg_eq (wk : FVec Ideal S1024x1024 .f32) (kk : FVec Ideal S1024 .f32) : Host.negf (unitR (sq (mix (rms h g) (row2 mu)) wk) kk) = negA h g mu wk kk := by
  rw [unit_eq]
  funext i
  idx_vars i
  pointwise
  rfl

theorem step_eq (wk : FVec Ideal S1024x1024 .f32) (kk : FVec Ideal S1024 .f32) (a0 : FVec Ideal S1024 .f32) (a1 : FVec Ideal S1024x64 .f32) (a2 : FVec Ideal S64x1024 .f32) : mulf (unitR (sq (mix (rms h g) (row2 mu)) wk) kk) (rate (mix (rms h g) (row4 mu)) a0 a1 a2) = stepA h g mu wk kk a0 a1 a2 := by
  rw [unit_eq, rate_eq]
  funext i
  idx_vars i
  pointwise
  rfl

end Results

end Cert.Reference4Ideal.Rwkv
-- ==== Proof.RwkvClaims.lean ====
/-
  The claims about the recurrence's projections, from their value lemmas.
-/
module

public import proofs.«01_k».proof.Proof.RwkvRef
public import proofs.«01_k».proof.Proof.Gen.Kernel4.Frame
public import Idealize.ShloMosaic.Lib.Quiescent

@[expose] public section

noncomputable section

open Idealize.ShloMosaic Idealize.ShloMosaic.TcCoe Idealize.SL.Sem

namespace Cert.Proof.Rwkv

/-- The printed call runs to its end, quietly, and leaves its arguments unchanged. -/
theorem frame_k : Cert.quiescent_Kernel4 := fun m ρ _ => Cert.Kernel4.Gen.frame m ρ

/-- So does its idealization. -/
theorem frame_ki : Cert.quiescent_Kernel4Ideal := fun m ρ _ => Cert.Kernel4Ideal.Gen.frame m ρ

/-- So does the reference. -/
theorem frame_ri : Cert.quiescent_Reference4Ideal := fun m ρ _ =>
  (θ_run Cert.Reference4Ideal.defs _ _).mono (fun r h => ⟨fun c => (h c).2.2.2.2.2.2.2, sem_eq_zero_of_no_sems (by decide) r.2⟩)
    (Cert.Reference4Ideal.Value.run (F := Ideal) m ρ)

/-- The idealization replaced nothing. -/
theorem preserves : Cert.preserves_Kernel4_Kernel4Ideal := trivial

/-- The kernel's results are the reference's: both are the same functions of arguments that agree. -/
theorem algebraic : Cert.algebraic_Kernel4Ideal_Reference4Ideal := by
  intro m ρ m' ρ' _ hag
  refine ⟨fun c => Cert.Kernel4Ideal.Rwkv.G15 m c, fun c => Cert.Kernel4Ideal.Rwkv.G16 m c, fun c => Cert.Kernel4Ideal.Rwkv.G17 m c, fun c => Cert.Kernel4Ideal.Rwkv.G18 m c, fun c => Cert.Kernel4Ideal.Rwkv.G19 m c, fun c => Cert.Kernel4Ideal.Rwkv.G20 m c, fun c => Cert.Kernel4Ideal.Rwkv.G21 m c, ?_, ?_⟩
  · refine (θ_run Cert.Kernel4Ideal.defs _ _).mono (fun r h c => ?_) (Cert.Kernel4Ideal.Value.run_blocks (F := Ideal) m ρ)
    obtain ⟨h0, h1, h2, h3, h4, h5, h6, hr⟩ := h c
    exact ⟨h0.trans (Cert.Kernel4Ideal.Rwkv.final15 m c), h1.trans (Cert.Kernel4Ideal.Rwkv.final16 m c), h2.trans (Cert.Kernel4Ideal.Rwkv.final17 m c), h3.trans (Cert.Kernel4Ideal.Rwkv.final18 m c), h4.trans (Cert.Kernel4Ideal.Rwkv.final19 m c), h5.trans (Cert.Kernel4Ideal.Rwkv.final20 m c), h6.trans (Cert.Kernel4Ideal.Rwkv.final21 m c), hr⟩
  · refine (θ_run Cert.Reference4Ideal.defs _ _).mono (fun r h c => ?_) (Cert.Reference4Ideal.Value.run (F := Ideal) m' ρ')
    obtain ⟨h0, h1, h2, h3, h4, h5, h6, hr⟩ := h c
    obtain ⟨e0, e1, e2, e3, e4, e5, e6, e7, e8, e9, e10, e11, e12, e13, e14, e15⟩ := hag c
    refine ⟨h0.trans ?_, h1.trans ?_, h2.trans ?_, h3.trans ?_, h4.trans ?_, h5.trans ?_, h6.trans ?_, hr⟩
    · refine (Cert.Reference4Ideal.Rwkv.sq0_eq (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3))).trans ?_
      rw [e0, e1, e2, e3]
      rfl
    · refine (Cert.Reference4Ideal.Rwkv.lg_eq (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg6)) (m' ((c.tc : Thread Cert.Reference4Ideal.nD Cert.Reference4Ideal.τ).loc Cert.Reference4Ideal.main_arg7)) (m' ((c.tc : Thread Cert.Reference4Ideal.nD Cert.Reference4Ideal.τ).loc Cert.Reference4Ideal.main_arg8))).trans ?_
      rw [e0, e1, e2, e6, e7, e8]
      rfl
    · refine (Cert.Reference4Ideal.Rwkv.key_eq (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg9)) (m' ((c.tc : Thread Cert.Reference4Ideal.nD Cert.Reference4Ideal.τ).loc Cert.Reference4Ideal.main_arg10)) (m' ((c.tc : Thread Cert.Reference4Ideal.nD Cert.Reference4Ideal.τ).loc Cert.Reference4Ideal.main_arg11)) (m' ((c.tc : Thread Cert.Reference4Ideal.nD Cert.Reference4Ideal.τ).loc Cert.Reference4Ideal.main_arg15))).trans ?_
      rw [e0, e1, e2, e4, e9, e10, e11, e15]
      rfl
    · refine (Cert.Reference4Ideal.Rwkv.sq3_eq (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg5))).trans ?_
      rw [e0, e1, e2, e5]
      rfl
    · refine (Cert.Reference4Ideal.Rwkv.neg_eq (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg14))).trans ?_
      rw [e0, e1, e2, e4, e14]
      rfl
    · refine (Cert.Reference4Ideal.Rwkv.step_eq (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg14)) (m' ((c.tc : Thread Cert.Reference4Ideal.nD Cert.Reference4Ideal.τ).loc Cert.Reference4Ideal.main_arg9)) (m' ((c.tc : Thread Cert.Reference4Ideal.nD Cert.Reference4Ideal.τ).loc Cert.Reference4Ideal.main_arg10)) (m' ((c.tc : Thread Cert.Reference4Ideal.nD Cert.Reference4Ideal.τ).loc Cert.Reference4Ideal.main_arg11))).trans ?_
      rw [e0, e1, e2, e4, e14, e9, e10, e11]
      rfl
    · refine (Cert.Reference4Ideal.Rwkv.gate_eq (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg12)) (m' ((c.tc : Thread Cert.Reference4Ideal.nD Cert.Reference4Ideal.τ).loc Cert.Reference4Ideal.main_arg13))).trans ?_
      rw [e0, e1, e2, e12, e13]
      rfl

end Cert.Proof.Rwkv
-- ==== Proof.MlpClaims.lean ====
/-
  The claims about the feed-forward call, from its value lemmas.
-/
module

public import proofs.«01_k».proof.Proof.MlpValue
public import proofs.«01_k».proof.Proof.Gen.Kernel2.Frame
public import Idealize.ShloMosaic.Lib.Quiescent

@[expose] public section

noncomputable section

open Idealize.ShloMosaic Idealize.ShloMosaic.TcCoe Idealize.SL.Sem

namespace Cert.Proof.Mlp

/-- The printed call runs to its end, quietly, and leaves its arguments unchanged. -/
theorem frame_k : Cert.quiescent_Kernel2 := fun m ρ _ => Cert.Kernel2.Gen.frame m ρ

/-- So does its idealization. -/
theorem frame_ki : Cert.quiescent_Kernel2Ideal := fun m ρ _ => Cert.Kernel2Ideal.Gen.frame m ρ

/-- So does the reference. -/
theorem frame_ri : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The idealization replaced nothing. -/
theorem preserves : Cert.preserves_Kernel2_Kernel2Ideal := trivial

/-- The kernel's result is the reference's: both are the same row function of arguments that agree. -/
theorem algebraic : Cert.algebraic_Kernel2Ideal_Reference2Ideal := by
  intro m ρ m' ρ' _ hag
  refine ⟨fun c => Cert.Kernel2Ideal.Mlp.G m c, ?_, ?_⟩
  · exact (θ_run Cert.Kernel2Ideal.defs _ _).mono
      (fun r h c => ⟨(h c).1.trans (Cert.Kernel2Ideal.Mlp.final m c), (h c).2⟩)
      (Cert.Kernel2Ideal.Value.run_blocks (F := Ideal) m ρ)
  · refine (θ_run Cert.Reference2Ideal.defs _ _).mono (fun r h c => ⟨(h c).1.trans ?_, (h c).2⟩)
      (Cert.Reference2Ideal.Value.run (F := Ideal) m' ρ')
    obtain ⟨h0, h1, h2, h3, h4, h5, h6⟩ := hag c
    funext i
    idx_vars i
    refine (Cert.Reference2Ideal.Mlp.res_at m' c i0 i1).trans ?_
    rw [h0, h1, h2, h3, h4, h5, h6]
    rfl

end Cert.Proof.Mlp
-- ==== Proof.MlaPay.lean ====
/-
  The latent projections: what the kernel's values are at an index, and what it leaves in a grid point's blocks.
-/
module

public import proofs.«01_k».proof.Proof.RwkvPay
public import proofs.«01_k».proof.Proof.AttnRows
public import proofs.«01_k».proof.Proof.Gen.Kernel5Ideal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel5Ideal.Mla

open Cert.Kernel5Ideal Cert.Kernel5Ideal.Gen
open Cert.Kernel2Ideal.Mlp (rmsRow)
open Cert.Kernel4Ideal.Rwkv (proj mat)

/-! ## The functions of a token's rows -/

/-- A row divided by its root mean square, `N` being its length, and scaled. -/
def rmsN {n : Nat} (N : EReal) (x g : Fin n → EReal) (c : Fin n) : EReal :=
  x c * Ideal.rsqrt (Ideal.div (∑ k, x k * x k) N + Ideal.ofBits .f32 0x3727C5AC#32) * g c

/-- The latent queries of a row that was projected down. -/
def latQ {q : Nat} (hq : 384 ≤ q) (c : Fin q → EReal) (g : Fin 384 → EReal) : Fin 384 → EReal :=
  rmsN (Ideal.ofBits .f32 0x43C00000#32) (fun k => c ⟨k, by omega⟩) g

/-- The latent keys and values of a row that was projected down. -/
def latK {q : Nat} (hq : 640 ≤ q) (c : Fin q → EReal) (g : Fin 256 → EReal) : Fin 256 → EReal :=
  rmsN (Ideal.ofBits .f32 0x43800000#32) (fun k => c ⟨384 + k, by omega⟩) g

/-- The softmax's scale in base two. -/
def sc : EReal := (((Real.log 2)⁻¹ * (Real.sqrt 96)⁻¹ : ℝ) : EReal)

/-- Thirty-two numbers, rotated in pairs. -/
def rot (x : Fin 32 → EReal) (cs sn : Fin 16 → EReal) (d : Fin 32) : EReal :=
  if h : (d : Nat) < 16 then x d * cs ⟨d, h⟩ - x ⟨d + 16, by omega⟩ * sn ⟨d, h⟩
  else x ⟨d - 16, by omega⟩ * sn ⟨d - 16, by omega⟩ + x d * cs ⟨d - 16, by omega⟩

/-- The rotation as two products, the second of the numbers with their halves exchanged. -/
theorem rot_eq (x : Fin 32 → EReal) (cs sn : Fin 16 → EReal) (d : Fin 32) :
    x d * cs ⟨(d : Nat) % 16, by omega⟩ + x ⟨((d : Nat) + 16) % 32, by omega⟩
        * (if (d : Nat) < 16 then -(sn ⟨(d : Nat) % 16, by omega⟩) else sn ⟨(d : Nat) % 16, by omega⟩) = rot x cs sn d := by
  unfold rot
  by_cases h : (d : Nat) < 16
  · have e : (⟨(d : Nat) % 16, by omega⟩ : Fin 16) = ⟨d, h⟩ := Fin.ext (Nat.mod_eq_of_lt h)
    have e' : (⟨((d : Nat) + 16) % 32, by omega⟩ : Fin 32) = ⟨(d : Nat) + 16, by omega⟩ := Fin.ext (Nat.mod_eq_of_lt (by omega))
    rw [if_pos h, dif_pos h, e, e', mul_neg, sub_eq_add_neg]
  · have e : (⟨(d : Nat) % 16, by omega⟩ : Fin 16) = ⟨(d : Nat) - 16, by omega⟩ := Fin.ext (by dsimp only; omega)
    have e' : (⟨((d : Nat) + 16) % 32, by omega⟩ : Fin 32) = ⟨(d : Nat) - 16, by omega⟩ := Fin.ext (by dsimp only; omega)
    rw [if_neg h, dif_neg h, e, e', add_comm]

theorem sc_eq : (Named.named κ "scale" (0x3E16C740#32 : BitVec (FTy.bits .f32)) : Ideal .f32) = sc :=
  IdealRules.named_const.ideal_named_scalar κ "scale" (φ := .f32) 0x3E16C740#32 _ rfl

/-- It is the scale that the attention's queries carry. -/
theorem scale_eq : Cert.KernelIdeal.Attn.scale = sc := by
  rw [Cert.KernelIdeal.Attn.scale_coe, sc, one_div, mul_inv]

/-! ## The kernel's payloads at an index -/

theorem down_at (x : Vec Ideal S512x1024 .f32) (g : Vec Ideal S1x1024 .f32) (w : Vec Ideal S1024x896 .bf16) (a : Fin 512) (c : Fin 896) :
    k0_pay2 x g w (ix2 a c) = proj (rmsRow (fun k => x (ix2 a k)) (fun k => g (ix2 0 k))) (mat w) c := by
  pointwise [k0_pay2]
  rfl

theorem latQ_at (y : FVec Ideal S512x896 .f32) (g : Vec Ideal S1x384 .f32) (a : Fin 512) (k : Fin 384) :
    k0_pay5 y g (ix2 a k) = latQ (by decide) (fun c => y (ix2 a c)) (fun k => g (ix2 0 k)) k := by
  pointwise [k0_pay5]
  rfl

theorem latK_at (y : FVec Ideal S512x896 .f32) (g : Vec Ideal S1x256 .f32) (a : Fin 512) (k : Fin 256) :
    k0_pay6 y g (ix2 a k) = latK (by decide) (fun c => y (ix2 a c)) (fun k => g (ix2 0 k)) k := by
  pointwise [k0_pay6]
  rfl

theorem krot_at (y : FVec Ideal S512x896 .f32) (cs sn : Vec Ideal S512x128 .f32) (a : Fin 512) (l : Fin 128) :
    k0_pay9 y cs sn (ix2 a l) = y (ix2 a ⟨640 + l, by omega⟩) * cs (ix2 a l) + y (ix2 a ⟨768 + l, by omega⟩) * sn (ix2 a l) := by
  pointwise [k0_pay9, k0_pay7, k0_pay8]
  done

theorem qnope_at (y : FVec Ideal S512x384 .bf16) (w : Vec Ideal S384x1024 .bf16) (a : Fin 512) (j : Fin 1024) :
    k0_pay10 y w (ix2 a j) = proj (fun k => y (ix2 a k)) (mat w) j * sc := by
  rw [← sc_eq]
  pointwise [k0_pay10]
  rfl

theorem qrot_at (y : FVec Ideal S512x384 .bf16) (cs sn : Vec Ideal S512x128 .f32) (w w' : Vec Ideal S384x1024 .bf16) (a : Fin 512) (j : Fin 1024) :
    k0_pay11 y (k0_pay7 cs) (k0_pay8 sn) w w' (ix2 a j)
      = (proj (fun k => y (ix2 a k)) (mat w) j * cs (ix2 a ⟨(j : Nat) % 128, by omega⟩)
          + proj (fun k => y (ix2 a k)) (mat w') j * sn (ix2 a ⟨(j : Nat) % 128, by omega⟩)) * sc := by
  rw [← sc_eq]
  pointwise [k0_pay11, k0_pay7, k0_pay8]
  refine congrArg₂ (· * ·) (congrArg₂ (· + ·) (congrArg₂ (· * ·) rfl ?_) (congrArg₂ (· * ·) rfl ?_)) rfl
  · split_ifs <;> exact congrArg (fun q => cs (ix2 a q)) (Fin.ext (by dsimp only; omega))
  · split_ifs <;> exact congrArg (fun q => sn (ix2 a q)) (Fin.ext (by dsimp only; omega))

theorem up_at (y : FVec Ideal S512x256 .bf16) (w : Vec Ideal S256x1024 .bf16) (a : Fin 512) (j : Fin 1024) :
    k0_pay12 y w (ix2 a j) = proj (fun k => y (ix2 a k)) (mat w) j ∧ k0_pay13 y w (ix2 a j) = proj (fun k => y (ix2 a k)) (mat w) j := by
  constructor
  · pointwise [k0_pay12]
    rfl
  · pointwise [k0_pay13]
    rfl

end Cert.Kernel5Ideal.Mla
-- ==== Proof.MlaValue.lean ====
/-
  The latent projections: what the kernel leaves in a grid point's blocks.
-/
module

public import proofs.«01_k».proof.Proof.MlaPay

@[expose] public section

set_option maxRecDepth 16384

noncomputable section

open Idealize.ShloMosaic Idealize.ShloMosaic.TcCoe Idealize.SL.Sem
open Idealize.ShloMosaic.Pipeline (Dat)

namespace Cert.Kernel5Ideal.Mla

open Cert.Kernel5Ideal Cert.Kernel5Ideal.Gen
open Cert.Kernel2Ideal.Mlp (rmsRow)
open Cert.Kernel4Ideal.Rwkv (proj mat)

theorem ld1 {e : EltTy} (x : Vec Ideal S1x1024 e) : View.ld x r0_1 = x := View.ld_unit_lit inb_S1x1024_S1x1024_0_0 x (by decide)
theorem ld3 {e : EltTy} (x : Vec Ideal S1024x896 e) : View.ld x r0_3 = x := View.ld_unit_lit inb_S1024x896_S1024x896_0_0 x (by decide)
theorem ld4 {e : EltTy} (x : Vec Ideal S1x384 e) : View.ld x r0_4 = x := View.ld_unit_lit inb_S1x384_S1x384_0_0 x (by decide)
theorem ld5 {e : EltTy} (x : Vec Ideal S1x256 e) : View.ld x r0_5 = x := View.ld_unit_lit inb_S1x256_S1x256_0_0 x (by decide)
theorem ld7 {e : EltTy} (x : Vec Ideal S384x1024 e) : View.ld x r0_7 = x := View.ld_unit_lit inb_S384x1024_S384x1024_0_0 x (by decide)
theorem ld8 {e : EltTy} (x : Vec Ideal S256x1024 e) : View.ld x r0_8 = x := View.ld_unit_lit inb_S256x1024_S256x1024_0_0 x (by decide)

theorem ld0_at {e : EltTy} (x : Vec Ideal S1024x1024 e) (a : Fin 512) (k : Fin 1024) : View.ld x r0_0 (ix2 a k) = x (ix2 ⟨a, by omega⟩ k) :=
  View.ld_unit_apply_of x _ _ _ _ _ fun a => by fin_cases a <;> simp
theorem ld2_at {e : EltTy} (x : Vec Ideal S1024x1024 e) (a : Fin 512) (k : Fin 1024) : View.ld x r0_2 (ix2 a k) = x (ix2 ⟨512 + a, by omega⟩ k) :=
  View.ld_unit_apply_of x _ _ _ _ _ fun a => by fin_cases a <;> simp
theorem ld6_at {e : EltTy} (x : Vec Ideal S1024x128 e) (a : Fin 512) (k : Fin 128) : View.ld x r0_6 (ix2 a k) = x (ix2 ⟨a, by omega⟩ k) :=
  View.ld_unit_apply_of x _ _ _ _ _ fun a => by fin_cases a <;> simp
theorem ld9_at {e : EltTy} (x : Vec Ideal S1024x128 e) (a : Fin 512) (k : Fin 128) : View.ld x r0_9 (ix2 a k) = x (ix2 ⟨512 + a, by omega⟩ k) :=
  View.ld_unit_apply_of x _ _ _ _ _ fun a => by fin_cases a <;> simp

/-- Row `a` of the block, normed and projected down. -/
def rowC (x0 : Vec Ideal S1024x1024 .f32) (x1 : Vec Ideal S1x1024 .f32) (x2 : Vec Ideal S1024x896 .bf16) (a : Fin 1024) : Fin 896 → EReal :=
  proj (rmsRow (fun k => x0 (ix2 a k)) (fun k => x1 (ix2 0 k))) (mat x2)

/-- Its latent queries. -/
def rowQ (x0 : Vec Ideal S1024x1024 .f32) (x1 : Vec Ideal S1x1024 .f32) (x2 : Vec Ideal S1024x896 .bf16) (x3 : Vec Ideal S1x384 .f32) (a : Fin 1024) : Fin 384 → EReal :=
  latQ (by decide) (rowC x0 x1 x2 a) (fun k => x3 (ix2 0 k))

/-- Its latent keys and values. -/
def rowK (x0 : Vec Ideal S1024x1024 .f32) (x1 : Vec Ideal S1x1024 .f32) (x2 : Vec Ideal S1024x896 .bf16) (x4 : Vec Ideal S1x256 .f32) (a : Fin 1024) : Fin 256 → EReal :=
  latK (by decide) (rowC x0 x1 x2 a) (fun k => x4 (ix2 0 k))

section Outs
variable (x0 : Vec Ideal S1024x1024 .f32) (x1 : Vec Ideal S1x1024 .f32) (x2 : Vec Ideal S1024x896 .bf16) (x3 : Vec Ideal S1x384 .f32) (x4 : Vec Ideal S1x256 .f32) (x5 x6 x7 : Vec Ideal S384x1024 .bf16) (x8 x9 : Vec Ideal S256x1024 .bf16) (x10 x11 : Vec Ideal S1024x128 .f32)

/-- The first half of the block, projected down. -/
theorem c_lo (a : Fin 512) (c : Fin 896) : k0_pay23 x0 x1 x2 x3 x4 x5 x6 x7 x8 x9 x10 x11 (ix2 a c) = rowC x0 x1 x2 ⟨a, by omega⟩ c := by
  unfold k0_pay23
  rw [ld1, ld3, down_at]
  exact congrArg (fun r => proj (rmsRow r (fun k => x1 (ix2 0 k))) (mat x2) c) (funext fun k => ld0_at x0 a k)

/-- The second half. -/
theorem c_hi (a : Fin 512) (c : Fin 896) : k0_pay24 x0 x1 x2 x3 x4 x5 x6 x7 x8 x9 x10 x11 (ix2 a c) = rowC x0 x1 x2 ⟨512 + a, by omega⟩ c := by
  unfold k0_pay24
  rw [ld1, ld3]
  refine (down_at (View.ld x0 r0_2) x1 x2 a c).trans ?_
  exact congrArg (fun r => proj (rmsRow r (fun k => x1 (ix2 0 k))) (mat x2) c) (funext fun k => ld2_at x0 a k)

theorem q_lo (a : Fin 512) : (fun k => k0_pay25 x0 x1 x2 x3 x4 x5 x6 x7 x8 x9 x10 x11 (ix2 a k)) = rowQ x0 x1 x2 x3 ⟨a, by omega⟩ := by
  funext k
  unfold k0_pay25
  rw [ld4, latQ_at]
  simp only [c_lo]
  rfl

theorem q_hi (a : Fin 512) : (fun k => k0_pay27 x0 x1 x2 x3 x4 x5 x6 x7 x8 x9 x10 x11 (ix2 a k)) = rowQ x0 x1 x2 x3 ⟨512 + a, by omega⟩ := by
  funext k
  unfold k0_pay27
  rw [ld4]
  refine (latQ_at _ x3 a k).trans ?_
  simp only [c_hi]
  rfl

theorem k_lo (a : Fin 512) : (fun k => k0_pay26 x0 x1 x2 x3 x4 x5 x6 x7 x8 x9 x10 x11 (ix2 a k)) = rowK x0 x1 x2 x4 ⟨a, by omega⟩ := by
  funext k
  unfold k0_pay26
  rw [ld5, latK_at]
  simp only [c_lo]
  rfl

theorem k_hi (a : Fin 512) : (fun k => k0_pay28 x0 x1 x2 x3 x4 x5 x6 x7 x8 x9 x10 x11 (ix2 a k)) = rowK x0 x1 x2 x4 ⟨512 + a, by omega⟩ := by
  funext k
  unfold k0_pay28
  rw [ld5]
  refine (latK_at _ x4 a k).trans ?_
  simp only [c_hi]
  rfl

/-- The block of the queries that are not rotated. -/
theorem out12_at (a j : Fin 1024) : out0_12 x0 x1 x2 x3 x4 x5 x6 x7 x8 x9 x10 x11 (ix2 a j) = proj (rowQ x0 x1 x2 x3 a) (mat x5) j * sc := by
  unfold out0_12
  rw [ld7]
  canon_tiles y h
  · idx_vars y
    obtain rfl : j = y1 := Fin.ext h1
    rw [show a = ⟨512 + y0, by omega⟩ from Fin.ext h0]
    refine (qnope_at _ x5 y0 j).trans ?_
    rw [q_hi]
  · idx_vars y
    obtain rfl : j = y1 := Fin.ext h1
    rw [show a = ⟨y0, by omega⟩ from Fin.ext h0]
    refine (qnope_at _ x5 y0 j).trans ?_
    rw [q_lo]

/-- The block of the queries that are rotated. -/
theorem out13_at (a j : Fin 1024) : out0_13 x0 x1 x2 x3 x4 x5 x6 x7 x8 x9 x10 x11 (ix2 a j)
    = (proj (rowQ x0 x1 x2 x3 a) (mat x6) j * x10 (ix2 a ⟨(j : Nat) % 128, by omega⟩)
        + proj (rowQ x0 x1 x2 x3 a) (mat x7) j * x11 (ix2 a ⟨(j : Nat) % 128, by omega⟩)) * sc := by
  unfold out0_13
  rw [ld7, ld7]
  canon_tiles y h
  · idx_vars y
    obtain rfl : j = y1 := Fin.ext h1
    rw [show a = ⟨512 + y0, by omega⟩ from Fin.ext h0]
    refine (qrot_at _ _ _ x6 x7 y0 j).trans ?_
    rw [q_hi, ld9_at, ld9_at]
  · idx_vars y
    obtain rfl : j = y1 := Fin.ext h1
    rw [show a = ⟨y0, by omega⟩ from Fin.ext h0]
    refine (qrot_at _ _ _ x6 x7 y0 j).trans ?_
    rw [q_lo, ld6_at, ld6_at]

/-- The block of the keys that are not rotated. -/
theorem out14_at (a j : Fin 1024) : out0_14 x0 x1 x2 x3 x4 x5 x6 x7 x8 x9 x10 x11 (ix2 a j) = proj (rowK x0 x1 x2 x4 a) (mat x8) j := by
  unfold out0_14
  rw [ld8]
  canon_tiles y h
  · idx_vars y
    obtain rfl : j = y1 := Fin.ext h1
    rw [show a = ⟨512 + y0, by omega⟩ from Fin.ext h0]
    refine (up_at _ x8 y0 j).1.trans ?_
    rw [k_hi]
  · idx_vars y
    obtain rfl : j = y1 := Fin.ext h1
    rw [show a = ⟨y0, by omega⟩ from Fin.ext h0]
    refine (up_at _ x8 y0 j).1.trans ?_
    rw [k_lo]

/-- The block of the keys that are rotated. -/
theorem out15_at (a : Fin 1024) (l : Fin 128) : out0_15 x0 x1 x2 x3 x4 x5 x6 x7 x8 x9 x10 x11 (ix2 a l)
    = rowC x0 x1 x2 a ⟨640 + l, by omega⟩ * x10 (ix2 a l) + rowC x0 x1 x2 a ⟨768 + l, by omega⟩ * x11 (ix2 a l) := by
  unfold out0_15
  canon_tiles y h
  · idx_vars y
    obtain rfl : l = y1 := Fin.ext h1
    rw [show a = ⟨512 + y0, by omega⟩ from Fin.ext h0]
    refine (krot_at _ _ _ y0 l).trans ?_
    rw [c_hi, c_hi, ld9_at, ld9_at]
  · idx_vars y
    obtain rfl : l = y1 := Fin.ext h1
    rw [show a = ⟨y0, by omega⟩ from Fin.ext h0]
    refine (krot_at _ _ _ y0 l).trans ?_
    rw [c_lo, c_lo, ld6_at, ld6_at]

/-- The block of the values. -/
theorem out16_at (a j : Fin 1024) : out0_16 x0 x1 x2 x3 x4 x5 x6 x7 x8 x9 x10 x11 (ix2 a j) = proj (rowK x0 x1 x2 x4 a) (mat x9) j := by
  unfold out0_16
  rw [ld8]
  canon_tiles y h
  · idx_vars y
    obtain rfl : j = y1 := Fin.ext h1
    rw [show a = ⟨512 + y0, by omega⟩ from Fin.ext h0]
    refine (up_at _ x9 y0 j).2.trans ?_
    rw [k_hi]
  · idx_vars y
    obtain rfl : j = y1 := Fin.ext h1
    rw [show a = ⟨y0, by omega⟩ from Fin.ext h0]
    refine (up_at _ x9 y0 j).2.trans ?_
    rw [k_lo]

end Outs

end Cert.Kernel5Ideal.Mla
-- ==== Proof.MlaRead.lean ====
/-
  The latent projections: what a grid point's blocks hold, from the arguments.
-/
module

public import proofs.«01_k».proof.Proof.MlaValue
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.Kernel5Ideal.Mla

open Cert.Kernel5Ideal Cert.Kernel5Ideal.Gen

variable (m : (ℓ : Loc nD τ sig) → Buf (Elt Ideal) ℓ)

/-- Where each window's block lies, at every grid point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![t.val, 0] ∧ win0_11.index t = ![t.val, 0] :=
  (by decide +kernel : ∀ t : Fin grid0.N, _)

/-- Where each result's block lies. -/
theorem odx : ∀ t : Fin cfg0.N, win0_12.index t = ![t.val, 0] ∧ win0_13.index t = ![t.val, 0] ∧ win0_14.index t = ![t.val, 0]
    ∧ win0_15.index t = ![t.val, 0] ∧ win0_16.index t = ![t.val, 0] :=
  (by decide +kernel : ∀ t : Fin grid0.N, _)

theorem t_lt (t : Fin cfg0.N) : t.val < 16 := (show t.val < cfg0.N from t.isLt).trans_eq (show cfg0.N = 16 from N_0)

theorem zero_bits : Ideal.ofBits .f32 0x00000000#32 = (0 : EReal) := by simp

/-- The scales of the norms, reshaped. -/
theorem V49_at (c : Dev nD) (k : Fin 1024) : (V m c main_v49 : FVec Ideal S1x1024 .f32) (ix2 0 k) = m ((c : Thread nD τ).loc main_arg1) (ix1 k) := by
  unfold V
  after_reads_at
theorem V47_at (c : Dev nD) (k : Fin 384) : (V m c main_v47 : FVec Ideal S1x384 .f32) (ix2 0 k) = m ((c : Thread nD τ).loc main_arg3) (ix1 k) := by
  unfold V
  after_reads_at
theorem V48_at (c : Dev nD) (k : Fin 256) : (V m c main_v48 : FVec Ideal S1x256 .f32) (ix2 0 k) = m ((c : Thread nD τ).loc main_arg5) (ix1 k) := by
  unfold V
  after_reads_at

/-- The weights of the queries and keys that are not rotated, and of the values, head by head. -/
theorem V25_at (c : Dev nD) (k : Fin 384) (j : Fin 1024) :
    (V m c main_v25 : FVec Ideal S384x1024 .bf16) (ix2 k j) = m ((c : Thread nD τ).loc main_arg4) (ix2 k ⟨(j : Nat) / 64 * 96 + (j : Nat) % 64, by omega⟩) := by
  unfold V
  after_reads_at
  blk_ext
theorem V43_at (c : Dev nD) (k : Fin 256) (j : Fin 1024) :
    (V m c main_v43 : FVec Ideal S256x1024 .bf16) (ix2 k j) = m ((c : Thread nD τ).loc main_arg6) (ix2 k ⟨(j : Nat) / 64 * 128 + (j : Nat) % 64, by omega⟩) := by
  unfold V
  after_reads_at
  blk_ext
theorem V46_at (c : Dev nD) (k : Fin 256) (j : Fin 1024) :
    (V m c main_v46 : FVec Ideal S256x1024 .bf16) (ix2 k j) = m ((c : Thread nD τ).loc main_arg6) (ix2 k ⟨(j : Nat) / 64 * 128 + 64 + (j : Nat) % 64, by omega⟩) := by
  unfold V
  after_reads_at
  blk_ext

/-- The weights of the rotated queries: two heads' columns in 128, and zeros. -/
theorem V31_at (c : Dev nD) (k : Fin 384) (j : Fin 1024) :
    (V m c main_v31 : FVec Ideal S384x1024 .bf16) (ix2 k j)
      = if h : (j : Nat) % 128 < 64 then m ((c : Thread nD τ).loc main_arg4) (ix2 k ⟨(2 * ((j : Nat) / 128) + (j : Nat) % 128 / 32) * 96 + 64 + (j : Nat) % 32, by omega⟩) else (0 : EReal) := by
  unfold V
  after_reads_at
  by_cases h : (j : Nat) % 128 < 64
  · rw [dif_pos h, dif_pos h]
    after_reads_at
    blk_ext
  · rw [dif_neg h, dif_neg h]
    after_reads_at

/-- The same, with the halves of a head's columns exchanged. -/
theorem V39_at (c : Dev nD) (k : Fin 384) (j : Fin 1024) :
    (V m c main_v39 : FVec Ideal S384x1024 .bf16) (ix2 k j)
      = if h : (j : Nat) % 128 < 64 then m ((c : Thread nD τ).loc main_arg4) (ix2 k ⟨(2 * ((j : Nat) / 128) + (j : Nat) % 128 / 32) * 96 + 64 + ((j : Nat) % 32 + 16) % 32, by omega⟩) else (0 : EReal) := by
  unfold V
  after_reads_at
  by_cases h : (j : Nat) % 128 < 64
  · rw [dif_pos h, dif_pos h]
    after_reads_at
    by_cases h' : (j : Nat) % 32 < 16
    · rw [dif_pos (by omega)]
      after_reads_at
      blk_ext
    · rw [dif_neg (by omega)]
      after_reads_at
      blk_ext
  · rw [dif_neg h, dif_neg h]
    after_reads_at

/-- The cosines, repeated. -/
theorem V4_at (c : Dev nD) (b : Fin 8) (s : Fin 2048) (r : Fin 16384) (hr : (r : Nat) = b * 2048 + s) (l : Fin 128) :
    (V m c main_v4 : FVec Ideal S16384x128 .f32) (ix2 r l) = m ((c : Thread nD τ).loc main_arg7) (ix3 b s ⟨(l : Nat) % 16, by omega⟩) := by
  unfold V
  after_reads_at
  blk_ext

/-- The sines. -/
def sines (c : Dev nD) : FVec Ideal S8x2048x16 .f32 := m ((c : Thread nD τ).loc main_arg8)

/-- The sines, negated in the first half of each 32 lanes. -/
theorem V9_at (c : Dev nD) (b : Fin 8) (s : Fin 2048) (r : Fin 16384) (hr : (r : Nat) = b * 2048 + s) (l : Fin 128) :
    (V m c main_v9 : FVec Ideal S16384x128 .f32) (ix2 r l)
      = if (l : Nat) % 32 < 16 then -(sines m c (ix3 b s ⟨(l : Nat) % 16, by omega⟩)) else sines m c (ix3 b s ⟨(l : Nat) % 16, by omega⟩) := by
  unfold V
  after_reads_at
  by_cases h : (l : Nat) % 32 < 16
  · rw [if_pos h, dif_pos (by omega)]
    after_reads_at
    refine congrArg (fun x : EReal => -x) ?_
    unfold sines
    blk_ext
  · rw [if_neg h, dif_neg (by omega)]
    after_reads_at
    unfold sines
    blk_ext

/-- The weights of the projection down. -/
theorem V21_lo (c : Dev nD) (k : Fin 1024) (j : Fin 896) (h : (j : Nat) < 640) :
    (V m c main_v21 : FVec Ideal S1024x896 .bf16) (ix2 k j) = m ((c : Thread nD τ).loc main_arg2) (ix2 k ⟨j, by omega⟩) := by
  unfold V
  after_reads_at
  rw [dif_pos h]
  after_reads_at
  blk_ext

/-- The rotated keys' weights, twice, and zeros. -/
theorem V21_a (c : Dev nD) (k : Fin 1024) (l : Fin 128) :
    (V m c main_v21 : FVec Ideal S1024x896 .bf16) (ix2 k ⟨640 + l, by omega⟩)
      = if h : (l : Nat) < 64 then m ((c : Thread nD τ).loc main_arg2) (ix2 k ⟨640 + (l : Nat) % 32, by omega⟩) else (0 : EReal) := by
  unfold V
  after_reads_at
  by_cases h : (l : Nat) < 32
  · rw [dif_pos h, dif_pos (by omega)]
    after_reads_at
    blk_ext
  · rw [dif_neg h]
    by_cases h' : (l : Nat) < 64
    · rw [dif_pos (by omega), dif_pos h']
      after_reads_at
      blk_ext
    · rw [dif_neg (by omega), dif_pos (by omega), dif_neg h']
      after_reads_at

/-- The same, with the halves of the columns exchanged. -/
theorem V21_b (c : Dev nD) (k : Fin 1024) (l : Fin 128) :
    (V m c main_v21 : FVec Ideal S1024x896 .bf16) (ix2 k ⟨768 + l, by omega⟩)
      = if h : (l : Nat) < 64 then m ((c : Thread nD τ).loc main_arg2) (ix2 k ⟨640 + ((l : Nat) % 32 + 16) % 32, by omega⟩) else (0 : EReal) := by
  unfold V
  after_reads_at
  rw [dif_neg (by omega), dif_neg (by omega), dif_neg (by omega), dif_neg (by omega)]
  by_cases h : (l : Nat) < 32
  · rw [dif_pos (by omega), dif_pos (by omega)]
    after_reads_at
    by_cases h' : (l : Nat) < 16
    · rw [dif_pos (by omega)]
      blk_ext
    · rw [dif_neg (by omega)]
      blk_ext
  · rw [dif_neg (by omega)]
    by_cases h' : (l : Nat) < 64
    · rw [dif_pos (by omega), dif_pos h']
      after_reads_at
      by_cases h'' : (l : Nat) < 48
      · rw [dif_pos (by omega)]
        blk_ext
      · rw [dif_neg (by omega)]
        blk_ext
    · rw [dif_neg (by omega), dif_neg h']
      after_reads_at

/-- The tokens, one after the other. -/
theorem V10_at (c : Dev nD) (b : Fin 8) (s : Fin 2048) (r : Fin 16384) (hr : (r : Nat) = b * 2048 + s) (k : Fin 1024) :
    (V m c main_v10 : FVec Ideal S16384x1024 .f32) (ix2 r k) = m ((c : Thread nD τ).loc main_arg0) (ix3 b s k) := by
  unfold V
  after_reads_at
  blk_ext

/-! ## The blocks -/

section Blocks
variable (c : Dev nD) (t : Fin cfg0.N)

theorem blk0 (a k : Fin 1024) (r : Fin 16384) (hr : (r : Nat) = t.val * 1024 + a) :
    (iblk m c 0 t : Vec Ideal S1024x1024 .f32) (ix2 a k) = (V m c main_v10 : FVec Ideal S16384x1024 .f32) (ix2 r k) := by
  have e : ((cfg0.win 0).blk t).view.emb (ix2 a k) = (ix2 r k : S16384x1024.Idx) := by
    blk_ext [idx t]
  exact congrArg (V m c main_v10) e

theorem blk10 (a : Fin 1024) (l : Fin 128) (r : Fin 16384) (hr : (r : Nat) = t.val * 1024 + a) :
    (iblk m c 10 t : Vec Ideal S1024x128 .f32) (ix2 a l) = (V m c main_v4 : FVec Ideal S16384x128 .f32) (ix2 r l) := by
  have e : ((cfg0.win 10).blk t).view.emb (ix2 a l) = (ix2 r l : S16384x128.Idx) := by
    blk_ext [idx t]
  exact congrArg (V m c main_v4) e

theorem blk11 (a : Fin 1024) (l : Fin 128) (r : Fin 16384) (hr : (r : Nat) = t.val * 1024 + a) :
    (iblk m c 11 t : Vec Ideal S1024x128 .f32) (ix2 a l) = (V m c main_v9 : FVec Ideal S16384x128 .f32) (ix2 r l) := by
  have e : ((cfg0.win 11).blk t).view.emb (ix2 a l) = (ix2 r l : S16384x128.Idx) := by
    blk_ext [idx t]
  exact congrArg (V m c main_v9) e

theorem blk1 (k : Fin 1024) : (iblk m c 1 t : Vec Ideal S1x1024 .f32) (ix2 0 k) = m ((c : Thread nD τ).loc main_arg1) (ix1 k) := by
  have e : ((cfg0.win 1).blk t).view.emb (ix2 0 k) = (ix2 0 k : S1x1024.Idx) := by
    blk_ext [idx t]
  exact (congrArg (V m c main_v49) e).trans (V49_at m c k)

theorem blk2 (k : Fin 1024) (j : Fin 896) : (iblk m c 2 t : Vec Ideal S1024x896 .bf16) (ix2 k j) = (V m c main_v21 : FVec Ideal S1024x896 .bf16) (ix2 k j) := by
  have e : ((cfg0.win 2).blk t).view.emb (ix2 k j) = (ix2 k j : S1024x896.Idx) := by
    blk_ext [idx t]
  exact congrArg (V m c main_v21) e

theorem blk3 (k : Fin 384) : (iblk m c 3 t : Vec Ideal S1x384 .f32) (ix2 0 k) = m ((c : Thread nD τ).loc main_arg3) (ix1 k) := by
  have e : ((cfg0.win 3).blk t).view.emb (ix2 0 k) = (ix2 0 k : S1x384.Idx) := by
    blk_ext [idx t]
  exact (congrArg (V m c main_v47) e).trans (V47_at m c k)

theorem blk4 (k : Fin 256) : (iblk m c 4 t : Vec Ideal S1x256 .f32) (ix2 0 k) = m ((c : Thread nD τ).loc main_arg5) (ix1 k) := by
  have e : ((cfg0.win 4).blk t).view.emb (ix2 0 k) = (ix2 0 k : S1x256.Idx) := by
    blk_ext [idx t]
  exact (congrArg (V m c main_v48) e).trans (V48_at m c k)

theorem blk5 (k : Fin 384) (j : Fin 1024) : (iblk m c 5 t : Vec Ideal S384x1024 .bf16) (ix2 k j) = (V m c main_v25 : FVec Ideal S384x1024 .bf16) (ix2 k j) := by
  have e : ((cfg0.win 5).blk t).view.emb (ix2 k j) = (ix2 k j : S384x1024.Idx) := by
    blk_ext [idx t]
  exact congrArg (V m c main_v25) e

theorem blk6 (k : Fin 384) (j : Fin 1024) : (iblk m c 6 t : Vec Ideal S384x1024 .bf16) (ix2 k j) = (V m c main_v31 : FVec Ideal S384x1024 .bf16) (ix2 k j) := by
  have e : ((cfg0.win 6).blk t).view.emb (ix2 k j) = (ix2 k j : S384x1024.Idx) := by
    blk_ext [idx t]
  exact congrArg (V m c main_v31) e

theorem blk7 (k : Fin 384) (j : Fin 1024) : (iblk m c 7 t : Vec Ideal S384x1024 .bf16) (ix2 k j) = (V m c main_v39 : FVec Ideal S384x1024 .bf16) (ix2 k j) := by
  have e : ((cfg0.win 7).blk t).view.emb (ix2 k j) = (ix2 k j : S384x1024.Idx) := by
    blk_ext [idx t]
  exact congrArg (V m c main_v39) e

theorem blk8 (k : Fin 256) (j : Fin 1024) : (iblk m c 8 t : Vec Ideal S256x1024 .bf16) (ix2 k j) = (V m c main_v43 : FVec Ideal S256x1024 .bf16) (ix2 k j) := by
  have e : ((cfg0.win 8).blk t).view.emb (ix2 k j) = (ix2 k j : S256x1024.Idx) := by
    blk_ext [idx t]
  exact congrArg (V m c main_v43) e

theorem blk9 (k : Fin 256) (j : Fin 1024) : (iblk m c 9 t : Vec Ideal S256x1024 .bf16) (ix2 k j) = (V m c main_v46 : FVec Ideal S256x1024 .bf16) (ix2 k j) := by
  have e : ((cfg0.win 9).blk t).view.emb (ix2 k j) = (ix2 k j : S256x1024.Idx) := by
    blk_ext [idx t]
  exact congrArg (V m c main_v46) e

end Blocks

end Cert.Kernel5Ideal.Mla
-- ==== Proof.MlaFinal.lean ====
/-
  The latent projections: the result arrays, as functions of the arguments.
-/
module

public import proofs.«01_k».proof.Proof.MlaRead

@[expose] public section

set_option maxRecDepth 16384

noncomputable section

open Idealize.ShloMosaic Idealize.ShloMosaic.TcCoe Idealize.SL.Sem
open Idealize.ShloMosaic.Pipeline (Dat)

namespace Cert.Kernel5Ideal.Mla

open Cert.Kernel5Ideal Cert.Kernel5Ideal.Gen
open Cert.Kernel2Ideal.Mlp (rmsRow)
open Cert.Kernel4Ideal.Rwkv (proj mat)

/-! ## The results, as functions of the argument arrays -/

/-- A token, normed and projected down. -/
def cA (h : FVec Ideal S8x2048x1024 .f32) (gn : FVec Ideal S1024 .f32) (wd : FVec Ideal S1024x672 .f32) (b : Fin 8) (s : Fin 2048) : Fin 672 → EReal :=
  proj (rmsRow (fun k => h (ix3 b s k)) (fun k => gn (ix1 k))) (mat wd)

/-- Its queries. -/
def qA (h : FVec Ideal S8x2048x1024 .f32) (gn : FVec Ideal S1024 .f32) (wd : FVec Ideal S1024x672 .f32) (gq : FVec Ideal S384 .f32) (wuq : FVec Ideal S384x1536 .f32) (b : Fin 8) (s : Fin 2048) : Fin 1536 → EReal :=
  proj (latQ (by decide) (cA h gn wd b s) (fun k => gq (ix1 k))) (mat wuq)

/-- Its keys and values. -/
def kvA (h : FVec Ideal S8x2048x1024 .f32) (gn : FVec Ideal S1024 .f32) (wd : FVec Ideal S1024x672 .f32) (gkv : FVec Ideal S256 .f32) (wukv : FVec Ideal S256x2048 .f32) (b : Fin 8) (s : Fin 2048) : Fin 2048 → EReal :=
  proj (latK (by decide) (cA h gn wd b s) (fun k => gkv (ix1 k))) (mat wukv)

/-- The sequence and the place of row `r`. -/
def bOf (r : Fin 16384) : Fin 8 := ⟨(r : Nat) / 2048, by omega⟩
def sOf (r : Fin 16384) : Fin 2048 := ⟨(r : Nat) % 2048, by omega⟩

/-- A token's thirty-two numbers, rotated by its angles. -/
def rotA (cos sin : FVec Ideal S8x2048x16 .f32) (b : Fin 8) (s : Fin 2048) (x : Fin 32 → EReal) : Fin 32 → EReal :=
  rot x (fun d => cos (ix3 b s d)) (fun d => sin (ix3 b s d))

/-- The queries that are not rotated, scaled. -/
def qnRow (q : Fin 1536 → EReal) (j : Fin 1024) : EReal := q ⟨(j : Nat) / 64 * 96 + (j : Nat) % 64, by omega⟩ * sc

/-- The rotated queries of the head that lane `j` holds, and zero in the padding. -/
def qrRow (q : Fin 1536 → EReal) (ro : (Fin 32 → EReal) → Fin 32 → EReal) (j : Fin 1024) : EReal :=
  if h : (j : Nat) % 128 < 64 then
    ro (fun d => q ⟨(2 * ((j : Nat) / 128) + (j : Nat) % 128 / 32) * 96 + 64 + d, by omega⟩) ⟨(j : Nat) % 32, by omega⟩ * sc
  else 0

/-- The rotated key, twice, and zero in the padding. -/
def krRow (c : Fin 672 → EReal) (ro : (Fin 32 → EReal) → Fin 32 → EReal) (l : Fin 128) : EReal :=
  if (l : Nat) < 64 then ro (fun d => c ⟨640 + d, by omega⟩) ⟨(l : Nat) % 32, by omega⟩ else 0

def knRow (kv : Fin 2048 → EReal) (j : Fin 1024) : EReal := kv ⟨(j : Nat) / 64 * 128 + (j : Nat) % 64, by omega⟩
def vRow (kv : Fin 2048 → EReal) (j : Fin 1024) : EReal := kv ⟨(j : Nat) / 64 * 128 + 64 + (j : Nat) % 64, by omega⟩

def qnA (h : FVec Ideal S8x2048x1024 .f32) (gn : FVec Ideal S1024 .f32) (wd : FVec Ideal S1024x672 .f32) (gq : FVec Ideal S384 .f32) (wuq : FVec Ideal S384x1536 .f32) : FVec Ideal S16384x1024 .bf16 := fun i =>
  qnRow (qA h gn wd gq wuq (bOf (i 0)) (sOf (i 0))) (i 1)
def qrA (h : FVec Ideal S8x2048x1024 .f32) (gn : FVec Ideal S1024 .f32) (wd : FVec Ideal S1024x672 .f32) (gq : FVec Ideal S384 .f32) (wuq : FVec Ideal S384x1536 .f32) (cos sin : FVec Ideal S8x2048x16 .f32) : FVec Ideal S16384x1024 .bf16 := fun i =>
  qrRow (qA h gn wd gq wuq (bOf (i 0)) (sOf (i 0))) (rotA cos sin (bOf (i 0)) (sOf (i 0))) (i 1)
def knA (h : FVec Ideal S8x2048x1024 .f32) (gn : FVec Ideal S1024 .f32) (wd : FVec Ideal S1024x672 .f32) (gkv : FVec Ideal S256 .f32) (wukv : FVec Ideal S256x2048 .f32) : FVec Ideal S16384x1024 .bf16 := fun i =>
  knRow (kvA h gn wd gkv wukv (bOf (i 0)) (sOf (i 0))) (i 1)
def krA (h : FVec Ideal S8x2048x1024 .f32) (gn : FVec Ideal S1024 .f32) (wd : FVec Ideal S1024x672 .f32) (cos sin : FVec Ideal S8x2048x16 .f32) : FVec Ideal S16384x128 .bf16 := fun i =>
  krRow (cA h gn wd (bOf (i 0)) (sOf (i 0))) (rotA cos sin (bOf (i 0)) (sOf (i 0))) (i 1)
def vA (h : FVec Ideal S8x2048x1024 .f32) (gn : FVec Ideal S1024 .f32) (wd : FVec Ideal S1024x672 .f32) (gkv : FVec Ideal S256 .f32) (wukv : FVec Ideal S256x2048 .f32) : FVec Ideal S16384x1024 .bf16 := fun i =>
  vRow (kvA h gn wd gkv wukv (bOf (i 0)) (sOf (i 0))) (i 1)

/-- Two products whose factors are a rotation's. -/
theorem rotated (x : Fin 32 → EReal) (cs sn : Fin 16 → EReal) (d : Fin 32) (A B C S : EReal)
    (hA : A = x d) (hB : B = x ⟨((d : Nat) + 16) % 32, by omega⟩) (hC : C = cs ⟨(d : Nat) % 16, by omega⟩)
    (hS : S = if (d : Nat) < 16 then -(sn ⟨(d : Nat) % 16, by omega⟩) else sn ⟨(d : Nat) % 16, by omega⟩) :
    A * C + B * S = rot x cs sn d := by
  rw [hA, hB, hC, hS]
  exact rot_eq x cs sn d

/-- A projection at a column that is a column of other weights. -/
theorem proj_congr {n p q : Nat} (x : Fin n → EReal) (w : Fin n → Fin p → EReal) (v : Fin n → Fin q → EReal) (i : Fin p) (j : Fin q)
    (h : ∀ k, w k i = v k j) : proj x w i = proj x v j :=
  Finset.sum_congr rfl fun k _ => congrArg (x k * ·) (h k)

/-- A projection at a column of zeros. -/
theorem proj_zero {n p : Nat} (x : Fin n → EReal) (w : Fin n → Fin p → EReal) (i : Fin p) (h : ∀ k, w k i = 0) : proj x w i = 0 :=
  Finset.sum_eq_zero fun k _ => by rw [h k, mul_zero]

variable (m : (ℓ : Loc nD τ sig) → Buf (Elt Ideal) ℓ)

/-- The results of the run, from the argument arrays. -/
def G12 (c : Dev nD) : FVec Ideal S16384x1024 .bf16 := qnA (m ((c : Thread nD τ).loc main_arg0)) (m ((c : Thread nD τ).loc main_arg1)) (m ((c : Thread nD τ).loc main_arg2)) (m ((c : Thread nD τ).loc main_arg3)) (m ((c : Thread nD τ).loc main_arg4))
def G13 (c : Dev nD) : FVec Ideal S16384x1024 .bf16 := qrA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8))
def G14 (c : Dev nD) : FVec Ideal S16384x1024 .bf16 := knA (m ((c : Thread nD τ).loc main_arg0)) (m ((c : Thread nD τ).loc main_arg1)) (m ((c : Thread nD τ).loc main_arg2)) (m ((c : Thread nD τ).loc main_arg5)) (m ((c : Thread nD τ).loc main_arg6))
def G15 (c : Dev nD) : FVec Ideal S16384x128 .bf16 := krA (m ((c : Thread nD τ).loc main_arg0)) (m ((c : Thread nD τ).loc main_arg1)) (m ((c : Thread nD τ).loc main_arg2)) (m ((c : Thread nD τ).loc main_arg7)) (m ((c : Thread nD τ).loc main_arg8))
def G16 (c : Dev nD) : FVec Ideal S16384x1024 .bf16 := vA (m ((c : Thread nD τ).loc main_arg0)) (m ((c : Thread nD τ).loc main_arg1)) (m ((c : Thread nD τ).loc main_arg2)) (m ((c : Thread nD τ).loc main_arg5)) (m ((c : Thread nD τ).loc main_arg6))

/-- Row `r` of the argument arrays, projected down; its queries; its keys and values. -/
def cM (c : Dev nD) (r : Fin 16384) : Fin 672 → EReal := cA (m ((c : Thread nD τ).loc main_arg0)) (m ((c : Thread nD τ).loc main_arg1)) (m ((c : Thread nD τ).loc main_arg2)) (bOf r) (sOf r)
def gqM (c : Dev nD) : Fin 384 → EReal := fun k => (m ((c : Thread nD τ).loc main_arg3) : FVec Ideal S384 .f32) (ix1 k)
def gkM (c : Dev nD) : Fin 256 → EReal := fun k => (m ((c : Thread nD τ).loc main_arg5) : FVec Ideal S256 .f32) (ix1 k)
def wqM (c : Dev nD) : Fin 384 → Fin 1536 → EReal := mat (m ((c : Thread nD τ).loc main_arg4) : FVec Ideal S384x1536 .f32)
def wkM (c : Dev nD) : Fin 256 → Fin 2048 → EReal := mat (m ((c : Thread nD τ).loc main_arg6) : FVec Ideal S256x2048 .f32)

def rotM (c : Dev nD) (r : Fin 16384) : (Fin 32 → EReal) → Fin 32 → EReal := rotA (m ((c : Thread nD τ).loc main_arg7)) (sines m c) (bOf r) (sOf r)

section Rows
variable (c : Dev nD) (t : Fin cfg0.N) (a : Fin 1024) (r : Fin 16384) (hr : (r : Nat) = t.val * 1024 + a)
include hr

theorem row_u : (fun k => (iblk m c 0 t : Vec Ideal S1024x1024 .f32) (ix2 a k)) = fun k => (m ((c : Thread nD τ).loc main_arg0) : FVec Ideal S8x2048x1024 .f32) (ix3 (bOf r) (sOf r) k) :=
  funext fun k => (blk0 m c t a k r hr).trans (V10_at m c (bOf r) (sOf r) r (by unfold bOf sOf; dsimp only; omega) k)

theorem row_g : (fun k => (iblk m c 1 t : Vec Ideal S1x1024 .f32) (ix2 0 k)) = fun k => (m ((c : Thread nD τ).loc main_arg1) : FVec Ideal S1024 .f32) (ix1 k) :=
  funext fun k => blk1 m c t k

theorem row_lo (j : Fin 896) (h : (j : Nat) < 640) : rowC (iblk m c 0 t) (iblk m c 1 t) (iblk m c 2 t) a j = cM m c r ⟨j, by omega⟩ := by
  unfold rowC
  rw [row_u m c t a r hr, row_g m c t a r hr]
  exact proj_congr _ _ _ _ _ fun k => (blk2 m c t k j).trans (V21_lo m c k j h)

theorem row_a (l : Fin 128) : rowC (iblk m c 0 t) (iblk m c 1 t) (iblk m c 2 t) a ⟨640 + l, by omega⟩
    = if (l : Nat) < 64 then cM m c r ⟨640 + (l : Nat) % 32, by omega⟩ else 0 := by
  unfold rowC
  rw [row_u m c t a r hr, row_g m c t a r hr]
  by_cases h : (l : Nat) < 64
  · rw [if_pos h]
    exact proj_congr _ _ _ _ _ fun k => (blk2 m c t k _).trans ((V21_a m c k l).trans (dif_pos h))
  · rw [if_neg h]
    exact proj_zero _ _ _ fun k => (blk2 m c t k _).trans ((V21_a m c k l).trans (dif_neg h))

theorem row_b (l : Fin 128) : rowC (iblk m c 0 t) (iblk m c 1 t) (iblk m c 2 t) a ⟨768 + l, by omega⟩
    = if (l : Nat) < 64 then cM m c r ⟨640 + ((l : Nat) % 32 + 16) % 32, by omega⟩ else 0 := by
  unfold rowC
  rw [row_u m c t a r hr, row_g m c t a r hr]
  by_cases h : (l : Nat) < 64
  · rw [if_pos h]
    exact proj_congr _ _ _ _ _ fun k => (blk2 m c t k _).trans ((V21_b m c k l).trans (dif_pos h))
  · rw [if_neg h]
    exact proj_zero _ _ _ fun k => (blk2 m c t k _).trans ((V21_b m c k l).trans (dif_neg h))

theorem row_q : rowQ (iblk m c 0 t) (iblk m c 1 t) (iblk m c 2 t) (iblk m c 3 t) a = latQ (by decide) (cM m c r) (gqM m c) :=
  congrArg₂ (rmsN _) (funext fun k => row_lo m c t a r hr ⟨k, by omega⟩ (by dsimp only; omega)) (funext fun k => blk3 m c t k)

theorem row_k : rowK (iblk m c 0 t) (iblk m c 1 t) (iblk m c 2 t) (iblk m c 4 t) a = latK (by decide) (cM m c r) (gkM m c) :=
  congrArg₂ (rmsN _) (funext fun k => row_lo m c t a r hr ⟨384 + k, by omega⟩ (by dsimp only; omega)) (funext fun k => blk4 m c t k)

theorem row_cos (l : Fin 128) : (iblk m c 10 t : Vec Ideal S1024x128 .f32) (ix2 a l)
    = (m ((c : Thread nD τ).loc main_arg7) : FVec Ideal S8x2048x16 .f32) (ix3 (bOf r) (sOf r) ⟨(l : Nat) % 16, by omega⟩) :=
  (blk10 m c t a l r hr).trans (V4_at m c (bOf r) (sOf r) r (by unfold bOf sOf; dsimp only; omega) l)

theorem row_sin (l : Fin 128) : (iblk m c 11 t : Vec Ideal S1024x128 .f32) (ix2 a l)
    = if (l : Nat) % 32 < 16 then -(sines m c (ix3 (bOf r) (sOf r) ⟨(l : Nat) % 16, by omega⟩)) else sines m c (ix3 (bOf r) (sOf r) ⟨(l : Nat) % 16, by omega⟩) :=
  (blk11 m c t a l r hr).trans (V9_at m c (bOf r) (sOf r) r (by unfold bOf sOf; dsimp only; omega) l)

theorem row_qr (j : Fin 1024) :
    out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 a j)
      = qrRow (proj (latQ (by decide) (cM m c r) (gqM m c)) (wqM m c)) (rotM m c r) j := by
  rw [out13_at, row_q m c t a r hr, row_cos m c t a r hr, row_sin m c t a r hr]
  unfold qrRow
  by_cases h : (j : Nat) % 128 < 64
  · have hA : proj (latQ (by decide) (cM m c r) (gqM m c)) (mat (iblk m c 6 t : Vec Ideal S384x1024 .bf16)) j
        = proj (latQ (by decide) (cM m c r) (gqM m c)) (wqM m c) ⟨(2 * ((j : Nat) / 128) + (j : Nat) % 128 / 32) * 96 + 64 + (j : Nat) % 32, by omega⟩ :=
      proj_congr _ _ (wqM m c) _ _ fun k => (blk6 m c t k j).trans ((V31_at m c k j).trans (dif_pos h))
    have hB : proj (latQ (by decide) (cM m c r) (gqM m c)) (mat (iblk m c 7 t : Vec Ideal S384x1024 .bf16)) j
        = proj (latQ (by decide) (cM m c r) (gqM m c)) (wqM m c) ⟨(2 * ((j : Nat) / 128) + (j : Nat) % 128 / 32) * 96 + 64 + ((j : Nat) % 32 + 16) % 32, by omega⟩ :=
      proj_congr _ _ (wqM m c) _ _ fun k => (blk7 m c t k j).trans ((V39_at m c k j).trans (dif_pos h))
    have e1 : (j : Nat) % 128 % 32 = (j : Nat) % 32 := by omega
    have e2 : (j : Nat) % 128 % 16 = (j : Nat) % 32 % 16 := by omega
    rw [dif_pos h, hA, hB]
    simp only [e1, e2]
    exact congrArg (· * sc) (rotated (fun d => proj (latQ (by decide) (cM m c r) (gqM m c)) (wqM m c) ⟨(2 * ((j : Nat) / 128) + (j : Nat) % 128 / 32) * 96 + 64 + d, by omega⟩) (fun d => (m ((c : Thread nD τ).loc main_arg7) : FVec Ideal S8x2048x16 .f32) (ix3 (bOf r) (sOf r) d)) (fun d => sines m c (ix3 (bOf r) (sOf r) d)) ⟨(j : Nat) % 32, by omega⟩ _ _ _ _ rfl rfl rfl rfl)
  · have hA : proj (latQ (by decide) (cM m c r) (gqM m c)) (mat (iblk m c 6 t : Vec Ideal S384x1024 .bf16)) j = 0 :=
      proj_zero _ _ _ fun k => (blk6 m c t k j).trans ((V31_at m c k j).trans (dif_neg h))
    have hB : proj (latQ (by decide) (cM m c r) (gqM m c)) (mat (iblk m c 7 t : Vec Ideal S384x1024 .bf16)) j = 0 :=
      proj_zero _ _ _ fun k => (blk7 m c t k j).trans ((V39_at m c k j).trans (dif_neg h))
    rw [dif_neg h, hA, hB, zero_mul, zero_mul, add_zero, zero_mul]

theorem row_kr (l : Fin 128) :
    out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 a l)
      = krRow (cM m c r) (rotM m c r) l := by
  rw [out15_at, row_a m c t a r hr, row_b m c t a r hr, row_cos m c t a r hr, row_sin m c t a r hr]
  unfold krRow
  by_cases h : (l : Nat) < 64
  · have e2 : (l : Nat) % 16 = (l : Nat) % 32 % 16 := by omega
    rw [if_pos h, if_pos h, if_pos h]
    simp only [e2]
    exact rotated (fun d => cM m c r ⟨640 + d, by omega⟩) (fun d => (m ((c : Thread nD τ).loc main_arg7) : FVec Ideal S8x2048x16 .f32) (ix3 (bOf r) (sOf r) d)) (fun d => sines m c (ix3 (bOf r) (sOf r) d)) ⟨(l : Nat) % 32, by omega⟩ _ _ _ _ rfl rfl rfl rfl
  · rw [if_neg h, if_neg h, if_neg h, zero_mul, zero_mul, add_zero]

end Rows

/-- Window 12's array after the run. -/
theorem final12 (c : Dev nD) : (dats m 0 c).arrAt 12 cfg0.N = G12 m c := by
  refine (dats m 0 c).arrAt_eq_of_covers 12 _ (by decide +kernel) fun t _ y => ?_
  blk_simp
  rw [after0_12]
  idx_vars y
  have ht := t_lt t
  have o := out12_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y0 y1
  have e : ((cfg0.win 12).blk t).view.emb (ix2 y0 y1) = (ix2 ⟨t.val * 1024 + y0, by omega⟩ y1 : S16384x1024.Idx) := by
    blk_ext [odx t]
  refine Eq.trans ?_ (congrArg (G12 m c) e.symm)
  refine Eq.trans o ?_
  rw [row_q m c t y0 ⟨t.val * 1024 + y0, by omega⟩ rfl]
  refine congrArg (· * sc) ?_
  exact proj_congr _ _ (wqM m c) _ _ fun k => (blk5 m c t k y1).trans (V25_at m c k y1)

/-- Window 13's array after the run. -/
theorem final13 (c : Dev nD) : (dats m 0 c).arrAt 13 cfg0.N = G13 m c := by
  refine (dats m 0 c).arrAt_eq_of_covers 13 _ (by decide +kernel) fun t _ y => ?_
  blk_simp
  rw [after0_13]
  idx_vars y
  have ht := t_lt t
  have e : ((cfg0.win 13).blk t).view.emb (ix2 y0 y1) = (ix2 ⟨t.val * 1024 + y0, by omega⟩ y1 : S16384x1024.Idx) := by
    blk_ext [odx t]
  refine Eq.trans ?_ (congrArg (G13 m c) e.symm)
  exact row_qr m c t y0 ⟨t.val * 1024 + y0, by omega⟩ rfl y1

/-- Window 14's array after the run. -/
theorem final14 (c : Dev nD) : (dats m 0 c).arrAt 14 cfg0.N = G14 m c := by
  refine (dats m 0 c).arrAt_eq_of_covers 14 _ (by decide +kernel) fun t _ y => ?_
  blk_simp
  rw [after0_14]
  idx_vars y
  have ht := t_lt t
  have o := out14_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y0 y1
  have e : ((cfg0.win 14).blk t).view.emb (ix2 y0 y1) = (ix2 ⟨t.val * 1024 + y0, by omega⟩ y1 : S16384x1024.Idx) := by
    blk_ext [odx t]
  refine Eq.trans ?_ (congrArg (G14 m c) e.symm)
  refine Eq.trans o ?_
  rw [row_k m c t y0 ⟨t.val * 1024 + y0, by omega⟩ rfl]
  exact proj_congr _ _ (wkM m c) _ _ fun k => (blk8 m c t k y1).trans (V43_at m c k y1)

/-- Window 15's array after the run. -/
theorem final15 (c : Dev nD) : (dats m 0 c).arrAt 15 cfg0.N = G15 m c := by
  refine (dats m 0 c).arrAt_eq_of_covers 15 _ (by decide +kernel) fun t _ y => ?_
  blk_simp
  rw [after0_15]
  idx_vars y
  have ht := t_lt t
  have e : ((cfg0.win 15).blk t).view.emb (ix2 y0 y1) = (ix2 ⟨t.val * 1024 + y0, by omega⟩ y1 : S16384x128.Idx) := by
    blk_ext [odx t]
  refine Eq.trans ?_ (congrArg (G15 m c) e.symm)
  exact row_kr m c t y0 ⟨t.val * 1024 + y0, by omega⟩ rfl y1

/-- Window 16's array after the run. -/
theorem final16 (c : Dev nD) : (dats m 0 c).arrAt 16 cfg0.N = G16 m c := by
  refine (dats m 0 c).arrAt_eq_of_covers 16 _ (by decide +kernel) fun t _ y => ?_
  blk_simp
  rw [after0_16]
  idx_vars y
  have ht := t_lt t
  have o := out16_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y0 y1
  have e : ((cfg0.win 16).blk t).view.emb (ix2 y0 y1) = (ix2 ⟨t.val * 1024 + y0, by omega⟩ y1 : S16384x1024.Idx) := by
    blk_ext [odx t]
  refine Eq.trans ?_ (congrArg (G16 m c) e.symm)
  refine Eq.trans o ?_
  rw [row_k m c t y0 ⟨t.val * 1024 + y0, by omega⟩ rfl]
  exact proj_congr _ _ (wkM m c) _ _ fun k => (blk9 m c t k y1).trans (V46_at m c k y1)

end Cert.Kernel5Ideal.Mla
-- ==== Proof.MlaRef.lean ====
/-
  The latent projections: the reference's results are the same functions of the arguments.
-/
module

public import proofs.«01_k».proof.Proof.MlaFinal
public import proofs.«01_k».proof.Proof.Gen.Reference5Ideal.Run

@[expose] public section

set_option maxRecDepth 16384

noncomputable section

open Idealize.ShloMosaic Idealize.ShloMosaic.TcCoe Idealize.SL.Sem
open Idealize.ShloMosaic.Pipeline (Dat)

namespace Cert.Reference5Ideal.Mla

open Cert.Reference5Ideal Cert.Reference5Ideal.Gen
open Cert.Kernel2Ideal.Mlp (rmsRow)
open Cert.Kernel4Ideal.Rwkv (proj mat)
open Cert.Kernel5Ideal.Mla (rmsN latQ latK sc rot rotA cA qA kvA bOf sOf qnRow qrRow krRow knRow vRow qnA qrA knA krA vA scale_eq)
open Cert.Reference2Ideal.Mlp (rms rms_at)

/-! ## The stages of the reference, at an index -/

/-- The tokens, normed and projected down. -/
def down (h : FVec Ideal S8x2048x1024 .f32) (gn : FVec Ideal S1024 .f32) (wd : FVec Ideal S1024x672 .f32) : FVec Ideal S8x2048x672 .f32 :=
  Host.dotGeneral dot_S8x2048x1024_S1024x672_S8x2048x672_2_0_01_1_n_n none (rms h gn) wd

/-- The latent queries' norm. -/
def normQ (x : FVec Ideal S8x2048x384 .f32) (g : FVec Ideal S384 .f32) : FVec Ideal S8x2048x384 .f32 :=
  mulf (mulf x (broadcastInDim S8x2048x384 ![0, 1, 2] bcast_S8x2048x1_S8x2048x384_0_1_2 (Host.rsqrt (addf (Host.divf (broadcastInDim S8x2048x1 ![0, 1] bcast_S8x2048_S8x2048x1_0_1 (Host.reduceAdd (mulf x x) (constant S_ .f32 0x00000000#32) reducesTo_S8x2048x384_S8x2048_d2 h_S_)) (broadcastInDim S8x2048x1 ![] bcast_S_S8x2048x1 (constant S_ .f32 0x43C00000#32))) (broadcastInDim S8x2048x1 ![] bcast_S_S8x2048x1 (constant S_ .f32 0x3727C5AC#32))))))
    (broadcastInDim S8x2048x384 ![0, 1, 2] bcast_S1x1x384_S8x2048x384_0_1_2 (broadcastInDim S1x1x384 ![2] bcast_S384_S1x1x384_2 g))

/-- The latent keys' and values' norm. -/
def normK (x : FVec Ideal S8x2048x256 .f32) (g : FVec Ideal S256 .f32) : FVec Ideal S8x2048x256 .f32 :=
  mulf (mulf x (broadcastInDim S8x2048x256 ![0, 1, 2] bcast_S8x2048x1_S8x2048x256_0_1_2 (Host.rsqrt (addf (Host.divf (broadcastInDim S8x2048x1 ![0, 1] bcast_S8x2048_S8x2048x1_0_1 (Host.reduceAdd (mulf x x) (constant S_ .f32 0x00000000#32) reducesTo_S8x2048x256_S8x2048_d2 h_S_)) (broadcastInDim S8x2048x1 ![] bcast_S_S8x2048x1 (constant S_ .f32 0x43800000#32))) (broadcastInDim S8x2048x1 ![] bcast_S_S8x2048x1 (constant S_ .f32 0x3727C5AC#32))))))
    (broadcastInDim S8x2048x256 ![0, 1, 2] bcast_S1x1x256_S8x2048x256_0_1_2 (broadcastInDim S1x1x256 ![2] bcast_S256_S1x1x256_2 g))

/-- The queries, head by head. -/
def heads (d : FVec Ideal S8x2048x672 .f32) (gq : FVec Ideal S384 .f32) (wuq : FVec Ideal S384x1536 .f32) : FVec Ideal S8x2048x16x96 .f32 :=
  shapeCast _ (Host.dotGeneral dot_S8x2048x384_S384x1536_S8x2048x1536_2_0_01_1_n_n none (normQ (extractStridedSlice S8x2048x384 ![0, 0, 0] d slices_S8x2048x672_S8x2048x384_0_0_0) gq) wuq) shapeCasts_S8x2048x1536_S8x2048x16x96

/-- The keys and values, head by head. -/
def headsKV (d : FVec Ideal S8x2048x672 .f32) (gkv : FVec Ideal S256 .f32) (wukv : FVec Ideal S256x2048 .f32) : FVec Ideal S8x2048x16x128 .f32 :=
  shapeCast _ (Host.dotGeneral dot_S8x2048x256_S256x2048_S8x2048x2048_2_0_01_1_n_n none (normK (extractStridedSlice S8x2048x256 ![0, 0, 384] d slices_S8x2048x672_S8x2048x256_0_0_384) gkv) wukv) shapeCasts_S8x2048x2048_S8x2048x16x128

/-- The scale. -/
def scl : FVec Ideal S_ .f32 := Host.divf (constant S_ .f32 0x3F800000#32) (mulf (Host.log (constant S_ .f32 0x40000000#32)) (Host.sqrt (constant S_ .f32 0x42C00000#32)))

/-- The queries that are not rotated. -/
def nopeQ (q : FVec Ideal S8x2048x16x96 .f32) : FVec Ideal S16384x1024 .bf16 :=
  truncf .bf16 (shapeCast _ (mulf (extractStridedSlice S8x2048x16x64 ![0, 0, 0, 0] q slices_S8x2048x16x96_S8x2048x16x64_0_0_0_0) (broadcastInDim S8x2048x16x64 ![] bcast_S_S8x2048x16x64 scl)) shapeCasts_S8x2048x16x64_S16384x1024) bitsLt_bf16_f32

/-- The keys that are not rotated, and the values. -/
def nopeK (kv : FVec Ideal S8x2048x16x128 .f32) : FVec Ideal S16384x1024 .bf16 :=
  truncf .bf16 (shapeCast _ (extractStridedSlice S8x2048x16x64 ![0, 0, 0, 0] kv slices_S8x2048x16x128_S8x2048x16x64_0_0_0_0) shapeCasts_S8x2048x16x64_S16384x1024) bitsLt_bf16_f32
def vals (kv : FVec Ideal S8x2048x16x128 .f32) : FVec Ideal S16384x1024 .bf16 :=
  truncf .bf16 (shapeCast _ (extractStridedSlice S8x2048x16x64 ![0, 0, 0, 64] kv slices_S8x2048x16x128_S8x2048x16x64_0_0_0_64) shapeCasts_S8x2048x16x64_S16384x1024) bitsLt_bf16_f32

/-- Angles held by every head. -/
def ang (x : FVec Ideal S8x2048x16 .f32) : FVec Ideal S8x2048x16x16 .f32 :=
  broadcastInDim S8x2048x16x16 ![0, 1, 2, 3] bcast_S8x2048x1x16_S8x2048x16x16_0_1_2_3 (broadcastInDim S8x2048x1x16 ![0, 1, 3] bcast_S8x2048x16_S8x2048x1x16_0_1_3 x)

/-- Every head's numbers, rotated. -/
def rotH (x : FVec Ideal S8x2048x16x32 .f32) (cos sin : FVec Ideal S8x2048x16 .f32) : FVec Ideal S8x2048x16x32 .f32 :=
  concatenate S8x2048x16x32 3
    [⟨S8x2048x16x16, (subf (mulf (extractStridedSlice S8x2048x16x16 ![0, 0, 0, 0] x slices_S8x2048x16x32_S8x2048x16x16_0_0_0_0) (ang cos)) (mulf (extractStridedSlice S8x2048x16x16 ![0, 0, 0, 16] x slices_S8x2048x16x32_S8x2048x16x16_0_0_0_16) (ang sin)))⟩,
     ⟨S8x2048x16x16, (addf (mulf (extractStridedSlice S8x2048x16x16 ![0, 0, 0, 0] x slices_S8x2048x16x32_S8x2048x16x16_0_0_0_0) (ang sin)) (mulf (extractStridedSlice S8x2048x16x16 ![0, 0, 0, 16] x slices_S8x2048x16x32_S8x2048x16x16_0_0_0_16) (ang cos)))⟩]
    concatenates_S8x2048x16x16_S8x2048x16x16_S8x2048x16x32_d3

/-- A token's numbers, rotated. -/
def rotT (x : FVec Ideal S8x2048x32 .f32) (cos sin : FVec Ideal S8x2048x16 .f32) : FVec Ideal S8x2048x32 .f32 :=
  concatenate S8x2048x32 2
    [⟨S8x2048x16, (subf (mulf (extractStridedSlice S8x2048x16 ![0, 0, 0] x slices_S8x2048x32_S8x2048x16_0_0_0) cos) (mulf (extractStridedSlice S8x2048x16 ![0, 0, 16] x slices_S8x2048x32_S8x2048x16_0_0_16) sin))⟩,
     ⟨S8x2048x16, (addf (mulf (extractStridedSlice S8x2048x16 ![0, 0, 0] x slices_S8x2048x32_S8x2048x16_0_0_0) sin) (mulf (extractStridedSlice S8x2048x16 ![0, 0, 16] x slices_S8x2048x32_S8x2048x16_0_0_16) cos))⟩]
    concatenates_S8x2048x16_S8x2048x16_S8x2048x32_d2

/-- The rotated queries of a head, before the rotation. -/
def ropeQ (q : FVec Ideal S8x2048x16x96 .f32) : FVec Ideal S8x2048x16x32 .f32 := extractStridedSlice S8x2048x16x32 ![0, 0, 0, 64] q slices_S8x2048x16x96_S8x2048x16x32_0_0_0_64

/-- The rotated keys, before the rotation. -/
def ropeK (d : FVec Ideal S8x2048x672 .f32) : FVec Ideal S8x2048x32 .f32 := extractStridedSlice S8x2048x32 ![0, 0, 640] d slices_S8x2048x672_S8x2048x32_0_0_640

/-- Two heads' rotated queries in 128 numbers, scaled. -/
def padQ (x : FVec Ideal S8x2048x16x32 .f32) : FVec Ideal S16384x1024 .bf16 :=
  truncf .bf16 (shapeCast _ (pad S8x2048x8x128 ![0, 0, 0, 0] ![0, 0, 0, 64] ![0, 0, 0, 0] (shapeCast _ (mulf x (broadcastInDim S8x2048x16x32 ![] bcast_S_S8x2048x16x32 scl)) shapeCasts_S8x2048x16x32_S8x2048x8x64) (sitofp .f32 (constantI S_ 32 0#32)) pads_S8x2048x8x64_S8x2048x8x128_000_000_000_0640 h_S_) shapeCasts_S8x2048x8x128_S16384x1024) bitsLt_bf16_f32

/-- The rotated key, twice, in 128 numbers. -/
def padK (x : FVec Ideal S8x2048x32 .f32) : FVec Ideal S16384x128 .bf16 :=
  truncf .bf16 (shapeCast _ (pad S8x2048x128 ![0, 0, 0] ![0, 0, 64] ![0, 0, 0] (concatenate S8x2048x64 2 [⟨S8x2048x32, x⟩, ⟨S8x2048x32, x⟩] concatenates_S8x2048x32_S8x2048x32_S8x2048x64_d2) (sitofp .f32 (constantI S_ 32 0#32)) pads_S8x2048x64_S8x2048x128_000_000_0640 h_S_) shapeCasts_S8x2048x128_S16384x128) bitsLt_bf16_f32

theorem zero_of_int : (FloatOps.sitofp (F := Ideal) FTy.f32 (0#32)) = (0 : EReal) := by
  simp [FloatOps.sitofp]

theorem scl_at : scl ix0 = sc := by
  rw [← scale_eq]
  pointwise [scl]
  simp [Cert.KernelIdeal.Attn.scale]

theorem down_at (h : FVec Ideal S8x2048x1024 .f32) (gn : FVec Ideal S1024 .f32) (wd : FVec Ideal S1024x672 .f32) (b : Fin 8) (s : Fin 2048) (c : Fin 672) :
    down h gn wd (ix3 b s c) = cA h gn wd b s c := by
  pointwise [down]
  simp only [rms_at]
  rfl

theorem normQ_at (x : FVec Ideal S8x2048x384 .f32) (g : FVec Ideal S384 .f32) (b : Fin 8) (s : Fin 2048) (c : Fin 384) :
    normQ x g (ix3 b s c) = rmsN (Ideal.ofBits .f32 0x43C00000#32) (fun k => x (ix3 b s k)) (fun k => g (ix1 k)) c := by
  pointwise [normQ]
  rfl

theorem normK_at (x : FVec Ideal S8x2048x256 .f32) (g : FVec Ideal S256 .f32) (b : Fin 8) (s : Fin 2048) (c : Fin 256) :
    normK x g (ix3 b s c) = rmsN (Ideal.ofBits .f32 0x43800000#32) (fun k => x (ix3 b s k)) (fun k => g (ix1 k)) c := by
  pointwise [normK]
  rfl

theorem heads_at (h : FVec Ideal S8x2048x1024 .f32) (gn : FVec Ideal S1024 .f32) (wd : FVec Ideal S1024x672 .f32) (gq : FVec Ideal S384 .f32) (wuq : FVec Ideal S384x1536 .f32) (b : Fin 8) (s : Fin 2048) (n : Fin 16) (d : Fin 96) :
    heads (down h gn wd) gq wuq (ix4 b s n d) = qA h gn wd gq wuq b s ⟨(n : Nat) * 96 + d, by omega⟩ := by
  pointwise [heads]
  simp only [normQ_at]
  pointwise
  simp only [down_at]
  rfl

theorem headsKV_at (h : FVec Ideal S8x2048x1024 .f32) (gn : FVec Ideal S1024 .f32) (wd : FVec Ideal S1024x672 .f32) (gkv : FVec Ideal S256 .f32) (wukv : FVec Ideal S256x2048 .f32) (b : Fin 8) (s : Fin 2048) (n : Fin 16) (d : Fin 128) :
    headsKV (down h gn wd) gkv wukv (ix4 b s n d) = kvA h gn wd gkv wukv b s ⟨(n : Nat) * 128 + d, by omega⟩ := by
  pointwise [headsKV]
  simp only [normK_at]
  pointwise
  simp only [down_at]
  rfl

theorem rotH_at (x : FVec Ideal S8x2048x16x32 .f32) (cos sin : FVec Ideal S8x2048x16 .f32) (b : Fin 8) (s : Fin 2048) (n : Fin 16) (d : Fin 32) :
    rotH x cos sin (ix4 b s n d) = rotA cos sin b s (fun d => x (ix4 b s n d)) d := by
  pointwise [rotH, ang]
  unfold rotA rot
  by_cases h : (d : Nat) < 16
  · rw [dif_pos h, dif_pos h]
    have e : (⟨16 + (d : Nat), by omega⟩ : Fin 32) = ⟨(d : Nat) + 16, by omega⟩ := Fin.ext (Nat.add_comm _ _)
    rw [e]
  · rw [dif_neg h, dif_neg h]
    have e : (⟨16 + ((d : Nat) - 16), by omega⟩ : Fin 32) = d := Fin.ext (by dsimp only; omega)
    rw [e]

theorem rotT_at (x : FVec Ideal S8x2048x32 .f32) (cos sin : FVec Ideal S8x2048x16 .f32) (b : Fin 8) (s : Fin 2048) (d : Fin 32) :
    rotT x cos sin (ix3 b s d) = rotA cos sin b s (fun d => x (ix3 b s d)) d := by
  pointwise [rotT]
  unfold rotA rot
  by_cases h : (d : Nat) < 16
  · rw [dif_pos h, dif_pos h]
    have e : (⟨16 + (d : Nat), by omega⟩ : Fin 32) = ⟨(d : Nat) + 16, by omega⟩ := Fin.ext (Nat.add_comm _ _)
    rw [e]
  · rw [dif_neg h, dif_neg h]
    have e : (⟨16 + ((d : Nat) - 16), by omega⟩ : Fin 32) = d := Fin.ext (by dsimp only; omega)
    rw [e]

theorem nopeQ_at (q : FVec Ideal S8x2048x16x96 .f32) (r : Fin 16384) (j : Fin 1024) :
    nopeQ q (ix2 r j) = q (ix4 (bOf r) (sOf r) ⟨(j : Nat) / 64, by omega⟩ ⟨(j : Nat) % 64, by omega⟩) * sc := by
  rw [← scl_at]
  pointwise [nopeQ, bOf, sOf]

theorem nopeK_at (kv : FVec Ideal S8x2048x16x128 .f32) (r : Fin 16384) (j : Fin 1024) :
    nopeK kv (ix2 r j) = kv (ix4 (bOf r) (sOf r) ⟨(j : Nat) / 64, by omega⟩ ⟨(j : Nat) % 64, by omega⟩)
    ∧ vals kv (ix2 r j) = kv (ix4 (bOf r) (sOf r) ⟨(j : Nat) / 64, by omega⟩ ⟨64 + (j : Nat) % 64, by omega⟩) := by
  constructor
  · pointwise [nopeK, bOf, sOf]
    done
  · pointwise [vals, bOf, sOf]
    done

set_option maxHeartbeats 1000000 in
theorem padQ_at (x : FVec Ideal S8x2048x16x32 .f32) (r : Fin 16384) (j : Fin 1024) :
    padQ x (ix2 r j) = if h : (j : Nat) % 128 < 64 then
      x (ix4 (bOf r) (sOf r) ⟨2 * ((j : Nat) / 128) + (j : Nat) % 128 / 32, by omega⟩ ⟨(j : Nat) % 32, by omega⟩) * sc else 0 := by
  rw [← scl_at]
  pointwise [padQ, bOf, sOf]
  by_cases h : (j : Nat) % 128 < 64
  · have e : (⟨(j : Nat) / 128 * 2 + (j : Nat) % 128 / 32, by omega⟩ : Fin 16) = ⟨2 * ((j : Nat) / 128) + (j : Nat) % 128 / 32, by omega⟩ := Fin.ext (by dsimp only; omega)
    have e' : (⟨(j : Nat) % 128 % 32, by omega⟩ : Fin 32) = ⟨(j : Nat) % 32, by omega⟩ := Fin.ext (by dsimp only; omega)
    have k : (r : Nat) / 2048 < 8 ∧ (r : Nat) % 2048 < 2048 ∧ (j : Nat) / 128 < 8 ∧ (j : Nat) % 128 < 64 := ⟨by omega, by omega, by omega, h⟩
    refine (dif_pos k).trans (Eq.trans ?_ (dif_pos h).symm)
    exact congrArg (· * scl ix0) (congrArg₂ (fun u v => x (ix4 (bOf r) (sOf r) u v)) e e')
  · have k : ¬ ((r : Nat) / 2048 < 8 ∧ (r : Nat) % 2048 < 2048 ∧ (j : Nat) / 128 < 8 ∧ (j : Nat) % 128 < 64) := fun k => h k.2.2.2
    refine (dif_neg k).trans ?_
    rw [dif_neg h]
    exact zero_of_int

set_option maxHeartbeats 1000000 in
theorem padK_at (x : FVec Ideal S8x2048x32 .f32) (r : Fin 16384) (l : Fin 128) :
    padK x (ix2 r l) = if (l : Nat) < 64 then x (ix3 (bOf r) (sOf r) ⟨(l : Nat) % 32, by omega⟩) else 0 := by
  pointwise [padK, bOf, sOf]
  by_cases h : (l : Nat) < 64
  · have k : (r : Nat) / 2048 < 8 ∧ (r : Nat) % 2048 < 2048 ∧ (l : Nat) < 64 := ⟨by omega, by omega, h⟩
    refine (dif_pos k).trans (Eq.trans ?_ (if_pos h).symm)
    by_cases h' : (l : Nat) < 32
    · have e : (⟨(l : Nat), h'⟩ : Fin 32) = ⟨(l : Nat) % 32, by omega⟩ := Fin.ext (by dsimp only; omega)
      exact (dif_pos h').trans (congrArg (fun u => x (ix3 (bOf r) (sOf r) u)) e)
    · have e : (⟨(l : Nat) - 32, by omega⟩ : Fin 32) = ⟨(l : Nat) % 32, by omega⟩ := Fin.ext (by dsimp only; omega)
      exact (dif_neg h').trans (congrArg (fun u => x (ix3 (bOf r) (sOf r) u)) e)
  · have k : ¬ ((r : Nat) / 2048 < 8 ∧ (r : Nat) % 2048 < 2048 ∧ (l : Nat) < 64) := fun k => h k.2.2
    exact (dif_neg k).trans (zero_of_int.trans (if_neg h).symm)

theorem ropeQ_at (q : FVec Ideal S8x2048x16x96 .f32) (b : Fin 8) (s : Fin 2048) (n : Fin 16) (d : Fin 32) : ropeQ q (ix4 b s n d) = q (ix4 b s n ⟨64 + d, by omega⟩) := by
  pointwise [ropeQ]
  done

theorem ropeK_at (x : FVec Ideal S8x2048x672 .f32) (b : Fin 8) (s : Fin 2048) (d : Fin 32) : ropeK x (ix3 b s d) = x (ix3 b s ⟨640 + d, by omega⟩) := by
  pointwise [ropeK]
  done

/-! ## The results -/

section Results
variable (h : FVec Ideal S8x2048x1024 .f32) (gn : FVec Ideal S1024 .f32) (wd : FVec Ideal S1024x672 .f32)

theorem qn_eq (gq : FVec Ideal S384 .f32) (wuq : FVec Ideal S384x1536 .f32) : nopeQ (heads (down h gn wd) gq wuq) = qnA h gn wd gq wuq := by
  funext i
  idx_vars i
  rw [nopeQ_at, heads_at]
  rfl

theorem qr_eq (gq : FVec Ideal S384 .f32) (wuq : FVec Ideal S384x1536 .f32) (cos sin : FVec Ideal S8x2048x16 .f32) :
    padQ (rotH (ropeQ (heads (down h gn wd) gq wuq)) cos sin) = qrA h gn wd gq wuq cos sin := by
  funext i
  idx_vars i
  rw [padQ_at]
  simp only [rotH_at, ropeQ_at, heads_at]
  simp only [← Nat.add_assoc]
  rfl

theorem kn_eq (gkv : FVec Ideal S256 .f32) (wukv : FVec Ideal S256x2048 .f32) : nopeK (headsKV (down h gn wd) gkv wukv) = knA h gn wd gkv wukv := by
  funext i
  idx_vars i
  rw [(nopeK_at _ _ _).1, headsKV_at]
  rfl

theorem kr_eq (cos sin : FVec Ideal S8x2048x16 .f32) : padK (rotT (ropeK (down h gn wd)) cos sin) = krA h gn wd cos sin := by
  funext i
  idx_vars i
  rw [padK_at]
  simp only [rotT_at, ropeK_at, down_at]
  rfl

theorem v_eq (gkv : FVec Ideal S256 .f32) (wukv : FVec Ideal S256x2048 .f32) : vals (headsKV (down h gn wd) gkv wukv) = vA h gn wd gkv wukv := by
  funext i
  idx_vars i
  rw [(nopeK_at _ _ _).2, headsKV_at]
  simp only [← Nat.add_assoc]
  rfl

end Results

end Cert.Reference5Ideal.Mla
-- ==== Proof.MlaClaims.lean ====
/-
  The claims about the latent projections, from their value lemmas.
-/
module

public import proofs.«01_k».proof.Proof.MlaRef
public import proofs.«01_k».proof.Proof.Gen.Kernel5.Frame
public import Idealize.ShloMosaic.Lib.Quiescent

@[expose] public section

noncomputable section

open Idealize.ShloMosaic Idealize.ShloMosaic.TcCoe Idealize.SL.Sem

namespace Cert.Proof.Mla

/-- The printed call runs to its end, quietly, and leaves its arguments unchanged. -/
theorem frame_k : Cert.quiescent_Kernel5 := fun m ρ _ => Cert.Kernel5.Gen.frame m ρ

/-- So does its idealization. -/
theorem frame_ki : Cert.quiescent_Kernel5Ideal := fun m ρ _ => Cert.Kernel5Ideal.Gen.frame m ρ

/-- So does the reference. -/
theorem frame_ri : Cert.quiescent_Reference5Ideal := fun m ρ _ =>
  (θ_run Cert.Reference5Ideal.defs _ _).mono (fun r h => ⟨fun c => (h c).2.2.2.2.2, sem_eq_zero_of_no_sems (by decide) r.2⟩)
    (Cert.Reference5Ideal.Value.run (F := Ideal) m ρ)

/-- The idealization named the softmax's scale. -/
theorem preserves : Cert.preserves_Kernel5_Kernel5Ideal :=
  IdealRules.named_const.statement Cert.Kernel5Ideal.κ "scale" .f32 0x3E16C740#32 _ rfl

/-- The kernel's results are the reference's: both are the same functions of arguments that agree. -/
theorem algebraic : Cert.algebraic_Kernel5Ideal_Reference5Ideal := by
  intro m ρ m' ρ' _ hag
  refine ⟨fun c => Cert.Kernel5Ideal.Mla.G12 m c, fun c => Cert.Kernel5Ideal.Mla.G13 m c, fun c => Cert.Kernel5Ideal.Mla.G14 m c, fun c => Cert.Kernel5Ideal.Mla.G15 m c, fun c => Cert.Kernel5Ideal.Mla.G16 m c, ?_, ?_⟩
  · refine (θ_run Cert.Kernel5Ideal.defs _ _).mono (fun r h c => ?_) (Cert.Kernel5Ideal.Value.run_blocks (F := Ideal) m ρ)
    obtain ⟨h0, h1, h2, h3, h4, hr⟩ := h c
    exact ⟨h0.trans (Cert.Kernel5Ideal.Mla.final12 m c), h1.trans (Cert.Kernel5Ideal.Mla.final13 m c), h2.trans (Cert.Kernel5Ideal.Mla.final14 m c), h3.trans (Cert.Kernel5Ideal.Mla.final15 m c), h4.trans (Cert.Kernel5Ideal.Mla.final16 m c), hr⟩
  · refine (θ_run Cert.Reference5Ideal.defs _ _).mono (fun r h c => ?_) (Cert.Reference5Ideal.Value.run (F := Ideal) m' ρ')
    obtain ⟨h0, h1, h2, h3, h4, hr⟩ := h c
    obtain ⟨e0, e1, e2, e3, e4, e5, e6, e7, e8⟩ := hag c
    refine ⟨h0.trans ?_, h1.trans ?_, h2.trans ?_, h3.trans ?_, h4.trans ?_, hr⟩
    · refine (Cert.Reference5Ideal.Mla.qn_eq (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4))).trans ?_
      rw [e0, e1, e2, e3, e4]
      rfl
    · refine (Cert.Reference5Ideal.Mla.qr_eq (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg7)) (m' ((c.tc : Thread Cert.Reference5Ideal.nD Cert.Reference5Ideal.τ).loc Cert.Reference5Ideal.main_arg8))).trans ?_
      rw [e0, e1, e2, e3, e4, e7, e8]
      rfl
    · refine (Cert.Reference5Ideal.Mla.kn_eq (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg5)) (m' ((c.tc : Thread Cert.Reference5Ideal.nD Cert.Reference5Ideal.τ).loc Cert.Reference5Ideal.main_arg6))).trans ?_
      rw [e0, e1, e2, e5, e6]
      rfl
    · refine (Cert.Reference5Ideal.Mla.kr_eq (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg7)) (m' ((c.tc : Thread Cert.Reference5Ideal.nD Cert.Reference5Ideal.τ).loc Cert.Reference5Ideal.main_arg8))).trans ?_
      rw [e0, e1, e2, e7, e8]
      rfl
    · refine (Cert.Reference5Ideal.Mla.v_eq (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg5)) (m' ((c.tc : Thread Cert.Reference5Ideal.nD Cert.Reference5Ideal.τ).loc Cert.Reference5Ideal.main_arg6))).trans ?_
      rw [e0, e1, e2, e5, e6]
      rfl

end Cert.Proof.Mla
-- ==== Proof.lean ====
/- The proof of the claims. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Kernel3Ideal
public import proofs.«01_k».proof.Proof.Gen.Reference3Ideal
public import proofs.«01_k».proof.Proof.Gen.Kernel4
public import proofs.«01_k».proof.Proof.Gen.Kernel4Ideal
public import proofs.«01_k».proof.Proof.Gen.Reference4Ideal
public import proofs.«01_k».proof.Proof.Gen.Kernel5
public import proofs.«01_k».proof.Proof.Gen.Kernel5Ideal
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal
public import proofs.«01_k».proof.Proof.Gen.Pre_finite
public import proofs.«01_k».proof.Proof.AttnClaims
public import proofs.«01_k».proof.Proof.Mlp3Claims
public import proofs.«01_k».proof.Proof.RwkvClaims
public import proofs.«01_k».proof.Proof.MlpClaims
public import proofs.«01_k».proof.Proof.MlaClaims

@[expose] public section

noncomputable section

namespace Cert.Proof

open Idealize.ShloMosaic Idealize.SL.Sem

/-- All claims hold. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts, Cert.Pre_finite.Gen.facts,
  Attn.frame_k, Attn.frame_ki, Attn.frame_ki_finite, Attn.frame_ri, Attn.frame_ri_finite, Mlp.frame_k, Mlp.frame_ki, Mlp.frame_ri, Mlp3.frame_k, Mlp3.frame_ki, Mlp3.frame_ri, Rwkv.frame_k, Rwkv.frame_ki, Rwkv.frame_ri, Mla.frame_k, Mla.frame_ki, Mla.frame_ri,
  Attn.preserves, Attn.algebraic, Mlp.preserves, Mlp.algebraic, Mlp3.preserves, Mlp3.algebraic, Rwkv.preserves, Rwkv.algebraic, Mla.preserves, Mla.algebraic⟩

end Cert.Proof
